-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_scales_fit [hPre_scales_fit : Cert.Pre_scales_fit.Facts] (m : (ℓ : Loc Cert.KernelIdeal.nD Cert.KernelIdeal.τ Cert.KernelIdeal.sig) → Buf (Elt Ideal) ℓ) : Prop :=
  ∀ c : Dev Cert.KernelIdeal.nD,
    (Cert.Pre_scales_fit.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_scales_fit.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.1 = (fun _ => 1#1)
    ∧ (Cert.Pre_scales_fit.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_scales_fit [hPre_scales_fit : Cert.Pre_scales_fit.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_scales_fit.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_scales_fit.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.1 = (fun _ => 1#1)
    ∧ (Cert.Pre_scales_fit.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_scales_fit [hKernelIdeal : Cert.KernelIdeal.Facts] [hPre_scales_fit : Cert.Pre_scales_fit.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_scales_fit m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_scales_fit [hReferenceIdeal : Cert.ReferenceIdeal.Facts] [hPre_scales_fit : Cert.Pre_scales_fit.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_scales_fit m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  IdealRules.named_const.Statement Cert.KernelIdeal.κ "score_factor" .f32 0x3AE7B46A#32 (((Real.sqrt 128)⁻¹ * (1 / 50) : ℝ) : EReal)
  ∧ IdealRules.named_const.Statement Cert.KernelIdeal.κ "cap_log2e" .f32 0x429044FE#32 ((50 * (Real.log 2)⁻¹ : ℝ) : EReal)

def algebraic_KernelIdeal_ReferenceIdeal_pre_scales_fit [hKernelIdeal : Cert.KernelIdeal.Facts] [hReferenceIdeal : Cert.ReferenceIdeal.Facts] [hPre_scales_fit : Cert.Pre_scales_fit.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_scales_fit m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_3)) (v4 : (c : Dev Cert.KernelIdeal.nD) → Buf (Elt Ideal) ((c.tc : Thread Cert.KernelIdeal.nD Cert.KernelIdeal.τ).loc Cert.KernelIdeal.main_v0_4)) (v5 : (c : Dev Cert.KernelIdeal.nD) → Buf (Elt Ideal) ((c.tc : Thread Cert.KernelIdeal.nD Cert.KernelIdeal.τ).loc Cert.KernelIdeal.main_v0_5)) (v6 : (c : Dev Cert.KernelIdeal.nD) → Buf (Elt Ideal) ((c.tc : Thread Cert.KernelIdeal.nD Cert.KernelIdeal.τ).loc Cert.KernelIdeal.main_v0_6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_v0_3) = v3 c
          ∧ r.2.mem ((c.tc : Thread Cert.KernelIdeal.nD Cert.KernelIdeal.τ).loc Cert.KernelIdeal.main_v0_4) = v4 c
          ∧ r.2.mem ((c.tc : Thread Cert.KernelIdeal.nD Cert.KernelIdeal.τ).loc Cert.KernelIdeal.main_v0_5) = v5 c
          ∧ r.2.mem ((c.tc : Thread Cert.KernelIdeal.nD Cert.KernelIdeal.τ).loc Cert.KernelIdeal.main_v0_6) = v6 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v147) = v0 c
          ∧ r.2.mem ((c.tc : Thread Cert.ReferenceIdeal.nD Cert.ReferenceIdeal.τ).loc Cert.ReferenceIdeal.main_v149) = v1 c
          ∧ r.2.mem ((c.tc : Thread Cert.ReferenceIdeal.nD Cert.ReferenceIdeal.τ).loc Cert.ReferenceIdeal.main_v151) = v2 c
          ∧ r.2.mem ((c.tc : Thread Cert.ReferenceIdeal.nD Cert.ReferenceIdeal.τ).loc Cert.ReferenceIdeal.main_v153) = v3 c
          ∧ r.2.mem ((c.tc : Thread Cert.ReferenceIdeal.nD Cert.ReferenceIdeal.τ).loc Cert.ReferenceIdeal.main_v155) = v4 c
          ∧ r.2.mem ((c.tc : Thread Cert.ReferenceIdeal.nD Cert.ReferenceIdeal.τ).loc Cert.ReferenceIdeal.main_v157) = v5 c
          ∧ r.2.mem ((c.tc : Thread Cert.ReferenceIdeal.nD Cert.ReferenceIdeal.τ).loc Cert.ReferenceIdeal.main_v159) = v6 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_scales_fit : Cert.Pre_scales_fit.Facts),
    quiescent_Kernel (hKernel := hKernel)
    ∧ quiescent_KernelIdeal (hKernelIdeal := hKernelIdeal)
    ∧ quiescent_KernelIdeal_pre_scales_fit (hKernelIdeal := hKernelIdeal) (hPre_scales_fit := hPre_scales_fit)
    ∧ quiescent_ReferenceIdeal (hReferenceIdeal := hReferenceIdeal)
    ∧ quiescent_ReferenceIdeal_pre_scales_fit (hReferenceIdeal := hReferenceIdeal) (hPre_scales_fit := hPre_scales_fit)
    ∧ preserves_Kernel_KernelIdeal
    ∧ algebraic_KernelIdeal_ReferenceIdeal_pre_scales_fit (hKernelIdeal := hKernelIdeal) (hReferenceIdeal := hReferenceIdeal) (hPre_scales_fit := hPre_scales_fit)
-- ==== Pre_scales_fit.lean ====
abbrev S4x16384x1024 : Shape := ⟨3, ![4, 16384, 1024]⟩
abbrev S4x16384x8x128 : Shape := ⟨4, ![4, 16384, 8, 128]⟩
abbrev S_ : Shape := ⟨0, ![]⟩
abbrev S4x16384x8 : Shape := ⟨3, ![4, 16384, 8]⟩

class Facts : Prop where
  bitsLt_bf16_f32 : FTy.bits .bf16 < FTy.bits .f32
  shapeCasts_S4x16384x1024_S4x16384x8x128 : S4x16384x1024.ShapeCasts S4x16384x8x128
  reducesTo_S4x16384x8x128_S4x16384x8_d3 : S4x16384x8x128.ReducesTo [3] S4x16384x8
  h_S_ : 0 < S_.numel
  bcast_S_S4x16384x8 : S_.BroadcastsInDim S4x16384x8 (![] : Fin 0 → Fin S4x16384x8.rank)

variable [Facts]

def fn_part1 {F : FTy → Type} [FloatOps F] (main_arg2 : FVec F S4x16384x1024 .bf16) (main_v11 : IVec S4x16384x8 1) (main_v15 : FVec F S4x16384x8 .f32) (main_v17 : IVec S4x16384x8 1) : IVec S4x16384x8 1 × IVec S4x16384x8 1 × IVec S4x16384x8 1 :=
  let main_cst_5 : FVec F S_ .f32 := constant S_ .f32 0x08800000#32
  let main_v18 : FVec F S4x16384x8 .f32 := broadcastInDim S4x16384x8 ![] bcast_S_S4x16384x8 main_cst_5
  let main_v19 : IVec S4x16384x8 1 := cmpf .oge main_v15 main_v18
  let main_cst_6 : FVec F S_ .f32 := constant S_ .f32 0x76800000#32
  let main_v20 : FVec F S4x16384x8 .f32 := broadcastInDim S4x16384x8 ![] bcast_S_S4x16384x8 main_cst_6
  let main_v21 : IVec S4x16384x8 1 := cmpf .ole main_v15 main_v20
  let main_v22 : IVec S4x16384x8 1 := andi main_v19 main_v21
  let main_v23 : IVec S4x16384x8 1 := ori main_v17 main_v22
  let main_v24 : FVec F S4x16384x1024 .f32 := (extf .f32 · bitsLt_bf16_f32) main_arg2
  let main_v25 : FVec F S4x16384x8x128 .f32 := shapeCast S4x16384x8x128 main_v24 shapeCasts_S4x16384x1024_S4x16384x8x128
  let main_v26 : FVec F S4x16384x8x128 .f32 := Host.absf main_v25
  let main_cst_7 : FVec F S_ .f32 := constant S_ .f32 0xFF800000#32
  let main_v27 : FVec F S4x16384x8 .f32 := (fun x v => Host.reduce FloatOps.maximumf x v reducesTo_S4x16384x8x128_S4x16384x8_d3 h_S_) main_v26 main_cst_7
  let main_cst_8 : FVec F S_ .f32 := constant S_ .f32 0x00000000#32
  let main_v28 : FVec F S4x16384x8 .f32 := broadcastInDim S4x16384x8 ![] bcast_S_S4x16384x8 main_cst_8
  let main_v29 : IVec S4x16384x8 1 := cmpf .oeq main_v27 main_v28
  let main_cst_9 : FVec F S_ .f32 := constant S_ .f32 0x26800000#32
  let main_v30 : FVec F S4x16384x8 .f32 := broadcastInDim S4x16384x8 ![] bcast_S_S4x16384x8 main_cst_9
  let main_v31 : IVec S4x16384x8 1 := cmpf .oge main_v27 main_v30
  let main_cst_10 : FVec F S_ .f32 := constant S_ .f32 0x58800000#32
  let main_v32 : FVec F S4x16384x8 .f32 := broadcastInDim S4x16384x8 ![] bcast_S_S4x16384x8 main_cst_10
  let main_v33 : IVec S4x16384x8 1 := cmpf .ole main_v27 main_v32
  let main_v34 : IVec S4x16384x8 1 := andi main_v31 main_v33
  let main_v35 : IVec S4x16384x8 1 := ori main_v29 main_v34
  (main_v11, main_v23, main_v35)

def fn {F : FTy → Type} [FloatOps F] (main_arg0 : FVec F S4x16384x1024 .bf16) (main_arg1 : FVec F S4x16384x1024 .bf16) (main_arg2 : FVec F S4x16384x1024 .bf16) : IVec S4x16384x8 1 × IVec S4x16384x8 1 × IVec S4x16384x8 1 :=
  let main_v0 : FVec F S4x16384x1024 .f32 := (extf .f32 · bitsLt_bf16_f32) main_arg0
  let main_v1 : FVec F S4x16384x8x128 .f32 := shapeCast S4x16384x8x128 main_v0 shapeCasts_S4x16384x1024_S4x16384x8x128
  let main_v2 : FVec F S4x16384x8x128 .f32 := Host.absf main_v1
  let main_cst : FVec F S_ .f32 := constant S_ .f32 0xFF800000#32
  let main_v3 : FVec F S4x16384x8 .f32 := (fun x v => Host.reduce FloatOps.maximumf x v reducesTo_S4x16384x8x128_S4x16384x8_d3 h_S_) main_v2 main_cst
  let main_cst_0 : FVec F S_ .f32 := constant S_ .f32 0x00000000#32
  let main_v4 : FVec F S4x16384x8 .f32 := broadcastInDim S4x16384x8 ![] bcast_S_S4x16384x8 main_cst_0
  let main_v5 : IVec S4x16384x8 1 := cmpf .oeq main_v3 main_v4
  let main_cst_1 : FVec F S_ .f32 := constant S_ .f32 0x08800000#32
  let main_v6 : FVec F S4x16384x8 .f32 := broadcastInDim S4x16384x8 ![] bcast_S_S4x16384x8 main_cst_1
  let main_v7 : IVec S4x16384x8 1 := cmpf .oge main_v3 main_v6
  let main_cst_2 : FVec F S_ .f32 := constant S_ .f32 0x76800000#32
  let main_v8 : FVec F S4x16384x8 .f32 := broadcastInDim S4x16384x8 ![] bcast_S_S4x16384x8 main_cst_2
  let main_v9 : IVec S4x16384x8 1 := cmpf .ole main_v3 main_v8
  let main_v10 : IVec S4x16384x8 1 := andi main_v7 main_v9
  let main_v11 : IVec S4x16384x8 1 := ori main_v5 main_v10
  let main_v12 : FVec F S4x16384x1024 .f32 := (extf .f32 · bitsLt_bf16_f32) main_arg1
  let main_v13 : FVec F S4x16384x8x128 .f32 := shapeCast S4x16384x8x128 main_v12 shapeCasts_S4x16384x1024_S4x16384x8x128
  let main_v14 : FVec F S4x16384x8x128 .f32 := Host.absf main_v13
  let main_cst_3 : FVec F S_ .f32 := constant S_ .f32 0xFF800000#32
  let main_v15 : FVec F S4x16384x8 .f32 := (fun x v => Host.reduce FloatOps.maximumf x v reducesTo_S4x16384x8x128_S4x16384x8_d3 h_S_) main_v14 main_cst_3
  let main_cst_4 : FVec F S_ .f32 := constant S_ .f32 0x00000000#32
  let main_v16 : FVec F S4x16384x8 .f32 := broadcastInDim S4x16384x8 ![] bcast_S_S4x16384x8 main_cst_4
  let main_v17 : IVec S4x16384x8 1 := cmpf .oeq main_v15 main_v16
  fn_part1 (F := F) main_arg2 main_v11 main_v15 main_v17
-- ==== Kernel.lean ====
abbrev S4x16384x1024 : Shape := ⟨3, ![4, 16384, 1024]⟩
abbrev S4x8x64x1x256 : Shape := ⟨5, ![4, 8, 64, 1, 256]⟩
abbrev S1x256x128 : Shape := ⟨3, ![1, 256, 128]⟩
abbrev S1x1x1x1x256 : Shape := ⟨5, ![1, 1, 1, 1, 256]⟩
abbrev S64x256x128 : Shape := ⟨3, ![64, 256, 128]⟩
abbrev S64x128x256 : Shape := ⟨3, ![64, 128, 256]⟩
abbrev S64x8x128 : Shape := ⟨3, ![64, 8, 128]⟩
abbrev S8x128 : Shape := ⟨2, ![8, 128]⟩
abbrev S64x256x256 : Shape := ⟨3, ![64, 256, 256]⟩
abbrev S256x128 : Shape := ⟨2, ![256, 128]⟩
abbrev S256 : Shape := ⟨1, ![256]⟩
abbrev S256x1 : Shape := ⟨2, ![256, 1]⟩
abbrev S128x256 : Shape := ⟨2, ![128, 256]⟩
abbrev S1x256 : Shape := ⟨2, ![1, 256]⟩
abbrev S1x128x256 : Shape := ⟨3, ![1, 128, 256]⟩
abbrev S32x8x128 : Shape := ⟨3, ![32, 8, 128]⟩
abbrev S128 : Shape := ⟨1, ![128]⟩
abbrev S1x128 : Shape := ⟨2, ![1, 128]⟩
abbrev S1x8x128 : Shape := ⟨3, ![1, 8, 128]⟩
abbrev S256x256 : Shape := ⟨2, ![256, 256]⟩
abbrev S1x256x256 : Shape := ⟨3, ![1, 256, 256]⟩

abbrev nBuf : Space → Nat
  | .hbm => 10
  | .vmem => 27
  | .smem => 0
  | _ => 0

abbrev bufTy : (tb : Table) → Fin (tcTables nBuf tb) → BufTy
  | .hbm, ⟨0, _⟩ => ⟨S4x16384x1024, .bf16⟩
  | .hbm, ⟨1, _⟩ => ⟨S4x16384x1024, .bf16⟩
  | .hbm, ⟨2, _⟩ => ⟨S4x16384x1024, .bf16⟩
  | .hbm, ⟨3, _⟩ => ⟨S4x16384x1024, .bf16⟩
  | .hbm, ⟨4, _⟩ => ⟨S4x16384x1024, .fp8e4m3⟩
  | .hbm, ⟨5, _⟩ => ⟨S4x8x64x1x256, .f32⟩
  | .hbm, ⟨6, _⟩ => ⟨S4x16384x1024, .fp8e4m3⟩
  | .hbm, ⟨7, _⟩ => ⟨S4x8x64x1x256, .f32⟩
  | .hbm, ⟨8, _⟩ => ⟨S4x16384x1024, .fp8e4m3⟩
  | .hbm, ⟨9, _⟩ => ⟨S4x8x64x1x256, .f32⟩
  | .local _ .vmem, ⟨0, _⟩ => ⟨S1x256x128, .bf16⟩
  | .local _ .vmem, ⟨1, _⟩ => ⟨S1x256x128, .bf16⟩
  | .local _ .vmem, ⟨2, _⟩ => ⟨S1x256x128, .bf16⟩
  | .local _ .vmem, ⟨3, _⟩ => ⟨S1x256x128, .bf16⟩
  | .local _ .vmem, ⟨4, _⟩ => ⟨S1x256x128, .bf16⟩
  | .local _ .vmem, ⟨5, _⟩ => ⟨S1x256x128, .bf16⟩
  | .local _ .vmem, ⟨6, _⟩ => ⟨S1x256x128, .bf16⟩
  | .local _ .vmem, ⟨7, _⟩ => ⟨S1x256x128, .bf16⟩
  | .local _ .vmem, ⟨8, _⟩ => ⟨S1x256x128, .fp8e4m3⟩
  | .local _ .vmem, ⟨9, _⟩ => ⟨S1x256x128, .fp8e4m3⟩
  | .local _ .vmem, ⟨10, _⟩ => ⟨S1x1x1x1x256, .f32⟩
  | .local _ .vmem, ⟨11, _⟩ => ⟨S1x1x1x1x256, .f32⟩
  | .local _ .vmem, ⟨12, _⟩ => ⟨S1x256x128, .fp8e4m3⟩
  | .local _ .vmem, ⟨13, _⟩ => ⟨S1x256x128, .fp8e4m3⟩
  | .local _ .vmem, ⟨14, _⟩ => ⟨S1x1x1x1x256, .f32⟩
  | .local _ .vmem, ⟨15, _⟩ => ⟨S1x1x1x1x256, .f32⟩
  | .local _ .vmem, ⟨16, _⟩ => ⟨S1x256x128, .fp8e4m3⟩
  | .local _ .vmem, ⟨17, _⟩ => ⟨S1x256x128, .fp8e4m3⟩
  | .local _ .vmem, ⟨18, _⟩ => ⟨S1x1x1x1x256, .f32⟩
  | .local _ .vmem, ⟨19, _⟩ => ⟨S1x1x1x1x256, .f32⟩
  | .local _ .vmem, ⟨20, _⟩ => ⟨S64x256x128, .fp8e4m3⟩
  | .local _ .vmem, ⟨21, _⟩ => ⟨S64x128x256, .fp8e4m3⟩
  | .local _ .vmem, ⟨22, _⟩ => ⟨S64x256x128, .f32⟩
  | .local _ .vmem, ⟨23, _⟩ => ⟨S64x256x128, .f32⟩
  | .local _ .vmem, ⟨24, _⟩ => ⟨S64x8x128, .f32⟩
  | .local _ .vmem, ⟨25, _⟩ => ⟨S8x128, .f32⟩
  | .local _ .vmem, ⟨26, _⟩ => ⟨S64x256x256, .f32⟩
  | _, _ => ⟨S4x16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v0_3 : Ref sig .tc := ⟨.hbm, 6, rfl⟩
abbrev main_v0_4 : Ref sig .tc := ⟨.hbm, 7, rfl⟩
abbrev main_v0_5 : Ref sig .tc := ⟨.hbm, 8, rfl⟩
abbrev main_v0_6 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_scratch0 : Ref sig .tc := ⟨.vmem, 20, rfl⟩
abbrev cc0_scratch1 : Ref sig .tc := ⟨.vmem, 21, rfl⟩
abbrev cc0_scratch2 : Ref sig .tc := ⟨.vmem, 22, rfl⟩
abbrev cc0_scratch3 : Ref sig .tc := ⟨.vmem, 23, rfl⟩
abbrev cc0_scratch4 : Ref sig .tc := ⟨.vmem, 24, rfl⟩
abbrev cc0_scratch5 : Ref sig .tc := ⟨.vmem, 25, rfl⟩
abbrev cc0_scratch6 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨3, ![4, 8, 64], ![false, false, false]⟩

def k0_off1 (i : grid0.Coords) : Fin 3 → Nat :=
  let arg2 : BitVec 32 := BitVec.ofNat 32 (i 2).val
  let v345 : Index := Scalar.indexCast arg2
  let c0_130 : Index := 0#32
  let c0_131 : Index := 0#32
  ![v345.toNat, 0, 0]
def k0_off2 (i : grid0.Coords) : Fin 3 → Nat :=
  let arg2 : BitVec 32 := BitVec.ofNat 32 (i 2).val
  let v352 : Index := Scalar.indexCast arg2
  let c0_132 : Index := 0#32
  let c0_133 : Index := 0#32
  ![v352.toNat, 0, 0]
def k0_off3 (i : grid0.Coords) : Fin 3 → Nat :=
  let arg2 : BitVec 32 := BitVec.ofNat 32 (i 2).val
  let v366 : Index := Scalar.indexCast arg2
  let c0_138 : Index := 0#32
  let c0_139 : Index := 0#32
  ![v366.toNat, 0, 0]
@[reducible] def k0_t1_loop (i : grid0.Coords) : Scf.Loop 32 :=
  let c0_i32_207 : BitVec 32 := 0#32
  let arg2 : BitVec 32 := BitVec.ofNat 32 (i 2).val
  let v549 : BitVec 32 := Scalar.subi arg2 c0_i32_207
  let c1_i32_208 : BitVec 32 := 1#32
  let v551 : BitVec 32 := Scalar.divsi v549 c1_i32_208
  let v552 : BitVec 32 := Scalar.muli v551 c1_i32_208
  let v553 : BitVec 32 := Scalar.addi c0_i32_207 v552
  let c1_i32_209 : BitVec 32 := 1#32
  ⟨c0_i32_207, v553, c1_i32_209⟩
def k0_off4 (i : grid0.Coords) (k0_t1 : Fin (k0_t1_loop i).trips) : Fin 3 → Nat :=
  let c0_i32_207 : BitVec 32 := 0#32
  let c1_i32_209 : BitVec 32 := 1#32
  let arg20 : BitVec 32 := Scf.iv c0_i32_207 c1_i32_209 k0_t1
  let v766 : Index := Scalar.indexCast arg20
  let c0_285 : Index := 0#32
  let c0_286 : Index := 0#32
  ![v766.toNat, 0, 0]
def k0_off5 (i : grid0.Coords) (k0_t1 : Fin (k0_t1_loop i).trips) : Fin 3 → Nat :=
  let c0_i32_207 : BitVec 32 := 0#32
  let c1_i32_209 : BitVec 32 := 1#32
  let arg20 : BitVec 32 := Scf.iv c0_i32_207 c1_i32_209 k0_t1
  let v776 : Index := Scalar.indexCast arg20
  let c0_292 : Index := 0#32
  let c0_293 : Index := 0#32
  ![v776.toNat, 0, 0]
def k0_off6 (i : grid0.Coords) (k0_t1 : Fin (k0_t1_loop i).trips) : Fin 3 → Nat :=
  let c0_i32_207 : BitVec 32 := 0#32
  let c1_i32_209 : BitVec 32 := 1#32
  let arg20 : BitVec 32 := Scf.iv c0_i32_207 c1_i32_209 k0_t1
  let v800 : Index := Scalar.indexCast arg20
  let c0_298 : Index := 0#32
  let c0_299 : Index := 0#32
  ![v800.toNat, 0, 0]
def k0_off7 (i : grid0.Coords) (k0_t1 : Fin (k0_t1_loop i).trips) : Fin 3 → Nat :=
  let c0_i32_207 : BitVec 32 := 0#32
  let c1_i32_209 : BitVec 32 := 1#32
  let arg20 : BitVec 32 := Scf.iv c0_i32_207 c1_i32_209 k0_t1
  let v824 : Index := Scalar.indexCast arg20
  let c0_304 : Index := 0#32
  let c128_305 : Index := 128#32
  ![v824.toNat, 0, 128]
@[reducible] def k0_t2_loop (i : grid0.Coords) : Scf.Loop 32 :=
  let c0_i32_207 : BitVec 32 := 0#32
  let arg2 : BitVec 32 := BitVec.ofNat 32 (i 2).val
  let v549 : BitVec 32 := Scalar.subi arg2 c0_i32_207
  let c1_i32_208 : BitVec 32 := 1#32
  let v551 : BitVec 32 := Scalar.divsi v549 c1_i32_208
  let v552 : BitVec 32 := Scalar.muli v551 c1_i32_208
  let v553 : BitVec 32 := Scalar.addi c0_i32_207 v552
  let v550 : BitVec 32 := Scalar.addi c0_i32_207 v549
  let c1_i32_210 : BitVec 32 := 1#32
  ⟨v553, v550, c1_i32_210⟩
def k0_off8 (i : grid0.Coords) (k0_t2 : Fin (k0_t2_loop i).trips) : Fin 3 → Nat :=
  let c0_i32_207 : BitVec 32 := 0#32
  let arg2 : BitVec 32 := BitVec.ofNat 32 (i 2).val
  let v549 : BitVec 32 := Scalar.subi arg2 c0_i32_207
  let c1_i32_208 : BitVec 32 := 1#32
  let v551 : BitVec 32 := Scalar.divsi v549 c1_i32_208
  let v552 : BitVec 32 := Scalar.muli v551 c1_i32_208
  let v553 : BitVec 32 := Scalar.addi c0_i32_207 v552
  let c1_i32_210 : BitVec 32 := 1#32
  let arg20 : BitVec 32 := Scf.iv v553 c1_i32_210 k0_t2
  let v766 : Index := Scalar.indexCast arg20
  let c0_285 : Index := 0#32
  let c0_286 : Index := 0#32
  ![v766.toNat, 0, 0]
def k0_off9 (i : grid0.Coords) (k0_t2 : Fin (k0_t2_loop i).trips) : Fin 3 → Nat :=
  let c0_i32_207 : BitVec 32 := 0#32
  let arg2 : BitVec 32 := BitVec.ofNat 32 (i 2).val
  let v549 : BitVec 32 := Scalar.subi arg2 c0_i32_207
  let c1_i32_208 : BitVec 32 := 1#32
  let v551 : BitVec 32 := Scalar.divsi v549 c1_i32_208
  let v552 : BitVec 32 := Scalar.muli v551 c1_i32_208
  let v553 : BitVec 32 := Scalar.addi c0_i32_207 v552
  let c1_i32_210 : BitVec 32 := 1#32
  let arg20 : BitVec 32 := Scf.iv v553 c1_i32_210 k0_t2
  let v776 : Index := Scalar.indexCast arg20
  let c0_292 : Index := 0#32
  let c0_293 : Index := 0#32
  ![v776.toNat, 0, 0]
def k0_off10 (i : grid0.Coords) (k0_t2 : Fin (k0_t2_loop i).trips) : Fin 3 → Nat :=
  let c0_i32_207 : BitVec 32 := 0#32
  let arg2 : BitVec 32 := BitVec.ofNat 32 (i 2).val
  let v549 : BitVec 32 := Scalar.subi arg2 c0_i32_207
  let c1_i32_208 : BitVec 32 := 1#32
  let v551 : BitVec 32 := Scalar.divsi v549 c1_i32_208
  let v552 : BitVec 32 := Scalar.muli v551 c1_i32_208
  let v553 : BitVec 32 := Scalar.addi c0_i32_207 v552
  let c1_i32_210 : BitVec 32 := 1#32
  let arg20 : BitVec 32 := Scf.iv v553 c1_i32_210 k0_t2
  let v800 : Index := Scalar.indexCast arg20
  let c0_298 : Index := 0#32
  let c0_299 : Index := 0#32
  ![v800.toNat, 0, 0]
def k0_off11 (i : grid0.Coords) (k0_t2 : Fin (k0_t2_loop i).trips) : Fin 3 → Nat :=
  let c0_i32_207 : BitVec 32 := 0#32
  let arg2 : BitVec 32 := BitVec.ofNat 32 (i 2).val
  let v549 : BitVec 32 := Scalar.subi arg2 c0_i32_207
  let c1_i32_208 : BitVec 32 := 1#32
  let v551 : BitVec 32 := Scalar.divsi v549 c1_i32_208
  let v552 : BitVec 32 := Scalar.muli v551 c1_i32_208
  let v553 : BitVec 32 := Scalar.addi c0_i32_207 v552
  let c1_i32_210 : BitVec 32 := 1#32
  let arg20 : BitVec 32 := Scf.iv v553 c1_i32_210 k0_t2
  let v824 : Index := Scalar.indexCast arg20
  let c0_304 : Index := 0#32
  let c128_305 : Index := 128#32
  ![v824.toNat, 0, 128]
def k0_off12 (i : grid0.Coords) : Fin 3 → Nat :=
  let arg2 : BitVec 32 := BitVec.ofNat 32 (i 2).val
  let v597 : Index := Scalar.indexCast arg2
  let c0_226 : Index := 0#32
  let c0_227 : Index := 0#32
  ![v597.toNat, 0, 0]
def k0_off13 (i : grid0.Coords) : Fin 3 → Nat :=
  let arg2 : BitVec 32 := BitVec.ofNat 32 (i 2).val
  let v628 : Index := Scalar.indexCast arg2
  let c0_234 : Index := 0#32
  let c128 : Index := 128#32
  ![v628.toNat, 0, 128]
@[reducible] def k0_t3_loop (i : grid0.Coords) : Scf.Loop 32 :=
  let c0_i32_276 : BitVec 32 := 0#32
  let arg2 : BitVec 32 := BitVec.ofNat 32 (i 2).val
  let c1_i32_274 : BitVec 32 := 1#32
  let v739 : BitVec 32 := Scalar.addi arg2 c1_i32_274
  let v741 : BitVec 32 := Scalar.subi v739 c0_i32_276
  let c1_i32_277 : BitVec 32 := 1#32
  let v743 : BitVec 32 := Scalar.divsi v741 c1_i32_277
  let v744 : BitVec 32 := Scalar.muli v743 c1_i32_277
  let v745 : BitVec 32 := Scalar.addi c0_i32_276 v744
  let c1_i32_278 : BitVec 32 := 1#32
  ⟨c0_i32_276, v745, c1_i32_278⟩
def k0_off14 (i : grid0.Coords) (k0_t3 : Fin (k0_t3_loop i).trips) : Fin 3 → Nat :=
  let c0_i32_276 : BitVec 32 := 0#32
  let c1_i32_278 : BitVec 32 := 1#32
  let arg20 : BitVec 32 := Scf.iv c0_i32_276 c1_i32_278 k0_t3
  let v766 : Index := Scalar.indexCast arg20
  let c0_285 : Index := 0#32
  let c0_286 : Index := 0#32
  ![v766.toNat, 0, 0]
def k0_off15 (i : grid0.Coords) (k0_t3 : Fin (k0_t3_loop i).trips) : Fin 3 → Nat :=
  let c0_i32_276 : BitVec 32 := 0#32
  let c1_i32_278 : BitVec 32 := 1#32
  let arg20 : BitVec 32 := Scf.iv c0_i32_276 c1_i32_278 k0_t3
  let v773 : Index := Scalar.indexCast arg20
  let c0_287 : Index := 0#32
  let c0_288 : Index := 0#32
  ![v773.toNat, 0, 0]
def k0_off16 (i : grid0.Coords) (k0_t3 : Fin (k0_t3_loop i).trips) : Fin 3 → Nat :=
  let c0_i32_276 : BitVec 32 := 0#32
  let c1_i32_278 : BitVec 32 := 1#32
  let arg20 : BitVec 32 := Scf.iv c0_i32_276 c1_i32_278 k0_t3
  let v783 : Index := Scalar.indexCast arg20
  let c0_291 : Index := 0#32
  let c0_292 : Index := 0#32
  ![v783.toNat, 0, 0]
@[reducible] def k0_t4_loop (i : grid0.Coords) : Scf.Loop 32 :=
  let c0_i32_276 : BitVec 32 := 0#32
  let arg2 : BitVec 32 := BitVec.ofNat 32 (i 2).val
  let c1_i32_274 : BitVec 32 := 1#32
  let v739 : BitVec 32 := Scalar.addi arg2 c1_i32_274
  let v741 : BitVec 32 := Scalar.subi v739 c0_i32_276
  let c1_i32_277 : BitVec 32 := 1#32
  let v743 : BitVec 32 := Scalar.divsi v741 c1_i32_277
  let v744 : BitVec 32 := Scalar.muli v743 c1_i32_277
  let v745 : BitVec 32 := Scalar.addi c0_i32_276 v744
  let v742 : BitVec 32 := Scalar.addi c0_i32_276 v741
  let c1_i32_279 : BitVec 32 := 1#32
  ⟨v745, v742, c1_i32_279⟩
def k0_off17 (i : grid0.Coords) (k0_t4 : Fin (k0_t4_loop i).trips) : Fin 3 → Nat :=
  let c0_i32_276 : BitVec 32 := 0#32
  let arg2 : BitVec 32 := BitVec.ofNat 32 (i 2).val
  let c1_i32_274 : BitVec 32 := 1#32
  let v739 : BitVec 32 := Scalar.addi arg2 c1_i32_274
  let v741 : BitVec 32 := Scalar.subi v739 c0_i32_276
  let c1_i32_277 : BitVec 32 := 1#32
  let v743 : BitVec 32 := Scalar.divsi v741 c1_i32_277
  let v744 : BitVec 32 := Scalar.muli v743 c1_i32_277
  let v745 : BitVec 32 := Scalar.addi c0_i32_276 v744
  let c1_i32_279 : BitVec 32 := 1#32
  let arg20 : BitVec 32 := Scf.iv v745 c1_i32_279 k0_t4
  let v766 : Index := Scalar.indexCast arg20
  let c0_285 : Index := 0#32
  let c0_286 : Index := 0#32
  ![v766.toNat, 0, 0]
def k0_off18 (i : grid0.Coords) (k0_t4 : Fin (k0_t4_loop i).trips) : Fin 3 → Nat :=
  let c0_i32_276 : BitVec 32 := 0#32
  let arg2 : BitVec 32 := BitVec.ofNat 32 (i 2).val
  let c1_i32_274 : BitVec 32 := 1#32
  let v739 : BitVec 32 := Scalar.addi arg2 c1_i32_274
  let v741 : BitVec 32 := Scalar.subi v739 c0_i32_276
  let c1_i32_277 : BitVec 32 := 1#32
  let v743 : BitVec 32 := Scalar.divsi v741 c1_i32_277
  let v744 : BitVec 32 := Scalar.muli v743 c1_i32_277
  let v745 : BitVec 32 := Scalar.addi c0_i32_276 v744
  let c1_i32_279 : BitVec 32 := 1#32
  let arg20 : BitVec 32 := Scf.iv v745 c1_i32_279 k0_t4
  let v773 : Index := Scalar.indexCast arg20
  let c0_287 : Index := 0#32
  let c0_288 : Index := 0#32
  ![v773.toNat, 0, 0]
def k0_off19 (i : grid0.Coords) (k0_t4 : Fin (k0_t4_loop i).trips) : Fin 3 → Nat :=
  let c0_i32_276 : BitVec 32 := 0#32
  let arg2 : BitVec 32 := BitVec.ofNat 32 (i 2).val
  let c1_i32_274 : BitVec 32 := 1#32
  let v739 : BitVec 32 := Scalar.addi arg2 c1_i32_274
  let v741 : BitVec 32 := Scalar.subi v739 c0_i32_276
  let c1_i32_277 : BitVec 32 := 1#32
  let v743 : BitVec 32 := Scalar.divsi v741 c1_i32_277
  let v744 : BitVec 32 := Scalar.muli v743 c1_i32_277
  let v745 : BitVec 32 := Scalar.addi c0_i32_276 v744
  let c1_i32_279 : BitVec 32 := 1#32
  let arg20 : BitVec 32 := Scf.iv v745 c1_i32_279 k0_t4
  let v783 : Index := Scalar.indexCast arg20
  let c0_291 : Index := 0#32
  let c0_292 : Index := 0#32
  ![v783.toNat, 0, 0]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_5 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, arg2.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_7 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, arg2.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_9 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, arg2.toNat, c0_i32.toNat, c0_i32_0.toNat]

abbrev stage0_0 : Fin 2 → Memref sig .tc .vmem S1x256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x256x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x256x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x256x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x256x128 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x1x1x1x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x256x128 .fp8e4m3 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1x1x1x1x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S1x256x128 .fp8e4m3 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]

abbrev stage0_9 : Fin 2 → Memref sig .tc .vmem S1x1x1x1x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, true]
-- ==== KernelIdeal.lean ====
variable {F : FTy → Type} [FloatOps F] [Named F]
def κ : String → Option EReal := fun
  | "cap_log2e" => some ((50 * (Real.log 2)⁻¹ : ℝ) : EReal)
  | "score_factor" => some (((Real.sqrt 128)⁻¹ * (1 / 50) : ℝ) : EReal)
  | _ => none
-- ==== ReferenceIdeal.lean ====
abbrev S4x16384x1024 : Shape := ⟨3, ![4, 16384, 1024]⟩
abbrev S4x16384x8x128 : Shape := ⟨4, ![4, 16384, 8, 128]⟩
abbrev S_ : Shape := ⟨0, ![]⟩
abbrev S4x16384x8 : Shape := ⟨3, ![4, 16384, 8]⟩
abbrev S4x16384x8x1 : Shape := ⟨4, ![4, 16384, 8, 1]⟩
abbrev S4x8x16384x16384 : Shape := ⟨4, ![4, 8, 16384, 16384]⟩
abbrev S4x8x16384 : Shape := ⟨3, ![4, 8, 16384]⟩
abbrev S4x8x16384x1 : Shape := ⟨4, ![4, 8, 16384, 1]⟩
abbrev S4x8x1x16384 : Shape := ⟨4, ![4, 8, 1, 16384]⟩
abbrev S16384 : Shape := ⟨1, ![16384]⟩
abbrev S1x16384 : Shape := ⟨2, ![1, 16384]⟩
abbrev S16384x1 : Shape := ⟨2, ![16384, 1]⟩
abbrev S16384x16384 : Shape := ⟨2, ![16384, 16384]⟩
abbrev S1x1x16384x16384 : Shape := ⟨4, ![1, 1, 16384, 16384]⟩
abbrev S4x8x16384x128 : Shape := ⟨4, ![4, 8, 16384, 128]⟩
abbrev S4x8x64x1x256 : Shape := ⟨5, ![4, 8, 64, 1, 256]⟩

abbrev nBuf : Space → Nat
  | .hbm => 240
  | .vmem => 0
  | .smem => 0
  | _ => 0

abbrev hbmTy0_0 (i : Nat) : BufTy := match i % 128 with
  | 0 => ⟨S4x16384x1024, .bf16⟩
  | 1 => ⟨S4x16384x1024, .bf16⟩
  | 2 => ⟨S4x16384x1024, .bf16⟩
  | 3 => ⟨S4x16384x1024, .f32⟩
  | 4 => ⟨S4x16384x8x128, .f32⟩
  | 5 => ⟨S4x16384x8x128, .f32⟩
  | 6 => ⟨S_, .f32⟩
  | 7 => ⟨S4x16384x8, .f32⟩
  | 8 => ⟨S4x16384x8x1, .f32⟩
  | 9 => ⟨S_, .f32⟩
  | 10 => ⟨S4x16384x8x1, .f32⟩
  | 11 => ⟨S4x16384x8x1, .f32⟩
  | 12 => ⟨S_, .f32⟩
  | 13 => ⟨S4x16384x8x1, .f32⟩
  | 14 => ⟨S4x16384x8x1, .i1⟩
  | 15 => ⟨S4x16384x8x1, .f32⟩
  | 16 => ⟨S_, .f32⟩
  | 17 => ⟨S_, .f32⟩
  | 18 => ⟨S4x16384x8x1, .f32⟩
  | 19 => ⟨S4x16384x8x1, .f32⟩
  | 20 => ⟨S4x16384x8x1, .f32⟩
  | 21 => ⟨S_, .f32⟩
  | 22 => ⟨S4x16384x8x1, .f32⟩
  | 23 => ⟨S4x16384x8x1, .f32⟩
  | 24 => ⟨S_, .f32⟩
  | 25 => ⟨S_, .f32⟩
  | 26 => ⟨S4x16384x8x1, .f32⟩
  | 27 => ⟨S4x16384x8x1, .f32⟩
  | 28 => ⟨S4x16384x8x1, .f32⟩
  | 29 => ⟨S_, .f32⟩
  | 30 => ⟨S4x16384x8x1, .f32⟩
  | 31 => ⟨S4x16384x8x1, .f32⟩
  | 32 => ⟨S4x16384x8x128, .f32⟩
  | 33 => ⟨S4x16384x8x128, .f32⟩
  | 34 => ⟨S_, .f32⟩
  | 35 => ⟨S_, .f32⟩
  | 36 => ⟨S_, .f32⟩
  | 37 => ⟨S4x16384x8x128, .f32⟩
  | 38 => ⟨S4x16384x8x128, .f32⟩
  | 39 => ⟨S_, .f32⟩
  | 40 => ⟨S4x16384x8x128, .f32⟩
  | 41 => ⟨S4x16384x8x128, .f32⟩
  | 42 => ⟨S_, .f32⟩
  | 43 => ⟨S4x16384x8x1, .f32⟩
  | 44 => ⟨S4x16384x8x1, .f32⟩
  | 45 => ⟨S4x16384x8, .f32⟩
  | 46 => ⟨S4x16384x1024, .f32⟩
  | 47 => ⟨S4x16384x8x128, .f32⟩
  | 48 => ⟨S4x16384x8x128, .f32⟩
  | 49 => ⟨S_, .f32⟩
  | 50 => ⟨S4x16384x8, .f32⟩
  | 51 => ⟨S4x16384x8x1, .f32⟩
  | 52 => ⟨S_, .f32⟩
  | 53 => ⟨S4x16384x8x1, .f32⟩
  | 54 => ⟨S4x16384x8x1, .f32⟩
  | 55 => ⟨S_, .f32⟩
  | 56 => ⟨S4x16384x8x1, .f32⟩
  | 57 => ⟨S4x16384x8x1, .i1⟩
  | 58 => ⟨S4x16384x8x1, .f32⟩
  | 59 => ⟨S_, .f32⟩
  | 60 => ⟨S_, .f32⟩
  | 61 => ⟨S4x16384x8x1, .f32⟩
  | 62 => ⟨S4x16384x8x1, .f32⟩
  | 63 => ⟨S4x16384x8x1, .f32⟩
  | 64 => ⟨S_, .f32⟩
  | 65 => ⟨S4x16384x8x1, .f32⟩
  | 66 => ⟨S4x16384x8x1, .f32⟩
  | 67 => ⟨S_, .f32⟩
  | 68 => ⟨S_, .f32⟩
  | 69 => ⟨S4x16384x8x1, .f32⟩
  | 70 => ⟨S4x16384x8x1, .f32⟩
  | 71 => ⟨S4x16384x8x1, .f32⟩
  | 72 => ⟨S_, .f32⟩
  | 73 => ⟨S4x16384x8x1, .f32⟩
  | 74 => ⟨S4x16384x8x1, .f32⟩
  | 75 => ⟨S4x16384x8x128, .f32⟩
  | 76 => ⟨S4x16384x8x128, .f32⟩
  | 77 => ⟨S_, .f32⟩
  | 78 => ⟨S_, .f32⟩
  | 79 => ⟨S_, .f32⟩
  | 80 => ⟨S4x16384x8x128, .f32⟩
  | 81 => ⟨S4x16384x8x128, .f32⟩
  | 82 => ⟨S_, .f32⟩
  | 83 => ⟨S4x16384x8x128, .f32⟩
  | 84 => ⟨S4x16384x8x128, .f32⟩
  | 85 => ⟨S_, .f32⟩
  | 86 => ⟨S4x16384x8x1, .f32⟩
  | 87 => ⟨S4x16384x8x1, .f32⟩
  | 88 => ⟨S4x16384x8, .f32⟩
  | 89 => ⟨S4x16384x1024, .f32⟩
  | 90 => ⟨S4x16384x8x128, .f32⟩
  | 91 => ⟨S4x16384x8x128, .f32⟩
  | 92 => ⟨S_, .f32⟩
  | 93 => ⟨S4x16384x8, .f32⟩
  | 94 => ⟨S4x16384x8x1, .f32⟩
  | 95 => ⟨S_, .f32⟩
  | 96 => ⟨S4x16384x8x1, .f32⟩
  | 97 => ⟨S4x16384x8x1, .f32⟩
  | 98 => ⟨S_, .f32⟩
  | 99 => ⟨S4x16384x8x1, .f32⟩
  | 100 => ⟨S4x16384x8x1, .i1⟩
  | 101 => ⟨S4x16384x8x1, .f32⟩
  | 102 => ⟨S_, .f32⟩
  | 103 => ⟨S_, .f32⟩
  | 104 => ⟨S4x16384x8x1, .f32⟩
  | 105 => ⟨S4x16384x8x1, .f32⟩
  | 106 => ⟨S4x16384x8x1, .f32⟩
  | 107 => ⟨S_, .f32⟩
  | 108 => ⟨S4x16384x8x1, .f32⟩
  | 109 => ⟨S4x16384x8x1, .f32⟩
  | 110 => ⟨S_, .f32⟩
  | 111 => ⟨S_, .f32⟩
  | 112 => ⟨S4x16384x8x1, .f32⟩
  | 113 => ⟨S4x16384x8x1, .f32⟩
  | 114 => ⟨S4x16384x8x1, .f32⟩
  | 115 => ⟨S_, .f32⟩
  | 116 => ⟨S4x16384x8x1, .f32⟩
  | 117 => ⟨S4x16384x8x1, .f32⟩
  | 118 => ⟨S4x16384x8x128, .f32⟩
  | 119 => ⟨S4x16384x8x128, .f32⟩
  | 120 => ⟨S_, .f32⟩
  | 121 => ⟨S_, .f32⟩
  | 122 => ⟨S_, .f32⟩
  | 123 => ⟨S4x16384x8x128, .f32⟩
  | 124 => ⟨S4x16384x8x128, .f32⟩
  | 125 => ⟨S_, .f32⟩
  | 126 => ⟨S4x16384x8x128, .f32⟩
  | 127 => ⟨S4x16384x8x128, .f32⟩
  | _ => ⟨S4x16384x1024, .bf16⟩

abbrev hbmTy0_1 (i : Nat) : BufTy := match i % 128 with
  | 0 => ⟨S_, .f32⟩
  | 1 => ⟨S4x16384x8x1, .f32⟩
  | 2 => ⟨S4x16384x8x1, .f32⟩
  | 3 => ⟨S4x16384x8, .f32⟩
  | 4 => ⟨S4x8x16384x16384, .f32⟩
  | 5 => ⟨S4x8x16384, .f32⟩
  | 6 => ⟨S4x8x16384x1, .f32⟩
  | 7 => ⟨S4x8x16384x16384, .f32⟩
  | 8 => ⟨S4x8x16384x16384, .f32⟩
  | 9 => ⟨S4x8x16384, .f32⟩
  | 10 => ⟨S4x8x1x16384, .f32⟩
  | 11 => ⟨S4x8x16384x16384, .f32⟩
  | 12 => ⟨S4x8x16384x16384, .f32⟩
  | 13 => ⟨S_, .f32⟩
  | 14 => ⟨S_, .f32⟩
  | 15 => ⟨S4x8x16384x16384, .f32⟩
  | 16 => ⟨S4x8x16384x16384, .f32⟩
  | 17 => ⟨S_, .f32⟩
  | 18 => ⟨S4x8x16384x16384, .f32⟩
  | 19 => ⟨S4x8x16384x16384, .f32⟩
  | 20 => ⟨S4x8x16384x16384, .f32⟩
  | 21 => ⟨S_, .f32⟩
  | 22 => ⟨S4x8x16384x16384, .f32⟩
  | 23 => ⟨S4x8x16384x16384, .f32⟩
  | 24 => ⟨S16384, .i32⟩
  | 25 => ⟨S1x16384, .i32⟩
  | 26 => ⟨S16384, .i32⟩
  | 27 => ⟨S16384x1, .i32⟩
  | 28 => ⟨S16384x16384, .i32⟩
  | 29 => ⟨S16384x16384, .i32⟩
  | 30 => ⟨S16384x16384, .i1⟩
  | 31 => ⟨S1x1x16384x16384, .i1⟩
  | 32 => ⟨S_, .f32⟩
  | 33 => ⟨S_, .f32⟩
  | 34 => ⟨S4x8x16384x16384, .i1⟩
  | 35 => ⟨S4x8x16384x16384, .f32⟩
  | 36 => ⟨S4x8x16384x16384, .f32⟩
  | 37 => ⟨S_, .f32⟩
  | 38 => ⟨S4x8x16384, .f32⟩
  | 39 => ⟨S4x8x16384x1, .f32⟩
  | 40 => ⟨S4x8x16384x16384, .f32⟩
  | 41 => ⟨S4x8x16384x16384, .f32⟩
  | 42 => ⟨S4x8x16384x16384, .f32⟩
  | 43 => ⟨S_, .f32⟩
  | 44 => ⟨S4x8x16384, .f32⟩
  | 45 => ⟨S4x8x16384, .f32⟩
  | 46 => ⟨S4x8x1x16384, .f32⟩
  | 47 => ⟨S4x8x16384x16384, .f32⟩
  | 48 => ⟨S4x8x16384x16384, .f32⟩
  | 49 => ⟨S4x8x16384x16384, .f32⟩
  | 50 => ⟨S_, .f32⟩
  | 51 => ⟨S4x8x16384, .f32⟩
  | 52 => ⟨S4x8x16384x1, .f32⟩
  | 53 => ⟨S_, .f32⟩
  | 54 => ⟨S4x8x16384x1, .f32⟩
  | 55 => ⟨S4x8x16384x1, .f32⟩
  | 56 => ⟨S_, .f32⟩
  | 57 => ⟨S4x8x16384x1, .f32⟩
  | 58 => ⟨S4x8x16384x1, .i1⟩
  | 59 => ⟨S4x8x16384x1, .f32⟩
  | 60 => ⟨S_, .f32⟩
  | 61 => ⟨S_, .f32⟩
  | 62 => ⟨S4x8x16384x1, .f32⟩
  | 63 => ⟨S4x8x16384x1, .f32⟩
  | 64 => ⟨S4x8x16384x1, .f32⟩
  | 65 => ⟨S_, .f32⟩
  | 66 => ⟨S4x8x16384x1, .f32⟩
  | 67 => ⟨S4x8x16384x1, .f32⟩
  | 68 => ⟨S_, .f32⟩
  | 69 => ⟨S_, .f32⟩
  | 70 => ⟨S4x8x16384x1, .f32⟩
  | 71 => ⟨S4x8x16384x1, .f32⟩
  | 72 => ⟨S4x8x16384x1, .f32⟩
  | 73 => ⟨S_, .f32⟩
  | 74 => ⟨S4x8x16384x1, .f32⟩
  | 75 => ⟨S4x8x16384x1, .f32⟩
  | 76 => ⟨S4x8x16384x16384, .f32⟩
  | 77 => ⟨S4x8x16384x16384, .f32⟩
  | 78 => ⟨S_, .f32⟩
  | 79 => ⟨S_, .f32⟩
  | 80 => ⟨S_, .f32⟩
  | 81 => ⟨S4x8x16384x16384, .f32⟩
  | 82 => ⟨S4x8x16384x16384, .f32⟩
  | 83 => ⟨S_, .f32⟩
  | 84 => ⟨S4x8x16384x16384, .f32⟩
  | 85 => ⟨S4x8x16384x16384, .f32⟩
  | 86 => ⟨S_, .f32⟩
  | 87 => ⟨S4x8x16384x1, .f32⟩
  | 88 => ⟨S4x8x16384x1, .f32⟩
  | 89 => ⟨S4x8x16384, .f32⟩
  | 90 => ⟨S4x8x16384x128, .f32⟩
  | 91 => ⟨S4x8x16384x1, .f32⟩
  | 92 => ⟨S4x8x16384x128, .f32⟩
  | 93 => ⟨S4x8x16384x128, .f32⟩
  | 94 => ⟨S4x8x16384x1, .f32⟩
  | 95 => ⟨S4x8x16384x128, .f32⟩
  | 96 => ⟨S4x8x16384x128, .f32⟩
  | 97 => ⟨S4x16384x8x128, .f32⟩
  | 98 => ⟨S4x16384x1024, .f32⟩
  | 99 => ⟨S4x16384x1024, .bf16⟩
  | 100 => ⟨S4x16384x1024, .f32⟩
  | 101 => ⟨S4x16384x1024, .fp8e4m3⟩
  | 102 => ⟨S4x8x16384, .f32⟩
  | 103 => ⟨S4x8x64x1x256, .f32⟩
  | 104 => ⟨S4x16384x1024, .f32⟩
  | 105 => ⟨S4x16384x1024, .fp8e4m3⟩
  | 106 => ⟨S4x8x16384, .f32⟩
  | 107 => ⟨S4x8x64x1x256, .f32⟩
  | 108 => ⟨S4x16384x1024, .f32⟩
  | 109 => ⟨S4x16384x1024, .fp8e4m3⟩
  | 110 => ⟨S4x8x16384, .f32⟩
  | 111 => ⟨S4x8x64x1x256, .f32⟩
  | _ => ⟨S4x16384x1024, .bf16⟩

abbrev hbmTy (i : Nat) : BufTy := match i / 128 with
  | 0 => hbmTy0_0 i
  | 1 => hbmTy0_1 i
  | _ => ⟨S4x16384x1024, .bf16⟩

abbrev bufTy : (tb : Table) → Fin (tcTables nBuf tb) → BufTy
  | .hbm, ⟨i, _⟩ => hbmTy i
  | _, _ => ⟨S4x16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_3 : Ref sig .tc := ⟨.hbm, 21, rfl⟩
abbrev main_v14 : Ref sig .tc := ⟨.hbm, 22, rfl⟩
abbrev main_v15 : Ref sig .tc := ⟨.hbm, 23, rfl⟩
abbrev main_cst_4 : Ref sig .tc := ⟨.hbm, 24, rfl⟩
abbrev main_call0_v0 : Ref sig .tc := ⟨.hbm, 25, rfl⟩
abbrev main_call0_v1 : Ref sig .tc := ⟨.hbm, 26, rfl⟩
abbrev main_v16 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_6 : Ref sig .tc := ⟨.hbm, 34, rfl⟩
abbrev main_cst_7 : Ref sig .tc := ⟨.hbm, 35, rfl⟩
abbrev main_call1_v0 : Ref sig .tc := ⟨.hbm, 36, rfl⟩
abbrev main_call1_v1 : Ref sig .tc := ⟨.hbm, 37, rfl⟩
abbrev main_call1_v2 : Ref sig .tc := ⟨.hbm, 38, rfl⟩
abbrev main_call1_v3 : Ref sig .tc := ⟨.hbm, 39, rfl⟩
abbrev main_call1_v4 : Ref sig .tc := ⟨.hbm, 40, rfl⟩
abbrev main_v22 : Ref sig .tc := ⟨.hbm, 41, rfl⟩
abbrev main_cst_8 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_cst_9 : Ref sig .tc := ⟨.hbm, 49, rfl⟩
abbrev main_v29 : Ref sig .tc := ⟨.hbm, 50, rfl⟩
abbrev main_v30 : Ref sig .tc := ⟨.hbm, 51, rfl⟩
abbrev main_cst_10 : Ref sig .tc := ⟨.hbm, 52, rfl⟩
abbrev main_v31 : Ref sig .tc := ⟨.hbm, 53, rfl⟩
abbrev main_v32 : Ref sig .tc := ⟨.hbm, 54, rfl⟩
abbrev main_cst_11 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_cst_12 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_cst_13 : Ref sig .tc := ⟨.hbm, 64, rfl⟩
abbrev main_v40 : Ref sig .tc := ⟨.hbm, 65, rfl⟩
abbrev main_v41 : Ref sig .tc := ⟨.hbm, 66, rfl⟩
abbrev main_cst_14 : Ref sig .tc := ⟨.hbm, 67, rfl⟩
abbrev main_call2_v0 : Ref sig .tc := ⟨.hbm, 68, rfl⟩
abbrev main_call2_v1 : Ref sig .tc := ⟨.hbm, 69, rfl⟩
abbrev main_v42 : Ref sig .tc := ⟨.hbm, 70, rfl⟩
abbrev main_v43 : Ref sig .tc := ⟨.hbm, 71, rfl⟩
abbrev main_cst_15 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_cst_16 : Ref sig .tc := ⟨.hbm, 77, rfl⟩
abbrev main_cst_17 : Ref sig .tc := ⟨.hbm, 78, rfl⟩
abbrev main_call3_v0 : Ref sig .tc := ⟨.hbm, 79, rfl⟩
abbrev main_call3_v1 : Ref sig .tc := ⟨.hbm, 80, rfl⟩
abbrev main_call3_v2 : Ref sig .tc := ⟨.hbm, 81, rfl⟩
abbrev main_call3_v3 : Ref sig .tc := ⟨.hbm, 82, rfl⟩
abbrev main_call3_v4 : Ref sig .tc := ⟨.hbm, 83, rfl⟩
abbrev main_v48 : Ref sig .tc := ⟨.hbm, 84, rfl⟩
abbrev main_cst_18 : Ref sig .tc := ⟨.hbm, 85, rfl⟩
abbrev main_v49 : Ref sig .tc := ⟨.hbm, 86, rfl⟩
abbrev main_v50 : Ref sig .tc := ⟨.hbm, 87, rfl⟩
abbrev main_v51 : Ref sig .tc := ⟨.hbm, 88, rfl⟩
abbrev main_v52 : Ref sig .tc := ⟨.hbm, 89, rfl⟩
abbrev main_v53 : Ref sig .tc := ⟨.hbm, 90, rfl⟩
abbrev main_v54 : Ref sig .tc := ⟨.hbm, 91, rfl⟩
abbrev main_cst_19 : Ref sig .tc := ⟨.hbm, 92, rfl⟩
abbrev main_v55 : Ref sig .tc := ⟨.hbm, 93, rfl⟩
abbrev main_v56 : Ref sig .tc := ⟨.hbm, 94, rfl⟩
abbrev main_cst_20 : Ref sig .tc := ⟨.hbm, 95, rfl⟩
abbrev main_v57 : Ref sig .tc := ⟨.hbm, 96, rfl⟩
abbrev main_v58 : Ref sig .tc := ⟨.hbm, 97, rfl⟩
abbrev main_cst_21 : Ref sig .tc := ⟨.hbm, 98, rfl⟩
abbrev main_v59 : Ref sig .tc := ⟨.hbm, 99, rfl⟩
abbrev main_v60 : Ref sig .tc := ⟨.hbm, 100, rfl⟩
abbrev main_v61 : Ref sig .tc := ⟨.hbm, 101, rfl⟩
abbrev main_cst_22 : Ref sig .tc := ⟨.hbm, 102, rfl⟩
abbrev main_v62 : Ref sig .tc := ⟨.hbm, 103, rfl⟩
abbrev main_v63 : Ref sig .tc := ⟨.hbm, 104, rfl⟩
abbrev main_v64 : Ref sig .tc := ⟨.hbm, 105, rfl⟩
abbrev main_v65 : Ref sig .tc := ⟨.hbm, 106, rfl⟩
abbrev main_cst_23 : Ref sig .tc := ⟨.hbm, 107, rfl⟩
abbrev main_v66 : Ref sig .tc := ⟨.hbm, 108, rfl⟩
abbrev main_v67 : Ref sig .tc := ⟨.hbm, 109, rfl⟩
abbrev main_cst_24 : Ref sig .tc := ⟨.hbm, 110, rfl⟩
abbrev main_call4_v0 : Ref sig .tc := ⟨.hbm, 111, rfl⟩
abbrev main_call4_v1 : Ref sig .tc := ⟨.hbm, 112, rfl⟩
abbrev main_v68 : Ref sig .tc := ⟨.hbm, 113, rfl⟩
abbrev main_v69 : Ref sig .tc := ⟨.hbm, 114, rfl⟩
abbrev main_cst_25 : Ref sig .tc := ⟨.hbm, 115, rfl⟩
abbrev main_v70 : Ref sig .tc := ⟨.hbm, 116, rfl⟩
abbrev main_v71 : Ref sig .tc := ⟨.hbm, 117, rfl⟩
abbrev main_v72 : Ref sig .tc := ⟨.hbm, 118, rfl⟩
abbrev main_v73 : Ref sig .tc := ⟨.hbm, 119, rfl⟩
abbrev main_cst_26 : Ref sig .tc := ⟨.hbm, 120, rfl⟩
abbrev main_cst_27 : Ref sig .tc := ⟨.hbm, 121, rfl⟩
abbrev main_call5_v0 : Ref sig .tc := ⟨.hbm, 122, rfl⟩
abbrev main_call5_v1 : Ref sig .tc := ⟨.hbm, 123, rfl⟩
abbrev main_call5_v2 : Ref sig .tc := ⟨.hbm, 124, rfl⟩
abbrev main_call5_v3 : Ref sig .tc := ⟨.hbm, 125, rfl⟩
abbrev main_call5_v4 : Ref sig .tc := ⟨.hbm, 126, rfl⟩
abbrev main_v74 : Ref sig .tc := ⟨.hbm, 127, rfl⟩
abbrev main_cst_28 : Ref sig .tc := ⟨.hbm, 128, rfl⟩
abbrev main_v75 : Ref sig .tc := ⟨.hbm, 129, rfl⟩
abbrev main_v76 : Ref sig .tc := ⟨.hbm, 130, rfl⟩
abbrev main_v77 : Ref sig .tc := ⟨.hbm, 131, rfl⟩
abbrev main_v78 : Ref sig .tc := ⟨.hbm, 132, rfl⟩
abbrev main_v79 : Ref sig .tc := ⟨.hbm, 133, rfl⟩
abbrev main_v80 : Ref sig .tc := ⟨.hbm, 134, rfl⟩
abbrev main_v81 : Ref sig .tc := ⟨.hbm, 135, rfl⟩
abbrev main_v82 : Ref sig .tc := ⟨.hbm, 136, rfl⟩
abbrev main_v83 : Ref sig .tc := ⟨.hbm, 137, rfl⟩
abbrev main_v84 : Ref sig .tc := ⟨.hbm, 138, rfl⟩
abbrev main_v85 : Ref sig .tc := ⟨.hbm, 139, rfl⟩
abbrev main_v86 : Ref sig .tc := ⟨.hbm, 140, rfl⟩
abbrev main_cst_29 : Ref sig .tc := ⟨.hbm, 141, rfl⟩
abbrev main_v87 : Ref sig .tc := ⟨.hbm, 142, rfl⟩
abbrev main_v88 : Ref sig .tc := ⟨.hbm, 143, rfl⟩
abbrev main_v89 : Ref sig .tc := ⟨.hbm, 144, rfl⟩
abbrev main_cst_30 : Ref sig .tc := ⟨.hbm, 145, rfl⟩
abbrev main_v90 : Ref sig .tc := ⟨.hbm, 146, rfl⟩
abbrev main_v91 : Ref sig .tc := ⟨.hbm, 147, rfl⟩
abbrev main_v92 : Ref sig .tc := ⟨.hbm, 148, rfl⟩
abbrev main_cst_31 : Ref sig .tc := ⟨.hbm, 149, rfl⟩
abbrev main_v93 : Ref sig .tc := ⟨.hbm, 150, rfl⟩
abbrev main_v94 : Ref sig .tc := ⟨.hbm, 151, rfl⟩
abbrev main_v95 : Ref sig .tc := ⟨.hbm, 152, rfl⟩
abbrev main_v96 : Ref sig .tc := ⟨.hbm, 153, rfl⟩
abbrev main_v97 : Ref sig .tc := ⟨.hbm, 154, rfl⟩
abbrev main_v98 : Ref sig .tc := ⟨.hbm, 155, rfl⟩
abbrev main_v99 : Ref sig .tc := ⟨.hbm, 156, rfl⟩
abbrev main_v100 : Ref sig .tc := ⟨.hbm, 157, rfl⟩
abbrev main_v101 : Ref sig .tc := ⟨.hbm, 158, rfl⟩
abbrev main_v102 : Ref sig .tc := ⟨.hbm, 159, rfl⟩
abbrev main_cst_32 : Ref sig .tc := ⟨.hbm, 160, rfl⟩
abbrev main_call6_v0 : Ref sig .tc := ⟨.hbm, 161, rfl⟩
abbrev main_call6_v1 : Ref sig .tc := ⟨.hbm, 162, rfl⟩
abbrev main_call6_v2 : Ref sig .tc := ⟨.hbm, 163, rfl⟩
abbrev main_v103 : Ref sig .tc := ⟨.hbm, 164, rfl⟩
abbrev main_cst_33 : Ref sig .tc := ⟨.hbm, 165, rfl⟩
abbrev main_v104 : Ref sig .tc := ⟨.hbm, 166, rfl⟩
abbrev main_v105 : Ref sig .tc := ⟨.hbm, 167, rfl⟩
abbrev main_v106 : Ref sig .tc := ⟨.hbm, 168, rfl⟩
abbrev main_v107 : Ref sig .tc := ⟨.hbm, 169, rfl⟩
abbrev main_v108 : Ref sig .tc := ⟨.hbm, 170, rfl⟩
abbrev main_cst_34 : Ref sig .tc := ⟨.hbm, 171, rfl⟩
abbrev main_v109 : Ref sig .tc := ⟨.hbm, 172, rfl⟩
abbrev main_v110 : Ref sig .tc := ⟨.hbm, 173, rfl⟩
abbrev main_v111 : Ref sig .tc := ⟨.hbm, 174, rfl⟩
abbrev main_v112 : Ref sig .tc := ⟨.hbm, 175, rfl⟩
abbrev main_v113 : Ref sig .tc := ⟨.hbm, 176, rfl⟩
abbrev main_v114 : Ref sig .tc := ⟨.hbm, 177, rfl⟩
abbrev main_cst_35 : Ref sig .tc := ⟨.hbm, 178, rfl⟩
abbrev main_v115 : Ref sig .tc := ⟨.hbm, 179, rfl⟩
abbrev main_v116 : Ref sig .tc := ⟨.hbm, 180, rfl⟩
abbrev main_cst_36 : Ref sig .tc := ⟨.hbm, 181, rfl⟩
abbrev main_v117 : Ref sig .tc := ⟨.hbm, 182, rfl⟩
abbrev main_v118 : Ref sig .tc := ⟨.hbm, 183, rfl⟩
abbrev main_cst_37 : Ref sig .tc := ⟨.hbm, 184, rfl⟩
abbrev main_v119 : Ref sig .tc := ⟨.hbm, 185, rfl⟩
abbrev main_v120 : Ref sig .tc := ⟨.hbm, 186, rfl⟩
abbrev main_v121 : Ref sig .tc := ⟨.hbm, 187, rfl⟩
abbrev main_cst_38 : Ref sig .tc := ⟨.hbm, 188, rfl⟩
abbrev main_v122 : Ref sig .tc := ⟨.hbm, 189, rfl⟩
abbrev main_v123 : Ref sig .tc := ⟨.hbm, 190, rfl⟩
abbrev main_v124 : Ref sig .tc := ⟨.hbm, 191, rfl⟩
abbrev main_v125 : Ref sig .tc := ⟨.hbm, 192, rfl⟩
abbrev main_cst_39 : Ref sig .tc := ⟨.hbm, 193, rfl⟩
abbrev main_v126 : Ref sig .tc := ⟨.hbm, 194, rfl⟩
abbrev main_v127 : Ref sig .tc := ⟨.hbm, 195, rfl⟩
abbrev main_cst_40 : Ref sig .tc := ⟨.hbm, 196, rfl⟩
abbrev main_call7_v0 : Ref sig .tc := ⟨.hbm, 197, rfl⟩
abbrev main_call7_v1 : Ref sig .tc := ⟨.hbm, 198, rfl⟩
abbrev main_v128 : Ref sig .tc := ⟨.hbm, 199, rfl⟩
abbrev main_v129 : Ref sig .tc := ⟨.hbm, 200, rfl⟩
abbrev main_cst_41 : Ref sig .tc := ⟨.hbm, 201, rfl⟩
abbrev main_v130 : Ref sig .tc := ⟨.hbm, 202, rfl⟩
abbrev main_v131 : Ref sig .tc := ⟨.hbm, 203, rfl⟩
abbrev main_v132 : Ref sig .tc := ⟨.hbm, 204, rfl⟩
abbrev main_v133 : Ref sig .tc := ⟨.hbm, 205, rfl⟩
abbrev main_cst_42 : Ref sig .tc := ⟨.hbm, 206, rfl⟩
abbrev main_cst_43 : Ref sig .tc := ⟨.hbm, 207, rfl⟩
abbrev main_call8_v0 : Ref sig .tc := ⟨.hbm, 208, rfl⟩
abbrev main_call8_v1 : Ref sig .tc := ⟨.hbm, 209, rfl⟩
abbrev main_call8_v2 : Ref sig .tc := ⟨.hbm, 210, rfl⟩
abbrev main_call8_v3 : Ref sig .tc := ⟨.hbm, 211, rfl⟩
abbrev main_call8_v4 : Ref sig .tc := ⟨.hbm, 212, rfl⟩
abbrev main_v134 : Ref sig .tc := ⟨.hbm, 213, rfl⟩
abbrev main_cst_44 : Ref sig .tc := ⟨.hbm, 214, rfl⟩
abbrev main_v135 : Ref sig .tc := ⟨.hbm, 215, rfl⟩
abbrev main_v136 : Ref sig .tc := ⟨.hbm, 216, rfl⟩
abbrev main_v137 : Ref sig .tc := ⟨.hbm, 217, rfl⟩
abbrev main_v138 : Ref sig .tc := ⟨.hbm, 218, rfl⟩
abbrev main_v139 : Ref sig .tc := ⟨.hbm, 219, rfl⟩
abbrev main_v140 : Ref sig .tc := ⟨.hbm, 220, rfl⟩
abbrev main_v141 : Ref sig .tc := ⟨.hbm, 221, rfl⟩
abbrev main_v142 : Ref sig .tc := ⟨.hbm, 222, rfl⟩
abbrev main_v143 : Ref sig .tc := ⟨.hbm, 223, rfl⟩
abbrev main_v144 : Ref sig .tc := ⟨.hbm, 224, rfl⟩
abbrev main_v145 : Ref sig .tc := ⟨.hbm, 225, rfl⟩
abbrev main_v146 : Ref sig .tc := ⟨.hbm, 226, rfl⟩
abbrev main_v147 : Ref sig .tc := ⟨.hbm, 227, rfl⟩
abbrev main_v148 : Ref sig .tc := ⟨.hbm, 228, rfl⟩
abbrev main_v149 : Ref sig .tc := ⟨.hbm, 229, rfl⟩
abbrev main_v150 : Ref sig .tc := ⟨.hbm, 230, rfl⟩
abbrev main_v151 : Ref sig .tc := ⟨.hbm, 231, rfl⟩
abbrev main_v152 : Ref sig .tc := ⟨.hbm, 232, rfl⟩
abbrev main_v153 : Ref sig .tc := ⟨.hbm, 233, rfl⟩
abbrev main_v154 : Ref sig .tc := ⟨.hbm, 234, rfl⟩
abbrev main_v155 : Ref sig .tc := ⟨.hbm, 235, rfl⟩
abbrev main_v156 : Ref sig .tc := ⟨.hbm, 236, rfl⟩
abbrev main_v157 : Ref sig .tc := ⟨.hbm, 237, rfl⟩
abbrev main_v158 : Ref sig .tc := ⟨.hbm, 238, rfl⟩
abbrev main_v159 : Ref sig .tc := ⟨.hbm, 239, rfl⟩

abbrev nD : Nat := 1
abbrev τ : Topo := Topo.v7x

variable {F : FTy → Type} [FloatOps F]
-- ==== Proof.KernelIdealGeom.lean ====
module

public import proofs.«01_k».proof.Proof.Gen.KernelIdeal.Loops
public import Idealize.ShloMosaic.Lib.VecWindow
public import Idealize.ShloMosaic.Lib.WritesUnit
public import Idealize.ShloMosaic.Lib.Pointwise

@[expose] public section
set_option maxHeartbeats 400000
set_option maxRecDepth 100000
noncomputable section
namespace Cert.KernelIdeal.Val
open Idealize.ShloMosaic Idealize.ShloMosaic.Pointwise
open Cert.KernelIdeal Cert.KernelIdeal.Gen Cert.KernelIdeal.Facts

/-! ## Trip counts and offsets, in terms of the key block index -/

/-- The loop over the earlier blocks runs once per earlier block. -/
theorem trips1 (i : grid0.Coords) : (k0_t1_loop i).trips = (i 2).val := by
  have h : ∀ n : Fin 64, Scf.trips 0#32 (Scalar.addi 0#32 (Scalar.muli (Scalar.divsi (Scalar.subi (BitVec.ofNat 32 n.val) 0#32) 1#32) 1#32)) 1#32 = n.val := by
    decide +kernel
  exact h (i 2)

theorem trips2 (i : grid0.Coords) : (k0_t2_loop i).trips = 0 := by
  have h : ∀ n : Fin 64, Scf.trips (Scalar.addi 0#32 (Scalar.muli (Scalar.divsi (Scalar.subi (BitVec.ofNat 32 n.val) 0#32) 1#32) 1#32))
      (Scalar.addi 0#32 (Scalar.subi (BitVec.ofNat 32 n.val) 0#32)) 1#32 = 0 := by decide +kernel
  exact h (i 2)

theorem trips3 (i : grid0.Coords) : (k0_t3_loop i).trips = (i 2).val + 1 := by
  have h : ∀ n : Fin 64, (k0_t3_loop (fun a => if h : a = 2 then h ▸ n else ⟨0, by fin_cases a <;> decide⟩)).trips = n.val + 1 := by decide +kernel
  have e := h (i 2)
  exact e

theorem trips4 (i : grid0.Coords) : (k0_t4_loop i).trips = 0 := by
  have h : ∀ n : Fin 64, (k0_t4_loop (fun a => if h : a = 2 then h ▸ n else ⟨0, by fin_cases a <;> decide⟩)).trips = 0 := by decide +kernel
  have e := h (i 2)
  exact e

theorem coord_word (n : Fin 64) : (Scalar.indexCast (BitVec.ofNat 32 n.val) : Index).toNat = n.val := by
  revert n; decide +kernel
theorem iv_word (n : Fin 64) : (Scalar.indexCast (Scf.iv 0#32 1#32 n.val) : Index).toNat = n.val := by
  revert n; decide +kernel

theorem off1 (i : grid0.Coords) : k0_off1 i = ![(i 2).val, 0, 0] := congrArg (fun n : ℕ => (![n, 0, 0] : Fin 3 → ℕ)) (coord_word (i 2))
theorem off2 (i : grid0.Coords) : k0_off2 i = ![(i 2).val, 0, 0] := congrArg (fun n : ℕ => (![n, 0, 0] : Fin 3 → ℕ)) (coord_word (i 2))
theorem off3 (i : grid0.Coords) : k0_off3 i = ![(i 2).val, 0, 0] := congrArg (fun n : ℕ => (![n, 0, 0] : Fin 3 → ℕ)) (coord_word (i 2))
theorem off12 (i : grid0.Coords) : k0_off12 i = ![(i 2).val, 0, 0] := congrArg (fun n : ℕ => (![n, 0, 0] : Fin 3 → ℕ)) (coord_word (i 2))
theorem off13 (i : grid0.Coords) : k0_off13 i = ![(i 2).val, 0, 128] := congrArg (fun n : ℕ => (![n, 0, 128] : Fin 3 → ℕ)) (coord_word (i 2))

theorem lt1 {i : grid0.Coords} (k : Fin (k0_t1_loop i).trips) : k.val < 64 := lt_of_lt_of_le k.isLt ((trips1 i).le.trans (i 2).isLt.le)
theorem lt3 {i : grid0.Coords} (k : Fin (k0_t3_loop i).trips) : k.val < 64 := lt_of_lt_of_le k.isLt ((trips3 i).le.trans (i 2).isLt)

theorem off4 {i : grid0.Coords} (k : Fin (k0_t1_loop i).trips) : k0_off4 i k = ![k.val, 0, 0] := congrArg (fun n : ℕ => (![n, 0, 0] : Fin 3 → ℕ)) (iv_word ⟨k.val, lt1 k⟩)
theorem off5 {i : grid0.Coords} (k : Fin (k0_t1_loop i).trips) : k0_off5 i k = ![k.val, 0, 0] := congrArg (fun n : ℕ => (![n, 0, 0] : Fin 3 → ℕ)) (iv_word ⟨k.val, lt1 k⟩)
theorem off6 {i : grid0.Coords} (k : Fin (k0_t1_loop i).trips) : k0_off6 i k = ![k.val, 0, 0] := congrArg (fun n : ℕ => (![n, 0, 0] : Fin 3 → ℕ)) (iv_word ⟨k.val, lt1 k⟩)
theorem off7 {i : grid0.Coords} (k : Fin (k0_t1_loop i).trips) : k0_off7 i k = ![k.val, 0, 128] := congrArg (fun n : ℕ => (![n, 0, 128] : Fin 3 → ℕ)) (iv_word ⟨k.val, lt1 k⟩)
theorem off14 {i : grid0.Coords} (k : Fin (k0_t3_loop i).trips) : k0_off14 i k = ![k.val, 0, 0] := congrArg (fun n : ℕ => (![n, 0, 0] : Fin 3 → ℕ)) (iv_word ⟨k.val, lt3 k⟩)
theorem off15 {i : grid0.Coords} (k : Fin (k0_t3_loop i).trips) : k0_off15 i k = ![k.val, 0, 0] := congrArg (fun n : ℕ => (![n, 0, 0] : Fin 3 → ℕ)) (iv_word ⟨k.val, lt3 k⟩)
theorem off16 {i : grid0.Coords} (k : Fin (k0_t3_loop i).trips) : k0_off16 i k = ![k.val, 0, 0] := congrArg (fun n : ℕ => (![n, 0, 0] : Fin 3 → ℕ)) (iv_word ⟨k.val, lt3 k⟩)

/-! ## Loads and stores of one block of a scratch buffer of 64 blocks -/

section Blocks
variable {κ : Kind} {sp : Space} {e : EltTy} {Val : EltTy → Type} {m n : ℕ}

/-- A load of block `c` reads the buffer there. -/
theorem load_block (v : View sig κ sp ⟨3, ![64, m, n]⟩ e) (f : v.ty.Contents Val) {off : Fin 3 → ℕ}
    (inb : ∀ a, off a + (![1, m, n] : Fin 3 → ℕ) a ≤ (⟨3, ![64, m, n]⟩ : Shape).size a) (c : Fin 64) (h : off = ![c.val, 0, 0]) (r : Fin m) (d : Fin n) :
    v.readAt Val (Rect.unit (s := ⟨3, ![64, m, n]⟩) off ![1, m, n] inb).toLoadRect f (ix3 0 r d) = v.read Val f (ix3 c r d) := by
  subst h
  rw [View.readAt_unit v f inb rfl inb]
  show v.read Val f _ = _
  congr 1
  funext a
  refine Fin.ext ?_
  fin_cases a
  · show c.val + 1 * 0 = c.val; omega
  · show 0 + 1 * r.val = r.val; omega
  · show 0 + 1 * d.val = d.val; omega

/-- After a store of block `c`, the buffer there holds what was stored. -/
theorem store_block (v : View sig κ sp ⟨3, ![64, m, n]⟩ e) (f : v.ty.Contents Val) {off : Fin 3 → ℕ}
    (inb : ∀ a, off a + (![1, m, n] : Fin 3 → ℕ) a ≤ (⟨3, ![64, m, n]⟩ : Shape).size a) (w : (⟨3, ![1, m, n]⟩ : Shape).Idx → Val e)
    (L : List (View.Piece Val ⟨3, ![64, m, n]⟩ e)) (c : Fin 64) (h : off = ![c.val, 0, 0]) (r : Fin m) (d : Fin n) :
    v.read Val (v.writes Val f ((⟨Rect.unit (s := ⟨3, ![64, m, n]⟩) off ![1, m, n] inb, w⟩ : View.Piece Val ⟨3, ![64, m, n]⟩ e) :: L)) (ix3 c r d) = w (ix3 0 r d) := by
  refine View.read_writes_cons_unit_of_mem v f inb w L _ (ix3 0 r d) h fun a => ?_
  fin_cases a
  · show c.val = c.val + 0; omega
  · show r.val = 0 + r.val; omega
  · show d.val = 0 + d.val; omega

/-- The other blocks keep what they held. -/
theorem keep_block {o p : ℕ} (v : View sig κ sp ⟨3, ![64, m, n]⟩ e) (f : v.ty.Contents Val) {off : Fin 3 → ℕ}
    (inb : ∀ a, off a + (![1, m, p] : Fin 3 → ℕ) a ≤ (⟨3, ![64, m, n]⟩ : Shape).size a) (w : (⟨3, ![1, m, p]⟩ : Shape).Idx → Val e)
    (L : List (View.Piece Val ⟨3, ![64, m, n]⟩ e)) (c : Fin 64) (k : ℕ) (h : off = ![k, 0, o]) (hc : c.val ≠ k) (r : Fin m) (d : Fin n) :
    v.read Val (v.writes Val f ((⟨Rect.unit (s := ⟨3, ![64, m, n]⟩) off ![1, m, p] inb, w⟩ : View.Piece Val ⟨3, ![64, m, n]⟩ e) :: L)) (ix3 c r d)
      = v.read Val (v.writes Val f L) (ix3 c r d) := by
  refine View.read_writes_cons_unit_of_not_mem v f inb w L _ h 0 ?_
  show c.val < k ∨ k + 1 ≤ c.val
  omega

/-- After a block is stored as two halves, the buffer there holds the two halves. -/
theorem store_halves (v : View sig κ sp ⟨3, ![64, m, 256]⟩ e) (f : v.ty.Contents Val) {off off' : Fin 3 → ℕ}
    (inb : ∀ a, off a + (![1, m, 128] : Fin 3 → ℕ) a ≤ (⟨3, ![64, m, 256]⟩ : Shape).size a)
    (inb' : ∀ a, off' a + (![1, m, 128] : Fin 3 → ℕ) a ≤ (⟨3, ![64, m, 256]⟩ : Shape).size a) (w w' : (⟨3, ![1, m, 128]⟩ : Shape).Idx → Val e)
    (L : List (View.Piece Val ⟨3, ![64, m, 256]⟩ e)) (c : Fin 64) (h : off = ![c.val, 0, 0]) (h' : off' = ![c.val, 0, 128]) (r : Fin m) (j : Fin 256) :
    v.read Val (v.writes Val f ((⟨Rect.unit (s := ⟨3, ![64, m, 256]⟩) off' ![1, m, 128] inb', w'⟩ : View.Piece Val ⟨3, ![64, m, 256]⟩ e)
        :: (⟨Rect.unit (s := ⟨3, ![64, m, 256]⟩) off ![1, m, 128] inb, w⟩ : View.Piece Val ⟨3, ![64, m, 256]⟩ e) :: L)) (ix3 c r j)
      = if hj : j.val < 128 then w (ix3 0 r ⟨j.val, hj⟩) else w' (ix3 0 r ⟨j.val - 128, by omega⟩) := by
  split
  · rename_i hj
    rw [View.read_writes_cons_unit_of_not_mem v f inb' w' _ _ h' 2 (by left; exact hj)]
    refine View.read_writes_cons_unit_of_mem v f inb w L _ (ix3 0 r ⟨j.val, hj⟩) h fun a => ?_
    fin_cases a
    · show c.val = c.val + 0; omega
    · show r.val = 0 + r.val; omega
    · show j.val = 0 + j.val; omega
  · rename_i hj
    refine View.read_writes_cons_unit_of_mem v f inb' w' _ _ (ix3 0 r ⟨j.val - 128, by omega⟩) h' fun a => ?_
    fin_cases a
    · show c.val = c.val + 0; omega
    · show r.val = 0 + r.val; omega
    · show j.val = 128 + (j.val - 128); omega

end Blocks

end Cert.KernelIdeal.Val
-- ==== Proof.Scales.lean ====
module

public import Idealize.ShloMosaic.Lib.Pointwise

@[expose] public section
set_option maxHeartbeats 1000000
noncomputable section
namespace Cert.Scales
open Idealize.ShloMosaic

/-- The float of the word `f << 23`. -/
def pw (f : BitVec 32) : EReal := Ideal.ofBits .f32 (IntOp.shli .vector f 23#32)

/-- One step of the search for an exponent field. -/
def step (y : EReal) (b f : BitVec 32) : BitVec 32 :=
  Scalar.select (Ideal.cmp .oge y (pw (f + b))) (f + b) f

/-- The search, bit by bit. -/
def field (y : EReal) : BitVec 32 :=
  step y 1#32 (step y 2#32 (step y 4#32 (step y 8#32 (step y 16#32 (step y 32#32 (step y 64#32 (step y 128#32 0#32)))))))

theorem pw_ofNat (n : Nat) (h0 : n ≠ 0) (h : n < 255) :
    pw (BitVec.ofNat 32 n) = (((2 : ℝ) ^ ((n : ℤ) - 127) : ℝ) : EReal) := by
  have key : ∀ f : BitVec 8, f ≠ 0#8 → f ≠ 255#8 →
      let b : BitVec 32 := IntOp.shli .vector (f.setWidth 32) 23#32
      (b.extractLsb' 31 1 == 1#1) = false ∧ b.extractLsb' 23 8 = f ∧ b.extractLsb' 0 23 = 0#23 := by
    decide +kernel
  have hf0 : BitVec.ofNat 8 n ≠ 0#8 := by
    intro he; have := congrArg BitVec.toNat he; simp at this; omega
  have hf1 : BitVec.ofNat 8 n ≠ 255#8 := by
    intro he; have := congrArg BitVec.toNat he; simp at this; omega
  have hw : (BitVec.ofNat 8 n).setWidth 32 = BitVec.ofNat 32 n := by
    apply BitVec.eq_of_toNat_eq; simp; omega
  obtain ⟨h1, h2, h3⟩ := key _ hf0 hf1
  rw [hw] at h1 h2 h3
  have hn : (BitVec.ofNat 8 n).toNat = n := by simp; omega
  show Ideal.ieee 8 23 _ = _
  unfold Ideal.ieee
  simp only [show (8 + 23 : Nat) = 31 from rfl, h1, h2, h3, hn]
  rw [if_neg (by omega), if_neg h0]
  congr 1
  simp only [Bool.false_eq_true, if_false]
  rw [show ((n : ℤ) - (2 ^ (8 - 1) - 1) - (23 : ℕ)) = ((n : ℤ) - 127) - 23 by norm_num]
  rw [zpow_sub₀ (by norm_num : (2:ℝ) ≠ 0)]
  norm_num
  ring

theorem pw_zero : pw 0#32 = 0 := by
  have : IntOp.shli .vector 0#32 23#32 = 0#32 := by decide
  unfold pw; rw [this]; exact Ideal.ofBits_zero .f32

theorem pw_255 : pw 255#32 = ⊤ := by
  have : IntOp.shli .vector 255#32 23#32 = 0x7F800000#32 := by decide
  unfold pw; rw [this]
  show Ideal.ieee 8 23 (0x7F800000#32) = _
  simp [Ideal.ieee]

/-- One step keeps: the field found is at most `y`, and the field one interval up is above `y` or is 256. -/
theorem step_spec (y : EReal) (w n : Nat) (hn : n + 2 * w ≤ 256) (hw : 0 < w)
    (h1 : pw (BitVec.ofNat 32 n) ≤ y) (h2 : n + 2 * w = 256 ∨ y < pw (BitVec.ofNat 32 (n + 2 * w))) :
    ∃ k, step y (BitVec.ofNat 32 w) (BitVec.ofNat 32 n) = BitVec.ofNat 32 k ∧ k + w ≤ 256 ∧
      pw (BitVec.ofNat 32 k) ≤ y ∧ (k + w = 256 ∨ y < pw (BitVec.ofNat 32 (k + w))) := by
  have ha : BitVec.ofNat 32 n + BitVec.ofNat 32 w = BitVec.ofNat 32 (n + w) := by
    apply BitVec.eq_of_toNat_eq; simp
  unfold step
  rw [ha]
  by_cases hc : pw (BitVec.ofNat 32 (n + w)) ≤ y
  · refine ⟨n + w, ?_, by omega, hc, ?_⟩
    · simp [Ideal.cmp, Scalar.select, hc]
    · rw [show n + w + w = n + 2 * w by omega]; exact h2
  · refine ⟨n, ?_, by omega, h1, .inr (lt_of_not_ge hc)⟩
    simp [Ideal.cmp, Scalar.select, hc]

/-- The search finds the field whose power is at most `y` and whose successor's power is above it. -/
theorem field_spec (y : EReal) (h : 0 ≤ y) :
    ∃ n, field y = BitVec.ofNat 32 n ∧ n + 1 ≤ 256 ∧ pw (BitVec.ofNat 32 n) ≤ y ∧
      (n + 1 = 256 ∨ y < pw (BitVec.ofNat 32 (n + 1))) := by
  obtain ⟨n1, e1, b1, l1, u1⟩ := step_spec y 128 0 (by norm_num) (by norm_num) (by rw [show BitVec.ofNat 32 0 = 0#32 from rfl, pw_zero]; exact h) (.inl rfl)
  obtain ⟨n2, e2, b2, l2, u2⟩ := step_spec y 64 n1 b1 (by norm_num) l1 u1
  obtain ⟨n3, e3, b3, l3, u3⟩ := step_spec y 32 n2 b2 (by norm_num) l2 u2
  obtain ⟨n4, e4, b4, l4, u4⟩ := step_spec y 16 n3 b3 (by norm_num) l3 u3
  obtain ⟨n5, e5, b5, l5, u5⟩ := step_spec y 8 n4 b4 (by norm_num) l4 u4
  obtain ⟨n6, e6, b6, l6, u6⟩ := step_spec y 4 n5 b5 (by norm_num) l5 u5
  obtain ⟨n7, e7, b7, l7, u7⟩ := step_spec y 2 n6 b6 (by norm_num) l6 u6
  obtain ⟨n8, e8, b8, l8, u8⟩ := step_spec y 1 n7 b7 (by norm_num) l7 u7
  refine ⟨n8, ?_, b8, l8, u8⟩
  unfold field
  rw [← e8, ← e7, ← e6, ← e5, ← e4, ← e3, ← e2, ← e1]

/-- The exponent field of a positive real in the range of normal floats. -/
theorem field_real (y : ℝ) (e : ℤ) (h0 : -126 ≤ e) (h1 : e ≤ 127) (hl : (2 : ℝ) ^ e ≤ y) (hu : y < (2 : ℝ) ^ (e + 1)) :
    field (y : EReal) = BitVec.ofNat 32 (e + 127).toNat := by
  have hp : (0:ℝ) < (2 : ℝ) ^ e := by positivity
  obtain ⟨n, hn, hb, hle, hlt⟩ := field_spec (y : EReal) (by exact_mod_cast (hp.le.trans hl))
  rw [hn]
  congr 1
  have hn255 : n ≠ 255 := by
    rintro rfl
    rw [show BitVec.ofNat 32 255 = 255#32 from rfl, pw_255] at hle
    exact absurd (top_le_iff.1 hle) (EReal.coe_ne_top y)
  have hup : y < (2:ℝ) ^ ((n : ℤ) + 1 - 127) ∨ n = 254 := by
    by_cases h : n = 254
    · exact .inr h
    · left
      rcases hlt with h' | h'
      · omega
      · rw [pw_ofNat (n+1) (by omega) (by omega)] at h'
        have := EReal.coe_lt_coe_iff.1 h'
        exact_mod_cast this
  have hn0 : n ≠ 0 := by
    rintro rfl
    rcases hup with h | h
    · have : (2:ℝ) ^ e < (2:ℝ)^(((0:ℕ):ℤ)+1-127) := lt_of_le_of_lt hl h
      rw [zpow_lt_zpow_iff_right₀ (by norm_num)] at this
      norm_num at this; omega
    · omega
  rw [pw_ofNat n hn0 (by omega), EReal.coe_le_coe_iff] at hle
  have a1 : (2:ℝ) ^ ((n:ℤ) - 127) < (2:ℝ) ^ (e+1) := lt_of_le_of_lt hle hu
  rw [zpow_lt_zpow_iff_right₀ (by norm_num)] at a1
  rcases hup with h | h
  · have a2 : (2:ℝ) ^ e < (2:ℝ) ^ ((n:ℤ) + 1 - 127) := lt_of_le_of_lt hl h
    rw [zpow_lt_zpow_iff_right₀ (by norm_num)] at a2
    omega
  · omega

/-- The constant the row maximum is multiplied by: the float nearest 1/448. -/
def c0 : ℝ := 9586981 / 2 ^ 32

/-- A normal float from its three fields. -/
theorem ofBits_fields (b : BitVec 32) (sg : Bool) (ex fr : Nat) (hs : (b.extractLsb' 31 1 == 1#1) = sg)
    (he : (b.extractLsb' 23 8).toNat = ex) (hf : (b.extractLsb' 0 23).toNat = fr) (h0 : ex ≠ 0) (h1 : ex ≠ 255) :
    Ideal.ofBits .f32 b = (((if sg then -1 else 1) * ((2 ^ 23 + fr : ℕ) : ℝ) * (2 : ℝ) ^ ((ex : ℤ) - 150) : ℝ) : EReal) := by
  show Ideal.ieee 8 23 b = _
  unfold Ideal.ieee
  simp only [show (8 + 23 : Nat) = 31 from rfl, hs, he, hf]
  rw [if_neg (by omega), if_neg h0]
  rw [show ((ex : ℤ) - (2 ^ (8 - 1) - 1) - (23 : ℕ)) = (ex : ℤ) - 150 by norm_num; ring]

theorem ofBits_c0 : Ideal.ofBits .f32 0x3B124925#32 = ((c0 : ℝ) : EReal) := by
  rw [ofBits_fields 0x3B124925#32 false 118 1198373 (by decide) (by decide) (by decide) (by decide) (by decide)]
  congr 1
  norm_num [c0]

theorem ofBits_448 : Ideal.ofBits .f32 0x43E00000#32 = ((448 : ℝ) : EReal) := by
  rw [ofBits_fields 0x43E00000#32 false 135 6291456 (by decide) (by decide) (by decide) (by decide) (by decide)]
  congr 1
  norm_num

theorem ofBits_neg448 : Ideal.ofBits .f32 0xC3E00000#32 = ((-448 : ℝ) : EReal) := by
  rw [ofBits_fields 0xC3E00000#32 true 135 6291456 (by decide) (by decide) (by decide) (by decide) (by decide)]
  congr 1
  norm_num

theorem ofBits_two : Ideal.ofBits .f32 0x40000000#32 = ((2 : ℝ) : EReal) := by
  rw [ofBits_fields 0x40000000#32 false 128 0 (by decide) (by decide) (by decide) (by decide) (by decide)]
  congr 1
  norm_num

theorem ofBits_one : Ideal.ofBits .f32 0x3F800000#32 = ((1 : ℝ) : EReal) := by
  rw [ofBits_fields 0x3F800000#32 false 127 0 (by decide) (by decide) (by decide) (by decide) (by decide)]
  congr 1
  norm_num

theorem ofBits_ninf : Ideal.ofBits .f32 0xFF800000#32 = ⊥ := by
  show Ideal.ieee 8 23 (0xFF800000#32) = _
  simp [Ideal.ieee]

/-- The exponent of a row's scale, from the largest magnitude in the row. -/
def expo (a : ℝ) : ℤ := if a = 0 then 0 else ⌊Real.log (a * c0) / Real.log 2⌋ + 1

theorem expo_zero : expo 0 = 0 := if_pos rfl

theorem expo_spec {a : ℝ} (ha : 0 < a) : (2 : ℝ) ^ (expo a - 1) ≤ a * c0 ∧ a * c0 < (2 : ℝ) ^ expo a := by
  have hy : 0 < a * c0 := mul_pos ha (by norm_num [c0])
  have he : expo a = ⌊Real.log (a * c0) / Real.log 2⌋ + 1 := if_neg ha.ne'
  have h2 : (0:ℝ) < Real.log 2 := Real.log_pos (by norm_num)
  rw [he, add_sub_cancel_right]
  constructor
  · have := Int.floor_le (Real.log (a * c0) / Real.log 2)
    rw [le_div_iff₀ h2, ← Real.log_zpow] at this
    exact (Real.log_le_log_iff (by positivity) hy).1 this
  · have := Int.lt_floor_add_one (Real.log (a * c0) / Real.log 2)
    rw [div_lt_iff₀ h2] at this
    refine (Real.log_lt_log_iff hy (by positivity)).1 ?_
    rw [Real.log_zpow]; push_cast; exact this

theorem two_zpow_le_iff (m n : ℤ) : (2 : ℝ) ^ m ≤ (2 : ℝ) ^ n ↔ m ≤ n := zpow_le_zpow_iff_right₀ (by norm_num)
theorem two_zpow_lt_iff (m n : ℤ) : (2 : ℝ) ^ m < (2 : ℝ) ^ n ↔ m < n := zpow_lt_zpow_iff_right₀ (by norm_num)

/-- A maximum in `[2^lo, 2^hi]` has its scale's exponent in `[lo - 8, hi - 8]`. -/
theorem expo_bounds {a : ℝ} {lo hi : ℤ} (hl : (2 : ℝ) ^ lo ≤ a) (hh : a ≤ (2 : ℝ) ^ hi) :
    lo - 8 ≤ expo a ∧ expo a ≤ hi - 8 := by
  have ha : 0 < a := lt_of_lt_of_le (by positivity) hl
  obtain ⟨h1, h2⟩ := expo_spec ha
  have c1 : (2 : ℝ) ^ (-9 : ℤ) ≤ c0 := by norm_num [c0]
  have c2 : c0 < (2 : ℝ) ^ (-8 : ℤ) := by norm_num [c0]
  constructor
  · have : (2:ℝ) ^ (lo + -9) < (2:ℝ) ^ expo a := by
      rw [zpow_add₀ (by norm_num)]
      exact lt_of_le_of_lt (mul_le_mul hl c1 (by positivity) ha.le) h2
    rw [two_zpow_lt_iff] at this; omega
  · have : (2:ℝ) ^ (expo a - 1) < (2:ℝ) ^ (hi + -8) := by
      rw [zpow_add₀ (by norm_num)]
      exact lt_of_le_of_lt h1 (mul_lt_mul' hh c2 (by norm_num [c0]) (by positivity))
    rw [two_zpow_lt_iff] at this; omega

/-- The word of an exponent as the kernel makes it: 0 of a zero, the field found less 126 otherwise. -/
def kexp (y : EReal) : BitVec 32 := Scalar.select (Ideal.cmp .oeq y 0) 0#32 (IntOp.subi (field y) 126#32)

theorem kexp_zero : kexp 0 = 0#32 := by simp [kexp, Ideal.cmp, Scalar.select]

theorem ofNat_sub_126 (e : ℤ) (h0 : -126 ≤ e) (h1 : e ≤ 127) :
    IntOp.subi (BitVec.ofNat 32 (e + 127).toNat) 126#32 = BitVec.ofInt 32 (e + 1) := by
  have : BitVec.ofNat 32 (e + 127).toNat = BitVec.ofInt 32 (e + 127) := by
    rw [← BitVec.ofInt_natCast, Int.toNat_of_nonneg (by omega)]
  rw [this, show (126#32) = BitVec.ofInt 32 126 from rfl]
  show BitVec.ofInt 32 (e + 127) - BitVec.ofInt 32 126 = _
  rw [BitVec.sub_eq_add_neg, ← BitVec.ofInt_neg, ← BitVec.ofInt_add]; congr 1; ring

/-- The word is the exponent, of a maximum that is zero or in the range. -/
theorem kexp_eq {a : ℝ} (h : a = 0 ∨ (2 : ℝ) ^ (-117 : ℤ) ≤ a ∧ a ≤ (2 : ℝ) ^ (117 : ℤ)) :
    kexp ((a * c0 : ℝ) : EReal) = BitVec.ofInt 32 (expo a) := by
  rcases h with rfl | ⟨hl, hh⟩
  · rw [zero_mul, EReal.coe_zero, kexp_zero, expo_zero]; rfl
  · have ha : 0 < a := lt_of_lt_of_le (by positivity) hl
    obtain ⟨b1, b2⟩ := expo_bounds hl hh
    obtain ⟨s1, s2⟩ := expo_spec ha
    have hy : 0 < a * c0 := mul_pos ha (by norm_num [c0])
    unfold kexp
    rw [field_real (a * c0) (expo a - 1) (by omega) (by omega) s1 (by rwa [sub_add_cancel]),
      ofNat_sub_126 _ (by omega) (by omega), sub_add_cancel]
    have : ¬ ((a * c0 : ℝ) : EReal) = 0 := by exact_mod_cast hy.ne'
    simp only [Ideal.cmp, Scalar.select, this, decide_false]
    rfl

/-- The float the kernel makes of an exponent's word is the power of two. -/
theorem pow2_word (e : ℤ) (h0 : -126 ≤ e) (h1 : e ≤ 127) :
    Ideal.ofBits .f32 (IntOp.shli .vector (IntOp.addi (BitVec.ofInt 32 e) 127#32) 23#32) = (((2 : ℝ) ^ e : ℝ) : EReal) := by
  have : IntOp.addi (BitVec.ofInt 32 e) 127#32 = BitVec.ofNat 32 (e + 127).toNat := by
    rw [show (127#32) = BitVec.ofInt 32 127 from rfl]
    show BitVec.ofInt 32 e + BitVec.ofInt 32 127 = _
    rw [← BitVec.ofInt_add]
    rw [← BitVec.ofInt_natCast, Int.toNat_of_nonneg (by omega)]
  rw [this]
  refine (pw_ofNat (e + 127).toNat (by omega) (by omega)).trans ?_
  rw [Int.toNat_of_nonneg (by omega), add_sub_cancel_right]

theorem neg_word (e : ℤ) : IntOp.subi 0#32 (BitVec.ofInt 32 e) = BitVec.ofInt 32 (-e) := by
  show 0#32 - BitVec.ofInt 32 e = _
  rw [BitVec.ofInt_neg, BitVec.zero_sub]

/-- A value of a row times the reciprocal of the row's scale is in ±448. -/
theorem code_le {x a : ℝ} (hx : |x| ≤ a) : |x * (2 : ℝ) ^ (-expo a)| ≤ 448 := by
  rcases eq_or_lt_of_le ((abs_nonneg x).trans hx) with h | ha
  · have : x = 0 := abs_eq_zero.1 (le_antisymm (h ▸ hx) (abs_nonneg x))
    rw [this, zero_mul, abs_zero]; norm_num
  · obtain ⟨-, h2⟩ := expo_spec ha
    rw [abs_mul, abs_of_pos (by positivity : (0:ℝ) < 2 ^ (-expo a)), zpow_neg, ← div_eq_mul_inv, div_le_iff₀ (by positivity)]
    have : a ≤ 448 * (a * c0) := by
      have : (1:ℝ) ≤ 448 * c0 := by norm_num [c0]
      nlinarith
    linarith

/-- So the clip to ±448 leaves it. -/
theorem clip_id {z : ℝ} (h : |z| ≤ 448) : min ((448 : ℝ) : EReal) (max ((-448 : ℝ) : EReal) (z : EReal)) = (z : EReal) := by
  obtain ⟨h1, h2⟩ := abs_le.1 h
  rw [max_eq_right (by exact_mod_cast h1), min_eq_right (by exact_mod_cast h2)]

/-! ## A row -/

/-- The largest magnitude in a row. -/
def amax (x : Fin 128 → EReal) : EReal := Finset.univ.fold max ⊥ fun d => max (x d) (-x d)

/-- The row is zero, or its largest magnitude is in `[2^lo, 2^hi]`. -/
def Fits (lo hi : ℤ) (x : Fin 128 → EReal) : Prop :=
  amax x = 0 ∨ (((2 : ℝ) ^ lo : ℝ) : EReal) ≤ amax x ∧ amax x ≤ (((2 : ℝ) ^ hi : ℝ) : EReal)

/-- The exponent of the row's scale. -/
def rexp (x : Fin 128 → EReal) : ℤ := expo (amax x).toReal

/-- The row's codes. -/
def rcode (x : Fin 128 → EReal) (d : Fin 128) : EReal := (((x d).toReal * (2 : ℝ) ^ (-rexp x) : ℝ) : EReal)

/-- The row's scale. -/
def rscale (x : Fin 128 → EReal) : EReal := (((2 : ℝ) ^ rexp x : ℝ) : EReal)

theorem Fits.mono {lo hi lo' hi' : ℤ} {x : Fin 128 → EReal} (h : Fits lo hi x) (h1 : lo' ≤ lo) (h2 : hi ≤ hi') : Fits lo' hi' x := by
  rcases h with h | ⟨ha, hb⟩
  · exact .inl h
  · exact .inr ⟨le_trans (by exact_mod_cast (two_zpow_le_iff _ _).2 h1) ha, le_trans hb (by exact_mod_cast (two_zpow_le_iff _ _).2 h2)⟩

theorem Fits.real {lo hi : ℤ} {x : Fin 128 → EReal} (h : Fits lo hi x) :
    ((amax x).toReal : EReal) = amax x ∧ ((amax x).toReal = 0 ∨ (2 : ℝ) ^ lo ≤ (amax x).toReal ∧ (amax x).toReal ≤ (2 : ℝ) ^ hi) := by
  rcases h with h | ⟨ha, hb⟩
  · rw [h]; simp
  · have ht : amax x ≠ ⊤ := fun e => by rw [e] at hb; exact absurd (top_le_iff.1 hb) (EReal.coe_ne_top _)
    have hbt : amax x ≠ ⊥ := fun e => by rw [e] at ha; exact absurd (le_bot_iff.1 ha) (EReal.coe_ne_bot _)
    have e := EReal.coe_toReal ht hbt
    refine ⟨e, .inr ⟨?_, ?_⟩⟩
    · rw [← e] at ha; exact_mod_cast ha
    · rw [← e] at hb; exact_mod_cast hb

theorem Fits.elt {lo hi : ℤ} {x : Fin 128 → EReal} (h : Fits lo hi x) (d : Fin 128) :
    ((x d).toReal : EReal) = x d ∧ |(x d).toReal| ≤ (amax x).toReal := by
  obtain ⟨e, -⟩ := h.real
  have hle : max (x d) (-x d) ≤ amax x := by
    unfold amax
    rw [Finset.le_fold_max]
    exact .inr ⟨d, Finset.mem_univ d, le_rfl⟩
  have h1 : x d ≤ ((amax x).toReal : EReal) := by rw [e]; exact (le_max_left _ _).trans hle
  have h2 : -x d ≤ ((amax x).toReal : EReal) := by rw [e]; exact (le_max_right _ _).trans hle
  have ht : x d ≠ ⊤ := fun he => by rw [he] at h1; exact absurd (top_le_iff.1 h1) (EReal.coe_ne_top _)
  have hb : x d ≠ ⊥ := fun he => by rw [he, EReal.neg_bot] at h2; exact absurd (top_le_iff.1 h2) (EReal.coe_ne_top _)
  have ex := EReal.coe_toReal ht hb
  refine ⟨ex, abs_le.2 ⟨?_, ?_⟩⟩
  · rw [← ex, ← EReal.coe_neg] at h2
    have := EReal.coe_le_coe_iff.1 h2; linarith
  · rw [← ex] at h1; exact EReal.coe_le_coe_iff.1 h1

theorem Fits.rexp_bounds {lo hi : ℤ} {x : Fin 128 → EReal} (h : Fits lo hi x) (h0 : lo ≤ 8) (h1 : 8 ≤ hi) :
    lo - 8 ≤ rexp x ∧ rexp x ≤ hi - 8 := by
  obtain ⟨-, h | ⟨ha, hb⟩⟩ := h.real
  · unfold rexp; rw [h, expo_zero]; omega
  · exact expo_bounds ha hb

/-- The kernel's exponent word of a row that fits. -/
theorem Fits.kexp {x : Fin 128 → EReal} (h : Fits (-117) 117 x) :
    kexp (amax x * Ideal.ofBits .f32 0x3B124925#32) = BitVec.ofInt 32 (rexp x) := by
  obtain ⟨e, hr⟩ := h.real
  rw [ofBits_c0, ← e, ← EReal.coe_mul, kexp_eq hr]; rfl

/-- The kernel's code of a row that fits. -/
theorem Fits.kcode {x : Fin 128 → EReal} (h : Fits (-117) 117 x) (d : Fin 128) :
    min (Ideal.ofBits .f32 0x43E00000#32) (max (Ideal.ofBits .f32 0xC3E00000#32) (x d *
      Ideal.ofBits .f32 (IntOp.shli .vector (IntOp.addi (IntOp.subi 0#32
        (Scales.kexp (amax x * Ideal.ofBits .f32 0x3B124925#32))) 127#32) 23#32))) = rcode x d := by
  obtain ⟨b1, b2⟩ := h.rexp_bounds (by norm_num) (by norm_num)
  obtain ⟨ex, hx⟩ := h.elt d
  rw [h.kexp, neg_word, pow2_word _ (by omega) (by omega), ofBits_448, ofBits_neg448]
  conv_lhs => rw [← ex]
  rw [← EReal.coe_mul]
  exact clip_id (code_le hx)

/-- The kernel's scale of a row that fits. -/
theorem Fits.kscale {x : Fin 128 → EReal} (h : Fits (-117) 117 x) :
    Ideal.ofBits .f32 (IntOp.shli .vector (IntOp.addi (Scales.kexp (amax x * Ideal.ofBits .f32 0x3B124925#32)) 127#32) 23#32)
      = rscale x := by
  obtain ⟨b1, b2⟩ := h.rexp_bounds (by norm_num) (by norm_num)
  rw [h.kexp, pow2_word _ (by omega) (by omega)]; rfl

/-- The plain exponent, of a real maximum: floor of the base-2 logarithm plus one, 0 of a zero maximum. -/
theorem hexp_eq {a : ℝ} (ha : 0 ≤ a) :
    Scalar.select (Ideal.cmp .oeq (a : EReal) 0) 0
      (Ideal.liftRound Int.floor (Ideal.div (Ideal.log ((a : EReal) * (c0 : EReal))) (Ideal.log ((2 : ℝ) : EReal))) + ((1 : ℝ) : EReal))
      = ((expo a : ℝ) : EReal) := by
  rcases eq_or_lt_of_le ha with rfl | h
  · rw [expo_zero]; simp [Ideal.cmp, Scalar.select]
  · have hy : 0 < a * c0 := mul_pos h (by norm_num [c0])
    have h2 : (0:ℝ) < Real.log 2 := Real.log_pos (by norm_num)
    have hne : ¬ (a : EReal) = 0 := by exact_mod_cast h.ne'
    have he : expo a = ⌊Real.log (a * c0) / Real.log 2⌋ + 1 := if_neg h.ne'
    rw [← EReal.coe_mul, Ideal.log_coe, Ideal.log_coe, if_neg (not_le.2 hy), if_neg (by norm_num),
      Ideal.div_coe h2.ne', ← EReal.coe_mul, mul_one_div]
    simp only [Ideal.cmp, Scalar.select, hne]
    rw [he]
    push_cast
    rfl

theorem pow2_eq (e : ℤ) : Ideal.pow ((2 : ℝ) : EReal) ((e : ℝ) : EReal) = (((2 : ℝ) ^ e : ℝ) : EReal) := by
  rw [Ideal.pow_coe_coe]
  congr 1
  exact Real.rpow_intCast 2 e

end Cert.Scales
-- ==== Proof.KernelIdealQuant.lean ====
module

public import proofs.«01_k».proof.Proof.Gen.KernelIdeal.Skeleton
public import proofs.«01_k».proof.Proof.Scales

@[expose] public section
set_option maxHeartbeats 1000000
set_option maxRecDepth 100000
noncomputable section
namespace Cert.KernelIdeal.Val
open Idealize.ShloMosaic Idealize.ShloMosaic.Pointwise
open Cert.KernelIdeal Cert.KernelIdeal.Gen Cert.KernelIdeal.Facts Cert.Scales

/-- Row `r` of a block of 256 rows. -/
def brow (x : Vec Ideal S1x256x128 .bf16) (r : Fin 256) : Fin 128 → EReal := fun d => x (ix3 0 r d)

/-- One step of the search for an exponent field, on a whole vector. -/
def vstep {s : Shape} (y : FVec Ideal s .f32) (b : BitVec 32) (f : IVec s 32) : IVec s 32 :=
  select (cmpf .oge y (bitcastToFloat .f32 (shli (addi f (broadcast s b)) (broadcast s 23#32)))) (addi f (broadcast s b)) f

theorem vstep_at {s : Shape} (y : FVec Ideal s .f32) (b : BitVec 32) (f : IVec s 32) (j : s.Idx) :
    vstep y b f j = step (y j) b (f j) := rfl

theorem q_field (x : Vec Ideal S1x256x128 .bf16) (j : S256x1.Idx) :
    k0_pay28 (F := Ideal) (k0_pay25 x) (k0_pay26 x) (k0_pay27 x) j
      = IntOp.subi (field (k0_pay25 (F := Ideal) x j)) 126#32 := by
  have e : k0_pay28 (F := Ideal) (k0_pay25 x) (k0_pay26 x) (k0_pay27 x)
      = subi (vstep (k0_pay25 (F := Ideal) x) 1#32 (vstep (k0_pay25 (F := Ideal) x) 2#32 (vstep (k0_pay25 (F := Ideal) x) 4#32
          (vstep (k0_pay25 (F := Ideal) x) 8#32 (vstep (k0_pay25 (F := Ideal) x) 16#32 (vstep (k0_pay25 (F := Ideal) x) 32#32
          (vstep (k0_pay25 (F := Ideal) x) 64#32 (vstep (k0_pay25 (F := Ideal) x) 128#32 (broadcast S256x1 0#32)))))))))
          (broadcast S256x1 126#32) := rfl
  rw [e]
  show IntOp.subi _ _ = _
  simp only [vstep_at]
  rfl

theorem pay25_at (x : Vec Ideal S1x256x128 .bf16) (r : Fin 256) :
    k0_pay25 (F := Ideal) x (ix2 r 0) = amax (brow x r) * Ideal.ofBits .f32 0x3B124925#32 := by
  pointwise [k0_pay25, k0_pay24]
  rw [ofBits_ninf]
  rfl

theorem pay30_at (x : Vec Ideal S1x256x128 .bf16) (r : Fin 256) (d : Fin 128) :
    k0_pay30 (k0_pay28 (F := Ideal) (k0_pay25 x) (k0_pay26 x) (k0_pay27 x)) (k0_pay29 (F := Ideal) (k0_pay25 x)) (ix2 r d)
      = kexp (amax (brow x r) * Ideal.ofBits .f32 0x3B124925#32) := by
  have e1 : k0_pay28 (F := Ideal) (k0_pay25 x) (k0_pay26 x) (k0_pay27 x) (ix2 r 0)
      = IntOp.subi (field (k0_pay25 (F := Ideal) x (ix2 r 0))) 126#32 := q_field x _
  have e2 : k0_pay29 (F := Ideal) (k0_pay25 x) (ix2 r 0)
      = Ideal.cmp .oeq (k0_pay25 (F := Ideal) x (ix2 r 0)) (Ideal.ofBits .f32 0x00000000#32) := rfl
  rw [Ideal.ofBits_zero .f32] at e2
  rw [pay25_at] at e1 e2
  unfold kexp
  rw [← e1, ← e2]
  generalize k0_pay28 (F := Ideal) (k0_pay25 x) (k0_pay26 x) (k0_pay27 x) = u
  generalize k0_pay29 (F := Ideal) (k0_pay25 x) = w
  pointwise [k0_pay30]

theorem q_code (x : Vec Ideal S1x256x128 .bf16) (r : Fin 256) (d : Fin 128) (h : Fits (-117) 117 (brow x r)) :
    k0_pay31 (F := Ideal) (k0_pay24 x) (k0_pay28 (k0_pay25 x) (k0_pay26 x) (k0_pay27 x)) (k0_pay29 (k0_pay25 x)) (ix2 r d)
      = rcode (brow x r) d := by
  rw [← h.kcode d, ← pay30_at x r d]
  generalize k0_pay28 (F := Ideal) (k0_pay25 x) (k0_pay26 x) (k0_pay27 x) = u
  generalize k0_pay29 (F := Ideal) (k0_pay25 x) = w
  unfold k0_pay31
  generalize k0_pay30 u w = z
  pointwise [k0_pay24]
  rfl

theorem q_scale (x : Vec Ideal S1x256x128 .bf16) (r : Fin 256) (d : Fin 128) (h : Fits (-117) 117 (brow x r)) :
    k0_pay32 (F := Ideal) (k0_pay28 (F := Ideal) (k0_pay25 x) (k0_pay26 x) (k0_pay27 x)) (k0_pay29 (F := Ideal) (k0_pay25 x)) (ix2 r d)
      = rscale (brow x r) := by
  rw [← h.kscale, ← pay30_at x r d]
  rfl

/-! ## The key block -/

theorem pay34_at (x : Vec Ideal S1x256x128 .bf16) (r : Fin 256) :
    k0_pay34 (F := Ideal) x (ix2 r 0) = amax (brow x r) * Ideal.ofBits .f32 0x3B124925#32 := by
  pointwise [k0_pay34, k0_pay33]
  rw [ofBits_ninf]
  rfl

theorem pay39_eq (x : Vec Ideal S1x256x128 .bf16) :
    k0_pay39 (F := Ideal) (k0_pay34 x) (k0_pay37 (F := Ideal) (k0_pay34 x) (k0_pay35 x) (k0_pay36 x)) (k0_pay38 (F := Ideal) (k0_pay34 x) (k0_pay35 x) (k0_pay36 x))
      = broadcastTo S256x128 (shapeCast S256x1 (select (cmpf .oeq (k0_pay34 (F := Ideal) x) (broadcast S256x1 (Ideal.ofBits .f32 0x00000000#32)))
          (broadcast S256x1 0#32) (subi (vstep (k0_pay34 (F := Ideal) x) 1#32 (vstep (k0_pay34 (F := Ideal) x) 2#32 (vstep (k0_pay34 (F := Ideal) x) 4#32 (vstep (k0_pay34 (F := Ideal) x) 8#32 (vstep (k0_pay34 (F := Ideal) x) 16#32 (vstep (k0_pay34 (F := Ideal) x) 32#32 (vstep (k0_pay34 (F := Ideal) x) 64#32 (vstep (k0_pay34 (F := Ideal) x) 128#32 (broadcast S256x1 0#32))))))))) (broadcast S256x1 126#32)))
          shapeCasts_S256x1_S256x1) broadcasts_S256x1_S256x128 := rfl

theorem pay39_at (x : Vec Ideal S1x256x128 .bf16) (r : Fin 256) (d : Fin 128) :
    k0_pay39 (F := Ideal) (k0_pay34 x) (k0_pay37 (F := Ideal) (k0_pay34 x) (k0_pay35 x) (k0_pay36 x)) (k0_pay38 (F := Ideal) (k0_pay34 x) (k0_pay35 x) (k0_pay36 x)) (ix2 r d)
      = kexp (amax (brow x r) * Ideal.ofBits .f32 0x3B124925#32) := by
  rw [← pay34_at, pay39_eq]
  generalize k0_pay34 (F := Ideal) x = y
  have e : (vstep y 1#32 (vstep y 2#32 (vstep y 4#32 (vstep y 8#32 (vstep y 16#32 (vstep y 32#32 (vstep y 64#32 (vstep y 128#32 (broadcast S256x1 0#32))))))))) (ix2 r 0) = field (y (ix2 r 0)) := by
    simp only [vstep_at]; rfl
  unfold kexp
  rw [← e, ← Ideal.ofBits_zero .f32]
  generalize (vstep y 1#32 (vstep y 2#32 (vstep y 4#32 (vstep y 8#32 (vstep y 16#32 (vstep y 32#32 (vstep y 64#32 (vstep y 128#32 (broadcast S256x1 0#32))))))))) = u
  pointwise []

theorem k_code (x : Vec Ideal S1x256x128 .bf16) (r : Fin 256) (d : Fin 128) (h : Fits (-117) 117 (brow x r)) :
    k0_pay40 (F := Ideal) (k0_pay33 x) (k0_pay34 x) (k0_pay37 (F := Ideal) (k0_pay34 x) (k0_pay35 x) (k0_pay36 x)) (k0_pay38 (F := Ideal) (k0_pay34 x) (k0_pay35 x) (k0_pay36 x)) (ix2 r d) = rcode (brow x r) d := by
  rw [← h.kcode d, ← pay39_at x r d]
  generalize (k0_pay37 (F := Ideal) (k0_pay34 x) (k0_pay35 x) (k0_pay36 x)) = u
  generalize (k0_pay38 (F := Ideal) (k0_pay34 x) (k0_pay35 x) (k0_pay36 x)) = w
  unfold k0_pay40
  generalize k0_pay39 (F := Ideal) (k0_pay34 x) u w = z
  pointwise [k0_pay33]
  rfl

theorem k_scale (x : Vec Ideal S1x256x128 .bf16) (r : Fin 256) (d : Fin 128) (h : Fits (-117) 117 (brow x r)) :
    k0_pay41 (F := Ideal) (k0_pay34 x) (k0_pay37 (F := Ideal) (k0_pay34 x) (k0_pay35 x) (k0_pay36 x)) (k0_pay38 (F := Ideal) (k0_pay34 x) (k0_pay35 x) (k0_pay36 x)) (ix2 r d) = rscale (brow x r) := by
  rw [← h.kscale, ← pay39_at x r d]
  rfl

/-! ## The value block -/

theorem pay43_at (x : Vec Ideal S1x256x128 .bf16) (r : Fin 256) :
    k0_pay43 (F := Ideal) x (ix2 r 0) = amax (brow x r) * Ideal.ofBits .f32 0x3B124925#32 := by
  pointwise [k0_pay43, k0_pay42]
  rw [ofBits_ninf]
  rfl

theorem pay45_eq (x : Vec Ideal S1x256x128 .bf16) :
    k0_pay45 (F := Ideal) (k0_pay43 x) (k0_pay44 (F := Ideal) x)
      = broadcastTo S256x128 (shapeCast S256x1 (select (cmpf .oeq (k0_pay43 (F := Ideal) x) (broadcast S256x1 (Ideal.ofBits .f32 0x00000000#32)))
          (broadcast S256x1 0#32) (subi (vstep (k0_pay43 (F := Ideal) x) 1#32 (vstep (k0_pay43 (F := Ideal) x) 2#32 (vstep (k0_pay43 (F := Ideal) x) 4#32 (vstep (k0_pay43 (F := Ideal) x) 8#32 (vstep (k0_pay43 (F := Ideal) x) 16#32 (vstep (k0_pay43 (F := Ideal) x) 32#32 (vstep (k0_pay43 (F := Ideal) x) 64#32 (vstep (k0_pay43 (F := Ideal) x) 128#32 (broadcast S256x1 0#32))))))))) (broadcast S256x1 126#32)))
          shapeCasts_S256x1_S256x1) broadcasts_S256x1_S256x128 := rfl

theorem pay45_at (x : Vec Ideal S1x256x128 .bf16) (r : Fin 256) (d : Fin 128) :
    k0_pay45 (F := Ideal) (k0_pay43 x) (k0_pay44 (F := Ideal) x) (ix2 r d)
      = kexp (amax (brow x r) * Ideal.ofBits .f32 0x3B124925#32) := by
  rw [← pay43_at, pay45_eq]
  generalize k0_pay43 (F := Ideal) x = y
  have e : (vstep y 1#32 (vstep y 2#32 (vstep y 4#32 (vstep y 8#32 (vstep y 16#32 (vstep y 32#32 (vstep y 64#32 (vstep y 128#32 (broadcast S256x1 0#32))))))))) (ix2 r 0) = field (y (ix2 r 0)) := by
    simp only [vstep_at]; rfl
  unfold kexp
  rw [← e, ← Ideal.ofBits_zero .f32]
  generalize (vstep y 1#32 (vstep y 2#32 (vstep y 4#32 (vstep y 8#32 (vstep y 16#32 (vstep y 32#32 (vstep y 64#32 (vstep y 128#32 (broadcast S256x1 0#32))))))))) = u
  pointwise []

theorem v_code (x : Vec Ideal S1x256x128 .bf16) (r : Fin 256) (d : Fin 128) (h : Fits (-117) 117 (brow x r)) :
    k0_pay46 (F := Ideal) (k0_pay42 x) (k0_pay45 (F := Ideal) (k0_pay43 x) (k0_pay44 (F := Ideal) x)) 0#32 (ix2 r d)
      = rcode (brow x r) d := by
  rw [← h.kcode d, ← pay45_at x r d]
  generalize k0_pay45 (F := Ideal) (k0_pay43 x) (k0_pay44 (F := Ideal) x) = z
  pointwise [k0_pay46, k0_pay42]
  rfl

theorem v_scale (x : Vec Ideal S1x256x128 .bf16) (r : Fin 256) (d : Fin 128) (h : Fits (-117) 117 (brow x r)) :
    k0_pay47 (F := Ideal) (k0_pay45 (F := Ideal) (k0_pay43 x) (k0_pay44 (F := Ideal) x)) (ix2 r d) = rscale (brow x r) := by
  rw [← h.kscale, ← pay45_at x r d]
  rfl

/-! ## The exponent words of the value blocks' scales -/

theorem pay63_eq (s : FVec Ideal S256x128 .f32) (y : FVec Ideal S8x128 .f32) :
    k0_pay63 (F := Ideal) s y (k0_pay62 (F := Ideal) y k0_pay61 128#32) 4#32
      = shapeCast S1x256x128 (mulf s (broadcastTo S256x128 (extractStridedSlice S1x128 ![0, 0] (bitcastToFloat (F := Ideal) .f32
          (shli (addi (subi (broadcast S8x128 0#32) (subi (vstep y 1#32 (vstep y 2#32 (vstep y 4#32 (vstep y 8#32 (vstep y 16#32 (vstep y 32#32 (vstep y 64#32 (vstep y 128#32 (broadcast S8x128 0#32))))))))) (broadcast S8x128 127#32)))
            (broadcast S8x128 127#32)) (broadcast S8x128 23#32))) slices_S8x128_o0_0_S1x128) broadcasts_S1x128_S256x128))
          shapeCasts_S256x128_S1x256x128 := rfl

theorem pay68_eq (y : Vec Ideal S8x128 .f32) :
    k0_pay68 (F := Ideal) y (k0_pay66 (F := Ideal) y) (k0_pay67 (F := Ideal) y) 16#32
      = shli (addi (subi (broadcast S8x128 127#32) (vstep y 1#32 (vstep y 2#32 (vstep y 4#32 (vstep y 8#32 (vstep y 16#32 (vstep y 32#32 (vstep y 64#32 (vstep y 128#32 (broadcast S8x128 0#32))))))))))
            (broadcast S8x128 127#32)) (broadcast S8x128 23#32) := rfl

end Cert.KernelIdeal.Val
-- ==== Proof.Lanes.lean ====
module

public import proofs.«01_k».proof.Proof.Scales

@[expose] public section
set_option maxHeartbeats 1000000
noncomputable section
namespace Cert.Lanes
open Idealize.ShloMosaic Cert.Scales

/-! The running sum and the two running maxima of one query, over chunks of 256 keys that the kernel folds as 32 groups
of 8 sublanes: `P c r` is the weight of key `r` of chunk `c`, `X c r` the exponent by which the key's value scale lies
under the largest one. -/

theorem sum_coe {ι : Type*} (s : Finset ι) (f : ι → ℝ) : (∑ x ∈ s, ((f x : ℝ) : EReal)) = ((∑ x ∈ s, f x : ℝ) : EReal) :=
  (map_sum (⟨⟨Real.toEReal, EReal.coe_zero⟩, EReal.coe_add⟩ : ℝ →+ EReal) f s).symm

theorem max_coe (x y : ℝ) : max (x : EReal) (y : EReal) = ((max x y : ℝ) : EReal) :=
  (EReal.coe_strictMono.monotone.map_max).symm

/-- The maximum of finitely many reals, folded from the bottom, is the largest of them. -/
theorem fold_max_coe {ι : Type*} (s : Finset ι) (hs : s.Nonempty) (f : ι → ℝ) :
    s.fold max ⊥ (fun x => ((f x : ℝ) : EReal)) = ((s.sup' hs f : ℝ) : EReal) := by
  induction hs using Finset.Nonempty.cons_induction with
  | singleton a => simp
  | cons a s h hs ih =>
    rw [Finset.fold_cons, ih, Finset.sup'_cons, max_coe]

/-- The maximum of powers of two is the power of the largest exponent. -/
theorem sup_pow {ι : Type*} (s : Finset ι) (hs : s.Nonempty) (e : ι → ℤ) :
    s.sup' hs (fun x => (2 : ℝ) ^ e x) = (2 : ℝ) ^ s.sup' hs e := by
  refine le_antisymm (Finset.sup'_le hs _ fun x hx => ?_) ?_
  · exact (two_zpow_le_iff _ _).2 (Finset.le_sup' e hx)
  · obtain ⟨x, hx, h⟩ := Finset.exists_mem_eq_sup' hs e
    rw [h]
    exact Finset.le_sup' (fun x => (2 : ℝ) ^ e x) hx

/-- Key `g * 8 + a` of a chunk: group `g`, sublane `a`. -/
def key (a : Fin 8) (g : Fin 32) : Fin 256 := ⟨g.val * 8 + a.val, by omega⟩

theorem sum_key (f : Fin 256 → ℝ) : (∑ a : Fin 8, ∑ g : Fin 32, f (key a g)) = ∑ r, f r := by
  rw [Finset.sum_comm, ← Fintype.sum_prod_type' (f := fun (g : Fin 32) (a : Fin 8) => f (key a g))]
  exact Fintype.sum_equiv (finProdFinEquiv (m := 32) (n := 8)) _ _ fun x => congrArg f (Fin.ext (by
    show x.1.val * 8 + x.2.val = x.2.val + 8 * x.1.val
    omega))

theorem key_surj (r : Fin 256) : ∃ a g, key a g = r :=
  ⟨⟨r.val % 8, by omega⟩, ⟨r.val / 8, by omega⟩, Fin.ext (by show r.val / 8 * 8 + r.val % 8 = r.val; omega)⟩

/-- What sublane `a` of a query's lane carries after `n` chunks: the sum of the weights, a bound of the weights, and a
bound of the weights times their scales that is neither above the first nor far below it. -/
def Lane (P : ℕ → Fin 256 → ℝ) (X : ℕ → Fin 256 → ℤ) (a : Fin 8) (n : ℕ) (l pm wm : EReal) : Prop :=
  ∃ p w : ℝ, l = ((∑ c ∈ Finset.range n, ∑ g, P c (key a g) : ℝ) : EReal) ∧ pm = (p : EReal) ∧ wm = (w : EReal) ∧ 0 ≤ p ∧ 0 ≤ w ∧
    w ≤ p ∧ p * (2 : ℝ) ^ (-100 : ℤ) ≤ w ∧ ∀ c < n, ∀ g, P c (key a g) ≤ p ∧ P c (key a g) * (2 : ℝ) ^ X c (key a g) ≤ w

theorem Lane.zero (P : ℕ → Fin 256 → ℝ) (X : ℕ → Fin 256 → ℤ) (a : Fin 8) : Lane P X a 0 0 0 0 :=
  ⟨0, 0, by simp, by simp, by simp, le_rfl, le_rfl, le_rfl, by simp, fun c h => absurd h (by omega)⟩

/-- One more chunk. -/
theorem Lane.succ {P : ℕ → Fin 256 → ℝ} {X : ℕ → Fin 256 → ℤ} {a : Fin 8} {n : ℕ} {l pm wm : EReal} (h : Lane P X a n l pm wm)
    (p vr : Fin 32 → EReal) (vf : EReal) (e : Fin 32 → ℤ) (b : ℤ) (hp : ∀ g, p g = ((P n (key a g) : ℝ) : EReal))
    (hvr : ∀ g, vr g = (((2 : ℝ) ^ e g : ℝ) : EReal)) (hvf : vf = (((2 : ℝ) ^ b : ℝ) : EReal)) (hx : ∀ g, e g + b = X n (key a g))
    (p0 : ∀ g, 0 ≤ P n (key a g)) (hX : ∀ g, -100 ≤ X n (key a g) ∧ X n (key a g) ≤ 0) :
    Lane P X a (n + 1) (l + ∑ g, p g) (max pm (Finset.univ.fold max ⊥ p)) (max wm (Finset.univ.fold max ⊥ (fun g => p g * vr g) * vf)) := by
  obtain ⟨q, w, hl, hq, hw, q0, w0, hwq, hqw, hb⟩ := h
  have ne : (Finset.univ : Finset (Fin 32)).Nonempty := ⟨0, Finset.mem_univ _⟩
  have e1 : p = fun g => ((P n (key a g) : ℝ) : EReal) := funext hp
  have e2 : (fun g => p g * vr g) = fun g => ((P n (key a g) * (2 : ℝ) ^ e g : ℝ) : EReal) := funext fun g => by
    rw [hp, hvr, EReal.coe_mul]
  rw [e2, fold_max_coe _ ne, e1, fold_max_coe _ ne, sum_coe, hl, hq, hw, hvf, ← EReal.coe_mul, max_coe, max_coe, ← EReal.coe_add]
  have key1 : ∀ g, P n (key a g) * (2 : ℝ) ^ e g * (2 : ℝ) ^ b = P n (key a g) * (2 : ℝ) ^ X n (key a g) := fun g => by
    rw [mul_assoc, ← zpow_add₀ (by norm_num : (2 : ℝ) ≠ 0), hx]
  have pb : (0 : ℝ) < (2 : ℝ) ^ b := by positivity
  have up : ∀ g, P n (key a g) * (2 : ℝ) ^ X n (key a g) ≤ P n (key a g) := fun g => by
    have : (2 : ℝ) ^ X n (key a g) ≤ 1 := by
      have := (two_zpow_le_iff (X n (key a g)) 0).2 (hX g).2
      simpa using this
    exact mul_le_of_le_one_right (p0 g) this
  have lo : ∀ g, P n (key a g) * (2 : ℝ) ^ (-100 : ℤ) ≤ P n (key a g) * (2 : ℝ) ^ X n (key a g) := fun g =>
    mul_le_mul_of_nonneg_left ((two_zpow_le_iff _ _).2 (hX g).1) (p0 g)
  have sup_le : ∀ g, P n (key a g) * (2 : ℝ) ^ X n (key a g)
      ≤ Finset.univ.sup' ne (fun g => P n (key a g) * (2 : ℝ) ^ e g) * (2 : ℝ) ^ b := fun g => by
    rw [← key1]
    exact mul_le_mul_of_nonneg_right (Finset.le_sup' (fun g => P n (key a g) * (2 : ℝ) ^ e g) (Finset.mem_univ g)) pb.le
  obtain ⟨g1, -, hg1⟩ := Finset.exists_mem_eq_sup' ne (fun g => P n (key a g) * (2 : ℝ) ^ e g)
  obtain ⟨g2, -, hg2⟩ := Finset.exists_mem_eq_sup' ne (fun g => P n (key a g))
  have le_sup : ∀ g, P n (key a g) ≤ Finset.univ.sup' ne (fun g => P n (key a g)) := fun g =>
    Finset.le_sup' (fun g => P n (key a g)) (Finset.mem_univ g)
  refine ⟨_, _, ?_, rfl, rfl, le_max_of_le_left q0, le_max_of_le_left w0, ?_, ?_, ?_⟩
  · rw [Finset.sum_range_succ]
  · refine max_le (le_max_of_le_left hwq) (le_max_of_le_right ?_)
    rw [hg1, key1]
    exact (up g1).trans (le_sup g1)
  · rw [max_mul_of_nonneg _ _ (by positivity)]
    refine max_le (le_max_of_le_left hqw) (le_max_of_le_right ?_)
    rw [hg2]
    exact (lo g2).trans (sup_le g2)
  · intro c hc g
    rcases Nat.lt_succ_iff_lt_or_eq.1 hc with h | rfl
    · exact ⟨le_max_of_le_left (hb c h g).1, le_max_of_le_left (hb c h g).2⟩
    · exact ⟨le_max_of_le_right (le_sup g), le_max_of_le_right (sup_le g)⟩

/-- What the eight sublanes of a query's lane amount to. -/
def Col (P : ℕ → Fin 256 → ℝ) (X : ℕ → Fin 256 → ℤ) (n : ℕ) (l pm wm : EReal) : Prop :=
  ∃ p w : ℝ, l = ((∑ c ∈ Finset.range n, ∑ r, P c r : ℝ) : EReal) ∧ pm = (p : EReal) ∧ wm = (w : EReal) ∧
    w ≤ p ∧ p * (2 : ℝ) ^ (-100 : ℤ) ≤ w ∧ ∀ c < n, ∀ r, P c r ≤ p ∧ P c r * (2 : ℝ) ^ X c r ≤ w

theorem Col.of_lanes {P : ℕ → Fin 256 → ℝ} {X : ℕ → Fin 256 → ℤ} {n : ℕ} {l pm wm : Fin 8 → EReal}
    (h : ∀ a, Lane P X a n (l a) (pm a) (wm a)) :
    Col P X n (∑ a, l a) (Finset.univ.fold max ⊥ pm) (Finset.univ.fold max ⊥ wm) := by
  choose p w hl hp hw p0 w0 hwp hpw hb using h
  have ne : (Finset.univ : Finset (Fin 8)).Nonempty := ⟨0, Finset.mem_univ _⟩
  have e1 : pm = fun a => ((p a : ℝ) : EReal) := funext hp
  have e2 : wm = fun a => ((w a : ℝ) : EReal) := funext hw
  have e3 : l = fun a => ((∑ c ∈ Finset.range n, ∑ g, P c (key a g) : ℝ) : EReal) := funext hl
  rw [e1, e2, e3, fold_max_coe _ ne, fold_max_coe _ ne, sum_coe]
  refine ⟨_, _, ?_, rfl, rfl, ?_, ?_, ?_⟩
  · rw [Finset.sum_comm]
    simp_rw [sum_key]
  · exact Finset.sup'_le ne _ fun a ha => (hwp a).trans (Finset.le_sup' p ha)
  · obtain ⟨a, ha, h⟩ := Finset.exists_mem_eq_sup' ne p
    rw [h]
    exact (hpw a).trans (Finset.le_sup' w ha)
  · intro c hc r
    obtain ⟨a, g, rfl⟩ := key_surj r
    exact ⟨(hb a c hc g).1.trans (Finset.le_sup' p (Finset.mem_univ a)), (hb a c hc g).2.trans (Finset.le_sup' w (Finset.mem_univ a))⟩

/-- The reciprocal of a bound of the weights. -/
theorem div_one_coe {p : ℝ} (hp : 0 < p) : Ideal.div 1 (p : EReal) = ((1 / p : ℝ) : EReal) := by
  rw [Ideal.div_coe hp.ne', one_mul]

/-- The exponent of a query's quantised weights. -/
theorem wexp {p w : ℝ} (hp : 0 < p) (hwp : w ≤ p) (hpw : p * (2 : ℝ) ^ (-100 : ℤ) ≤ w) :
    kexp ((w : EReal) * Ideal.div 1 (p : EReal) * Ideal.ofBits .f32 0x3B124925#32) = BitVec.ofInt 32 (expo (w / p)) ∧
      -108 ≤ expo (w / p) ∧ expo (w / p) ≤ -8 := by
  have h1 : (2 : ℝ) ^ (-100 : ℤ) ≤ w / p := by rw [le_div_iff₀ hp, mul_comm]; exact hpw
  have h2 : w / p ≤ (2 : ℝ) ^ (0 : ℤ) := by rw [zpow_zero, div_le_one hp]; exact hwp
  have h3 := expo_bounds h1 h2
  refine ⟨?_, by omega, by omega⟩
  rw [div_one_coe hp, ofBits_c0, ← EReal.coe_mul, ← EReal.coe_mul]
  rw [show w * (1 / p) * c0 = w / p * c0 by ring]
  refine kexp_eq (Or.inr ⟨le_trans ?_ h1, h2.trans ?_⟩)
  · exact (two_zpow_le_iff _ _).2 (by norm_num)
  · exact (two_zpow_le_iff _ _).2 (by norm_num)

/-- One chunk of the product with the values: the clip is never active. -/
theorem acc_succ {p w : ℝ} {E B T : ℤ} (P : Fin 256 → ℝ) (x : Fin 256 → ℤ) (V : Fin 256 → ℝ) (vt wb : Fin 256 → EReal) (q vb iv : EReal)
    (hp : 0 < p) (hE : E = expo (w / p)) (p0 : ∀ r, 0 ≤ P r) (hP : ∀ r, P r * (2 : ℝ) ^ (x r - T) ≤ w)
    (hvt : ∀ r, vt r = ((V r : ℝ) : EReal)) (hwb : ∀ r, wb r = ((P r * (2 : ℝ) ^ (x r - B) : ℝ) : EReal))
    (hq : q = ((1 / p * (2 : ℝ) ^ (-E) : ℝ) : EReal)) (hvb : vb = (((2 : ℝ) ^ B : ℝ) : EReal)) (hiv : iv = (((2 : ℝ) ^ (-T) : ℝ) : EReal)) :
    (∑ r, vt r * min (Ideal.ofBits .f32 0x43E00000#32) (max (Ideal.ofBits .f32 0xC3E00000#32) (wb r * (q * (vb * iv)))))
      = ((∑ r, V r * (P r * (2 : ℝ) ^ (x r - T) / p * (2 : ℝ) ^ (-E)) : ℝ) : EReal) := by
  rw [← sum_coe]
  refine Finset.sum_congr rfl fun r _ => ?_
  have e : wb r * (q * (vb * iv)) = ((P r * (2 : ℝ) ^ (x r - T) / p * (2 : ℝ) ^ (-E) : ℝ) : EReal) := by
    rw [hwb, hq, hvb, hiv, ← EReal.coe_mul, ← EReal.coe_mul, ← EReal.coe_mul]
    congr 1
    have : (2 : ℝ) ^ (x r - T) = (2 : ℝ) ^ (x r - B) * ((2 : ℝ) ^ B * (2 : ℝ) ^ (-T)) := by
      rw [← zpow_add₀ (by norm_num : (2 : ℝ) ≠ 0), ← zpow_add₀ (by norm_num : (2 : ℝ) ≠ 0)]
      congr 1; ring
    rw [this]; ring
  rw [e, ofBits_448, ofBits_neg448, clip_id, hvt, ← EReal.coe_mul]
  subst hE
  refine code_le ?_
  have : 0 ≤ P r * (2 : ℝ) ^ (x r - T) / p := div_nonneg (mul_nonneg (p0 r) (by positivity)) hp.le
  rw [abs_of_nonneg this]
  exact div_le_div_of_nonneg_right (hP r) hp.le

/-- The last step: the accumulated product, scaled back, is the weighted mean of the values. -/
theorem out_eq {p L : ℝ} {E T : ℤ} (n : ℕ) (P : ℕ → Fin 256 → ℝ) (x : ℕ → Fin 256 → ℤ) (V : ℕ → Fin 256 → ℝ) (hp : 0 < p) (hL : 0 < L) :
    ((∑ c ∈ Finset.range n, ∑ r, V c r * (2 : ℝ) ^ (-x c r) * (P c r * (2 : ℝ) ^ (x c r - T) / p * (2 : ℝ) ^ (-E)) : ℝ) : EReal)
        * (Ideal.div (p : EReal) (L : EReal) * (((2 : ℝ) ^ E : ℝ) : EReal)) * (((2 : ℝ) ^ T : ℝ) : EReal)
      = (((∑ c ∈ Finset.range n, ∑ r, P c r * V c r) / L : ℝ) : EReal) := by
  rw [Ideal.div_coe hL.ne', ← EReal.coe_mul, ← EReal.coe_mul, ← EReal.coe_mul, ← EReal.coe_mul]
  congr 1
  rw [Finset.sum_mul, Finset.sum_mul, Finset.sum_div]
  refine Finset.sum_congr rfl fun c _ => ?_
  rw [Finset.sum_mul, Finset.sum_mul, Finset.sum_div]
  refine Finset.sum_congr rfl fun r _ => ?_
  have h2 : (2 : ℝ) ^ (x c r - T) = (2 : ℝ) ^ x c r / (2 : ℝ) ^ T := zpow_sub₀ (by norm_num) _ _
  rw [h2, zpow_neg, zpow_neg]
  have a1 : (2 : ℝ) ^ x c r ≠ 0 := by positivity
  have a2 : (2 : ℝ) ^ T ≠ 0 := by positivity
  have a3 : (2 : ℝ) ^ E ≠ 0 := by positivity
  field_simp

end Cert.Lanes
-- ==== Proof.KernelIdealScore.lean ====
module

public import proofs.«01_k».proof.Proof.KernelIdealQuant
public import proofs.«01_k».proof.Proof.Lanes
public import Idealize.ShloMosaic.Lib.WordCmp

@[expose] public section
set_option maxHeartbeats 1000000
set_option maxRecDepth 100000
noncomputable section
namespace Cert.KernelIdeal.Val
open Idealize.ShloMosaic Idealize.ShloMosaic.Pointwise
open Cert.KernelIdeal Cert.KernelIdeal.Gen Cert.KernelIdeal.Facts Cert.Scales Cert.Lanes

/-! ## The weight of a key for a query -/

/-- The scaled inner product of a query row and a key row, over the cap. -/
def score (q k : Fin 128 → EReal) : ℝ := (∑ d, (q d).toReal * (k d).toReal) * ((Real.sqrt 128)⁻¹ * (1 / 50))

/-- The weight of a key: the exponential of the capped score. -/
def wt (q k : Fin 128 → EReal) : ℝ := Real.exp (50 * Real.tanh (score q k))

theorem wt_pos (q k : Fin 128 → EReal) : 0 < wt q k := Real.exp_pos _

/-- Codes times codes times scales is the inner product of the rows. -/
theorem score_eq (q k : Fin 128 → EReal) (sf : EReal) (hsf : sf = Named.named (F := Ideal) κ "score_factor" (φ := .f32) 988263530#32) :
    (∑ d, rcode k d * rcode q d) * (rscale q * sf) * rscale k = ((score q k : ℝ) : EReal) := by
  rw [hsf, IdealRules.named_const.ideal_named_scalar κ "score_factor" _ (((Real.sqrt 128)⁻¹ * (1 / 50) : ℝ) : EReal) rfl]
  unfold rcode rscale score
  simp only [← EReal.coe_mul]
  rw [sum_coe, ← EReal.coe_mul, ← EReal.coe_mul]
  congr 1
  have h2 : ∀ e : ℤ, (2 : ℝ) ^ (-e) * (2 : ℝ) ^ e = 1 := fun e => by
    rw [← zpow_add₀ (by norm_num : (2 : ℝ) ≠ 0), neg_add_cancel, zpow_zero]
  rw [Finset.sum_mul, Finset.sum_mul, Finset.sum_mul]
  refine Finset.sum_congr rfl fun d _ => ?_
  linear_combination ((q d).toReal * (k d).toReal * ((Real.sqrt 128)⁻¹ * (1 / 50)) * (2 : ℝ) ^ (-rexp k) * (2 : ℝ) ^ (rexp k)) * h2 (rexp q)
    + ((q d).toReal * (k d).toReal * ((Real.sqrt 128)⁻¹ * (1 / 50))) * h2 (rexp k)

theorem weight_eq (q k : Fin 128 → EReal) :
    FloatOps.exp2 (F := Ideal) (φ := .f32) (Ideal.tanh ((score q k : ℝ) : EReal) * Named.named (F := Ideal) κ "cap_log2e" (φ := .f32) 1116751102#32)
      = ((wt q k : ℝ) : EReal) := by
  rw [IdealRules.named_const.ideal_named_scalar κ "cap_log2e" _ ((50 * (Real.log 2)⁻¹ : ℝ) : EReal) rfl, Ideal.tanh_coe, ← EReal.coe_mul]
  show Ideal.exp2 _ = _
  rw [Ideal.exp2_coe]
  congr 1
  show (2 : ℝ) ^ (Real.tanh (score q k) * (50 * (Real.log 2)⁻¹) : ℝ) = _
  rw [Real.rpow_def_of_pos (by norm_num)]
  unfold wt
  congr 1
  have : Real.log 2 ≠ 0 := (Real.log_pos (by norm_num)).ne'
  field_simp

/-- Column `l` of the first half, and of the second half, of the 256 queries. -/
def lo (l : Fin 128) : Fin 256 := ⟨l.val, by omega⟩
def hi (l : Fin 128) : Fin 256 := ⟨128 + l.val, by omega⟩

section Chunk
variable {v101 : FVec Ideal S256x128 .fp8e4m3} {v331 : FVec Ideal S1x256 .f32} {v767 : Vec Ideal S1x256x128 .fp8e4m3} {v771 : Vec Ideal S1x256x128 .f32}
  {Q K : Fin 256 → Fin 128 → EReal}

theorem raw_score (hq : ∀ r d, v101 (ix2 r d) = rcode (Q r) d) (hr : ∀ j, v331 (ix2 0 j) = rscale (Q j))
    (hk : ∀ r d, v767 (ix3 0 r d) = rcode (K r) d) (hs : ∀ r l, v771 (ix3 0 r l) = rscale (K r)) (r j : Fin 256) (l : Fin 128) :
    k0_pay2 v101 v767 (ix2 r j) * k0_pay70 v331 (ix2 0 j) * k0_pay3 v771 (ix2 r l) = ((score (Q j) (K r) : ℝ) : EReal) := by
  have e1 : k0_pay2 v101 v767 (ix2 r j) = ∑ d, rcode (K r) d * rcode (Q j) d := by
    pointwise [k0_pay2]
    exact Finset.sum_congr rfl fun d _ => by rw [hk, hq]
  have e2 : k0_pay70 v331 (ix2 0 j) = rscale (Q j) * Named.named (F := Ideal) κ "score_factor" (φ := .f32) 988263530#32 := by
    pointwise [k0_pay70]
    rw [hr]
  have e3 : k0_pay3 v771 (ix2 r l) = rscale (K r) := by
    pointwise [k0_pay3]
    exact hs r l
  rw [e1, e2, e3]
  exact score_eq _ _ _ rfl

theorem pay6_at (hq : ∀ r d, v101 (ix2 r d) = rcode (Q r) d) (hr : ∀ j, v331 (ix2 0 j) = rscale (Q j))
    (hk : ∀ r d, v767 (ix3 0 r d) = rcode (K r) d) (hs : ∀ r l, v771 (ix3 0 r l) = rscale (K r)) (r : Fin 256) (l : Fin 128) :
    k0_pay6 v101 (k0_pay70 v331) v767 v771 (ix2 r l) = ((wt (Q (lo l)) (K r) : ℝ) : EReal) := by
  rw [← weight_eq, ← raw_score hq hr hk hs r (lo l) l]
  pointwise [k0_pay6]
  rfl

theorem pay72_at (hq : ∀ r d, v101 (ix2 r d) = rcode (Q r) d) (hr : ∀ j, v331 (ix2 0 j) = rscale (Q j))
    (hk : ∀ r d, v767 (ix3 0 r d) = rcode (K r) d) (hs : ∀ r l, v771 (ix3 0 r l) = rscale (K r)) (r : Fin 256) (l : Fin 128) :
    k0_pay72 (k0_pay12 v101 (k0_pay70 v331) v767 v771) (ix2 r l) = ((wt (Q (hi l)) (K r) : ℝ) : EReal) := by
  rw [← weight_eq, ← raw_score hq hr hk hs r (hi l) l]
  pointwise [k0_pay72, k0_pay12]
  rfl

theorem mask_word (r l o : ℕ) (hr : r < 256) (hl : l < 128) (ho : o ≤ 128) :
    IntOp.cmpi .sle (BitVec.ofNat 32 r) (IntOp.addi (BitVec.ofNat 32 l) (BitVec.ofNat 32 o)) = BitVec.ofBool (decide (r ≤ o + l)) := by
  have e : IntOp.addi (BitVec.ofNat 32 l) (BitVec.ofNat 32 o) = BitVec.ofNat 32 (o + l) := by
    show BitVec.ofNat 32 l + BitVec.ofNat 32 o = _
    rw [← BitVec.ofNat_add, Nat.add_comm]
  rw [e]
  exact WordCmp.cmpi_sle_ofNat (by norm_num; omega) (by norm_num; omega)

/-- The masked weight of key `r` of the diagonal chunk for query `j` of the block. -/
def mwt (Q K : Fin 256 → Fin 128 → EReal) (j r : Fin 256) : ℝ := if r.val ≤ j.val then wt (Q j) (K r) else 0

theorem select_mask (r l o : ℕ) (hr : r < 256) (hl : l < 128) (ho : o ≤ 128) (w : ℝ) :
    Scalar.select (IntOp.cmpi .sle (BitVec.ofNat 32 r) (IntOp.addi (BitVec.ofNat 32 l) (BitVec.ofNat 32 o))) ((w : ℝ) : EReal) 0
      = ((if r ≤ o + l then w else 0 : ℝ) : EReal) := by
  rw [mask_word r l o hr hl ho]
  by_cases h : r ≤ o + l <;> simp [h, Scalar.select]

theorem pay88_at (hq : ∀ r d, v101 (ix2 r d) = rcode (Q r) d) (hr : ∀ j, v331 (ix2 0 j) = rscale (Q j))
    (hk : ∀ r d, v767 (ix3 0 r d) = rcode (K r) d) (hs : ∀ r l, v771 (ix3 0 r l) = rscale (K r)) (r : Fin 256) (l : Fin 128) :
    k0_pay88 v101 v331 v767 v771 (ix2 r l) = ((mwt Q K (lo l) r : ℝ) : EReal) := by
  have e := select_mask r.val l.val 0 r.isLt l.isLt (by omega) (wt (Q (lo l)) (K r))
  rw [← weight_eq, ← raw_score hq hr hk hs r (lo l) l] at e
  rw [Nat.zero_add] at e
  refine Eq.trans ?_ e
  pointwise [k0_pay88]
  rfl

theorem pay95_at (hq : ∀ r d, v101 (ix2 r d) = rcode (Q r) d) (hr : ∀ j, v331 (ix2 0 j) = rscale (Q j))
    (hk : ∀ r d, v767 (ix3 0 r d) = rcode (K r) d) (hs : ∀ r l, v771 (ix3 0 r l) = rscale (K r)) (r : Fin 256) (l : Fin 128) :
    k0_pay95 (k0_pay70 v331) (k0_pay84 v101 v767) (k0_pay85 v771) (ix2 r l) = ((mwt Q K (hi l) r : ℝ) : EReal) := by
  have e := select_mask r.val l.val 128 r.isLt l.isLt (by omega) (wt (Q (hi l)) (K r))
  rw [← weight_eq, ← raw_score hq hr hk hs r (hi l) l] at e
  refine Eq.trans ?_ e
  pointwise [k0_pay95]
  rfl

end Chunk

/-! ## The carried sums and maxima over the chunks -/

/-- What the loop over the chunks carries for the 256 queries, as two halves of 8x128 lanes. -/
def Carry (P : Fin 256 → ℕ → Fin 256 → ℝ) (X : ℕ → Fin 256 → ℤ) (n : ℕ)
    (acc : FVec Ideal S8x128 .f32 × FVec Ideal S8x128 .f32 × FVec Ideal S8x128 .f32 × FVec Ideal S8x128 .f32 × FVec Ideal S8x128 .f32 × FVec Ideal S8x128 .f32) : Prop :=
  ∀ (a : Fin 8) (l : Fin 128), Lane (P (lo l)) X a n (acc.1 (ix2 a l)) (acc.2.1 (ix2 a l)) (acc.2.2.1 (ix2 a l)) ∧
    Lane (P (hi l)) X a n (acc.2.2.2.1 (ix2 a l)) (acc.2.2.2.2.1 (ix2 a l)) (acc.2.2.2.2.2 (ix2 a l))

section Step
variable {v101 : FVec Ideal S256x128 .fp8e4m3} {v331 : FVec Ideal S1x256 .f32} {v767 : Vec Ideal S1x256x128 .fp8e4m3} {v771 v774 : Vec Ideal S1x256x128 .f32}
  {v777 : Vec Ideal S1x8x128 .f32} {v545 : FVec Ideal S8x128 .f32} {Q K V : Fin 256 → Fin 128 → EReal}
  {P : Fin 256 → ℕ → Fin 256 → ℝ} {X : ℕ → Fin 256 → ℤ} {n : ℕ} {B T : ℤ}
  {acc : FVec Ideal S8x128 .f32 × FVec Ideal S8x128 .f32 × FVec Ideal S8x128 .f32 × FVec Ideal S8x128 .f32 × FVec Ideal S8x128 .f32 × FVec Ideal S8x128 .f32}

/-- One chunk below the diagonal. -/
theorem Carry.step (h : Carry P X n acc) (hq : ∀ r d, v101 (ix2 r d) = rcode (Q r) d) (hr : ∀ j, v331 (ix2 0 j) = rscale (Q j))
    (hk : ∀ r d, v767 (ix3 0 r d) = rcode (K r) d) (hs : ∀ r l, v771 (ix3 0 r l) = rscale (K r))
    (hv : ∀ r l, v774 (ix3 0 r l) = (((2 : ℝ) ^ (rexp (V r) - B) : ℝ) : EReal)) (hb : ∀ a l, v777 (ix3 0 a l) = (((2 : ℝ) ^ B : ℝ) : EReal))
    (hT : ∀ a l, v545 (ix2 a l) = (((2 : ℝ) ^ (-T) : ℝ) : EReal)) (hP : ∀ j r, P j n r = wt (Q j) (K r)) (hX : ∀ r, X n r = rexp (V r) - T)
    (hX0 : ∀ r, -100 ≤ X n r ∧ X n r ≤ 0) :
    Carry P X (n + 1) (k0_pay7 v101 (k0_pay70 v331) acc.1 v767 v771, k0_pay8 v101 (k0_pay70 v331) acc.2.1 v767 v771,
      k0_pay10 v101 v545 (k0_pay70 v331) acc.2.2.1 v767 v771 v774 v777,
      k0_pay73 acc.2.2.2.1 (k0_pay12 v101 (k0_pay70 v331) v767 v771), k0_pay74 acc.2.2.2.2.1 (k0_pay12 v101 (k0_pay70 v331) v767 v771),
      k0_pay76 acc.2.2.2.2.2 (k0_pay4 v774) (k0_pay5 v545 v777) (k0_pay12 v101 (k0_pay70 v331) v767 v771)) := by
  intro a l
  have hvf : v777 (ix3 0 a l) * v545 (ix2 a l) = (((2 : ℝ) ^ (B - T) : ℝ) : EReal) := by
    rw [hb, hT, ← EReal.coe_mul, ← zpow_add₀ (by norm_num : (2 : ℝ) ≠ 0), sub_eq_add_neg]
  constructor
  · have s := (h a l).1.succ (fun g => k0_pay6 v101 (k0_pay70 v331) v767 v771 (ix2 (key a g) l)) (fun g => v774 (ix3 0 (key a g) l))
      (v777 (ix3 0 a l) * v545 (ix2 a l)) (fun g => rexp (V (key a g)) - B) (B - T)
      (fun g => by rw [pay6_at hq hr hk hs, hP]) (fun g => hv _ _) hvf (fun g => by rw [hX]; ring) (fun g => by rw [hP]; exact (wt_pos _ _).le) (fun g => hX0 _)
    have e1 : k0_pay7 v101 (k0_pay70 v331) acc.1 v767 v771 (ix2 a l)
        = acc.1 (ix2 a l) + ∑ g, k0_pay6 v101 (k0_pay70 v331) v767 v771 (ix2 (key a g) l) := by
      pointwise [k0_pay7]
      rfl
    have e2 : k0_pay8 v101 (k0_pay70 v331) acc.2.1 v767 v771 (ix2 a l)
        = max (acc.2.1 (ix2 a l)) (Finset.univ.fold max ⊥ fun g => k0_pay6 v101 (k0_pay70 v331) v767 v771 (ix2 (key a g) l)) := by
      rw [← ofBits_ninf]
      pointwise [k0_pay8]
      rfl
    have e3 : k0_pay10 v101 v545 (k0_pay70 v331) acc.2.2.1 v767 v771 v774 v777 (ix2 a l)
        = max (acc.2.2.1 (ix2 a l)) (Finset.univ.fold max ⊥ (fun g => k0_pay6 v101 (k0_pay70 v331) v767 v771 (ix2 (key a g) l) * v774 (ix3 0 (key a g) l))
            * (v777 (ix3 0 a l) * v545 (ix2 a l))) := by
      rw [← ofBits_ninf]
      pointwise [k0_pay10, k0_pay9, k0_pay5, k0_pay4]
      rfl
    rw [← e1, ← e2, ← e3] at s
    exact s
  · have s := (h a l).2.succ (fun g => k0_pay72 (k0_pay12 v101 (k0_pay70 v331) v767 v771) (ix2 (key a g) l)) (fun g => v774 (ix3 0 (key a g) l))
      (v777 (ix3 0 a l) * v545 (ix2 a l)) (fun g => rexp (V (key a g)) - B) (B - T)
      (fun g => by rw [pay72_at hq hr hk hs, hP]) (fun g => hv _ _) hvf (fun g => by rw [hX]; ring) (fun g => by rw [hP]; exact (wt_pos _ _).le) (fun g => hX0 _)
    generalize k0_pay12 v101 (k0_pay70 v331) v767 v771 = u at s ⊢
    have e1 : k0_pay73 acc.2.2.2.1 u (ix2 a l) = acc.2.2.2.1 (ix2 a l) + ∑ g, k0_pay72 u (ix2 (key a g) l) := by
      pointwise [k0_pay73]
      rfl
    have e2 : k0_pay74 acc.2.2.2.2.1 u (ix2 a l)
        = max (acc.2.2.2.2.1 (ix2 a l)) (Finset.univ.fold max ⊥ fun g => k0_pay72 u (ix2 (key a g) l)) := by
      rw [← ofBits_ninf]
      pointwise [k0_pay74]
      rfl
    have e3 : k0_pay76 acc.2.2.2.2.2 (k0_pay4 v774) (k0_pay5 v545 v777) u (ix2 a l)
        = max (acc.2.2.2.2.2 (ix2 a l)) (Finset.univ.fold max ⊥ (fun g => k0_pay72 u (ix2 (key a g) l) * v774 (ix3 0 (key a g) l))
            * (v777 (ix3 0 a l) * v545 (ix2 a l))) := by
      rw [← ofBits_ninf]
      pointwise [k0_pay76, k0_pay75, k0_pay5, k0_pay4]
      rfl
    rw [← e1, ← e2, ← e3] at s
    exact s

theorem mwt_nonneg (Q K : Fin 256 → Fin 128 → EReal) (j r : Fin 256) : 0 ≤ mwt Q K j r := by
  unfold mwt
  split
  · exact (wt_pos _ _).le
  · exact le_rfl

/-- The diagonal chunk, with its mask. -/
theorem Carry.diag {v544 : IVec S8x128 32} (h : Carry P X n acc) (hq : ∀ r d, v101 (ix2 r d) = rcode (Q r) d) (hr : ∀ j, v331 (ix2 0 j) = rscale (Q j))
    (hk : ∀ r d, v767 (ix3 0 r d) = rcode (K r) d) (hs : ∀ r l, v771 (ix3 0 r l) = rscale (K r))
    (hv : ∀ r l, v774 (ix3 0 r l) = (((2 : ℝ) ^ (rexp (V r) - B) : ℝ) : EReal)) (hb : ∀ a l, v777 (ix3 0 a l) = (((2 : ℝ) ^ B : ℝ) : EReal))
    (hT : ∀ a l, k0_pay69 (F := Ideal) v544 (ix2 a l) = (((2 : ℝ) ^ (-T) : ℝ) : EReal)) (hP : ∀ j r, P j n r = mwt Q K j r) (hX : ∀ r, X n r = rexp (V r) - T)
    (hX0 : ∀ r, -100 ≤ X n r ∧ X n r ≤ 0) :
    Carry P X (n + 1) (k0_pay90 acc.1 (k0_pay89 v101 v331 v767 v771), k0_pay91 acc.2.1 (k0_pay88 v101 v331 v767 v771),
      k0_pay93 acc.2.2.1 (k0_pay86 v774) (k0_pay87 v544 v777) (k0_pay88 v101 v331 v767 v771),
      k0_pay96 (k0_pay70 v331) acc.2.2.2.1 (k0_pay84 v101 v767) (k0_pay85 v771), k0_pay97 (k0_pay70 v331) acc.2.2.2.2.1 (k0_pay84 v101 v767) (k0_pay85 v771),
      k0_pay99 (k0_pay70 v331) acc.2.2.2.2.2 (k0_pay84 v101 v767) (k0_pay85 v771) (k0_pay86 v774) (k0_pay87 v544 v777)) := by
  intro a l
  have hvf : v777 (ix3 0 a l) * k0_pay69 (F := Ideal) v544 (ix2 a l) = (((2 : ℝ) ^ (B - T) : ℝ) : EReal) := by
    rw [hb, hT, ← EReal.coe_mul, ← zpow_add₀ (by norm_num : (2 : ℝ) ≠ 0), sub_eq_add_neg]
  constructor
  · have s := (h a l).1.succ (fun g => k0_pay88 v101 v331 v767 v771 (ix2 (key a g) l)) (fun g => v774 (ix3 0 (key a g) l))
      (v777 (ix3 0 a l) * k0_pay69 (F := Ideal) v544 (ix2 a l)) (fun g => rexp (V (key a g)) - B) (B - T)
      (fun g => by rw [pay88_at hq hr hk hs, hP]) (fun g => hv _ _) hvf (fun g => by rw [hX]; ring) (fun g => by rw [hP]; exact mwt_nonneg _ _ _ _) (fun g => hX0 _)
    have e1 : k0_pay90 acc.1 (k0_pay89 v101 v331 v767 v771) (ix2 a l)
        = acc.1 (ix2 a l) + ∑ g, k0_pay88 v101 v331 v767 v771 (ix2 (key a g) l) := by
      unfold k0_pay89
      generalize k0_pay88 v101 v331 v767 v771 = u
      pointwise [k0_pay90]
      rfl
    generalize k0_pay88 v101 v331 v767 v771 = u at s e1 ⊢
    have e2 : k0_pay91 acc.2.1 u (ix2 a l)
        = max (acc.2.1 (ix2 a l)) (Finset.univ.fold max ⊥ fun g => u (ix2 (key a g) l)) := by
      rw [← ofBits_ninf]
      pointwise [k0_pay91]
      rfl
    have e3 : k0_pay93 acc.2.2.1 (k0_pay86 v774) (k0_pay87 v544 v777) u (ix2 a l)
        = max (acc.2.2.1 (ix2 a l)) (Finset.univ.fold max ⊥ (fun g => u (ix2 (key a g) l) * v774 (ix3 0 (key a g) l))
            * (v777 (ix3 0 a l) * k0_pay69 (F := Ideal) v544 (ix2 a l))) := by
      rw [← ofBits_ninf]
      pointwise [k0_pay93, k0_pay92, k0_pay86, k0_pay87]
      rfl
    rw [← e1, ← e2, ← e3] at s
    exact s
  · have s := (h a l).2.succ (fun g => k0_pay95 (k0_pay70 v331) (k0_pay84 v101 v767) (k0_pay85 v771) (ix2 (key a g) l)) (fun g => v774 (ix3 0 (key a g) l))
      (v777 (ix3 0 a l) * k0_pay69 (F := Ideal) v544 (ix2 a l)) (fun g => rexp (V (key a g)) - B) (B - T)
      (fun g => by rw [pay95_at hq hr hk hs, hP]) (fun g => hv _ _) hvf (fun g => by rw [hX]; ring) (fun g => by rw [hP]; exact mwt_nonneg _ _ _ _) (fun g => hX0 _)
    generalize k0_pay70 v331 = u1 at s ⊢
    generalize k0_pay84 v101 v767 = u2 at s ⊢
    generalize k0_pay85 v771 = u3 at s ⊢
    have e1 : k0_pay96 u1 acc.2.2.2.1 u2 u3 (ix2 a l) = acc.2.2.2.1 (ix2 a l) + ∑ g, k0_pay95 u1 u2 u3 (ix2 (key a g) l) := by
      pointwise [k0_pay96]
      rfl
    have e2 : k0_pay97 u1 acc.2.2.2.2.1 u2 u3 (ix2 a l)
        = max (acc.2.2.2.2.1 (ix2 a l)) (Finset.univ.fold max ⊥ fun g => k0_pay95 u1 u2 u3 (ix2 (key a g) l)) := by
      rw [← ofBits_ninf]
      pointwise [k0_pay97]
      rfl
    have e3 : k0_pay99 u1 acc.2.2.2.2.2 u2 u3 (k0_pay86 v774) (k0_pay87 v544 v777) (ix2 a l)
        = max (acc.2.2.2.2.2 (ix2 a l)) (Finset.univ.fold max ⊥ (fun g => k0_pay95 u1 u2 u3 (ix2 (key a g) l) * v774 (ix3 0 (key a g) l))
            * (v777 (ix3 0 a l) * k0_pay69 (F := Ideal) v544 (ix2 a l))) := by
      rw [← ofBits_ninf]
      pointwise [k0_pay99, k0_pay98, k0_pay86, k0_pay87]
      rfl
    rw [← e1, ← e2, ← e3] at s
    exact s

end Step

end Cert.KernelIdeal.Val
-- ==== Proof.KernelIdealOut.lean ====
module

public import proofs.«01_k».proof.Proof.KernelIdealScore

@[expose] public section
set_option maxHeartbeats 400000
set_option maxRecDepth 100000
noncomputable section
namespace Cert.KernelIdeal.Val
open Idealize.ShloMosaic Idealize.ShloMosaic.Pointwise
open Cert.KernelIdeal Cert.KernelIdeal.Gen Cert.KernelIdeal.Facts Cert.Scales Cert.Lanes

/-! ## The value blocks' largest scale -/

/-- The largest exponent of a block. -/
def btop (e : Fin 256 → ℤ) : ℤ := Finset.univ.sup' ⟨0, Finset.mem_univ _⟩ e

theorem le_btop (e : Fin 256 → ℤ) (r : Fin 256) : e r ≤ btop e := Finset.le_sup' e (Finset.mem_univ r)

theorem btop_mem (e : Fin 256 → ℤ) : ∃ r, btop e = e r := by
  obtain ⟨r, -, h⟩ := Finset.exists_mem_eq_sup' (⟨0, Finset.mem_univ _⟩ : (Finset.univ : Finset (Fin 256)).Nonempty) e
  exact ⟨r, h⟩

theorem pay59_fold (s : FVec Ideal S256x128 .f32) (a : Fin 8) (l : Fin 128) :
    k0_pay59 (F := Ideal) s (ix2 a l)
      = Finset.univ.fold max (Ideal.ofBits .f32 4286578688#32) (fun a : Fin 8 => Finset.univ.fold max (Ideal.ofBits .f32 4286578688#32) (fun g : Fin 32 => s (ix2 (key a g) l))) := by
  pointwise [k0_pay59]
  rfl

theorem sup_sup {n32 : (Finset.univ : Finset (Fin 32)).Nonempty} {n8 : (Finset.univ : Finset (Fin 8)).Nonempty} (e : Fin 256 → ℤ) :
    (Finset.univ.sup' n8 fun a => Finset.univ.sup' n32 fun g => e (key a g)) = btop e := by
  apply le_antisymm
  · exact Finset.sup'_le n8 _ fun a _ => Finset.sup'_le n32 _ fun g _ => le_btop e _
  · obtain ⟨r, h⟩ := btop_mem e
    obtain ⟨a, g, hr⟩ := key_surj r
    rw [h, ← hr]
    exact (Finset.le_sup' (fun g => e (key a g)) (Finset.mem_univ g)).trans
      (Finset.le_sup' (fun a => Finset.univ.sup' n32 fun g => e (key a g)) (Finset.mem_univ a))

theorem fold_fold_pow (e : Fin 256 → ℤ) :
    Finset.univ.fold max ⊥ (fun a : Fin 8 => Finset.univ.fold max ⊥ (fun g : Fin 32 => (((2 : ℝ) ^ e (key a g) : ℝ) : EReal)))
      = (((2 : ℝ) ^ btop e : ℝ) : EReal) := by
  have n32 : (Finset.univ : Finset (Fin 32)).Nonempty := Finset.univ_nonempty
  have n8 : (Finset.univ : Finset (Fin 8)).Nonempty := Finset.univ_nonempty
  have e1 : (fun a : Fin 8 => Finset.univ.fold max ⊥ (fun g : Fin 32 => (((2 : ℝ) ^ e (key a g) : ℝ) : EReal)))
      = fun a : Fin 8 => (((2 : ℝ) ^ Finset.univ.sup' n32 (fun g => e (key a g)) : ℝ) : EReal) := funext fun a => by
    rw [fold_max_coe _ n32, sup_pow _ n32]
  rw [e1, fold_max_coe _ n8, sup_pow _ n8, sup_sup]

theorem pay59_at (s : FVec Ideal S256x128 .f32) (V : Fin 256 → Fin 128 → EReal) (hs : ∀ r l, s (ix2 r l) = rscale (V r)) (a : Fin 8) (l : Fin 128) :
    k0_pay59 (F := Ideal) s (ix2 a l) = (((2 : ℝ) ^ btop (fun r => rexp (V r)) : ℝ) : EReal) := by
  rw [pay59_fold, ← fold_fold_pow]
  simp only [hs]
  rw [ofBits_ninf]
  rfl

theorem pay60_at (s : FVec Ideal S256x128 .f32) (a : Fin 8) (l : Fin 128) :
    k0_pay60 (F := Ideal) s (ix3 0 a l) = k0_pay59 (F := Ideal) s (ix2 a l) := by
  pointwise [k0_pay60]

theorem ofNat_sub_127 (e : ℤ) (h0 : -126 ≤ e) : IntOp.subi (BitVec.ofNat 32 (e + 127).toNat) 127#32 = BitVec.ofInt 32 e := by
  have : BitVec.ofNat 32 (e + 127).toNat = BitVec.ofInt 32 (e + 127) := by
    rw [← BitVec.ofInt_natCast, Int.toNat_of_nonneg (by omega)]
  rw [this, show (127#32) = BitVec.ofInt 32 127 from rfl]
  show BitVec.ofInt 32 (e + 127) - BitVec.ofInt 32 127 = _
  rw [BitVec.sub_eq_add_neg, ← BitVec.ofInt_neg, ← BitVec.ofInt_add]; congr 1; ring

theorem sub_ofNat_127 (e : ℤ) (h0 : -126 ≤ e) : IntOp.subi 127#32 (BitVec.ofNat 32 (e + 127).toNat) = BitVec.ofInt 32 (-e) := by
  have : BitVec.ofNat 32 (e + 127).toNat = BitVec.ofInt 32 (e + 127) := by
    rw [← BitVec.ofInt_natCast, Int.toNat_of_nonneg (by omega)]
  rw [this, show (127#32) = BitVec.ofInt 32 127 from rfl]
  show BitVec.ofInt 32 127 - BitVec.ofInt 32 (e + 127) = _
  rw [BitVec.sub_eq_add_neg, ← BitVec.ofInt_neg, ← BitVec.ofInt_add]; congr 1; ring

theorem field_pow (e : ℤ) (h0 : -126 ≤ e) (h1 : e ≤ 127) : field (((2 : ℝ) ^ e : ℝ) : EReal) = BitVec.ofNat 32 (e + 127).toNat :=
  field_real _ e h0 h1 le_rfl ((two_zpow_lt_iff _ _).2 (by omega))

/-- The value scales stored are the scales over the block's largest one. -/
theorem pay63_at (s : FVec Ideal S256x128 .f32) (V : Fin 256 → Fin 128 → EReal) (hs : ∀ r l, s (ix2 r l) = rscale (V r)) (B : ℤ)
    (hB : B = btop fun r => rexp (V r)) (h0 : -100 ≤ B) (h1 : B ≤ 100) (r : Fin 256) (l : Fin 128) :
    k0_pay63 (F := Ideal) s (k0_pay59 (F := Ideal) s) (k0_pay62 (F := Ideal) (k0_pay59 (F := Ideal) s) k0_pay61 128#32) 4#32 (ix3 0 r l)
      = (((2 : ℝ) ^ (rexp (V r) - B) : ℝ) : EReal) := by
  have hy := pay59_at s V hs 0 l
  rw [← hB] at hy
  rw [pay63_eq]
  generalize k0_pay59 (F := Ideal) s = y at hy ⊢
  have e : (vstep y 1#32 (vstep y 2#32 (vstep y 4#32 (vstep y 8#32 (vstep y 16#32 (vstep y 32#32 (vstep y 64#32 (vstep y 128#32 (broadcast S8x128 0#32))))))))) (ix2 0 l) = BitVec.ofNat 32 (B + 127).toNat := by
    rw [← field_pow B (by omega) (by omega), ← hy]
    simp only [vstep_at]; rfl
  have e2 : Ideal.ofBits .f32 (IntOp.shli .vector (IntOp.addi (IntOp.subi 0#32 (IntOp.subi ((vstep y 1#32 (vstep y 2#32 (vstep y 4#32 (vstep y 8#32 (vstep y 16#32 (vstep y 32#32 (vstep y 64#32 (vstep y 128#32 (broadcast S8x128 0#32))))))))) (ix2 0 l)) 127#32)) 127#32) 23#32)
      = (((2 : ℝ) ^ (-B) : ℝ) : EReal) := by
    rw [e, ofNat_sub_127 B (by omega), neg_word, pow2_word _ (by omega) (by omega)]
  generalize (vstep y 1#32 (vstep y 2#32 (vstep y 4#32 (vstep y 8#32 (vstep y 16#32 (vstep y 32#32 (vstep y 64#32 (vstep y 128#32 (broadcast S8x128 0#32))))))))) = u at e2 ⊢
  rw [sub_eq_add_neg, zpow_add₀ (by norm_num : (2 : ℝ) ≠ 0), EReal.coe_mul, ← e2]
  refine Eq.trans ?_ (congrArg (· * _) (hs r l))
  pointwise []

/-- The reciprocal of the running largest scale. -/
theorem pay69_at (y : Vec Ideal S8x128 .f32) (T : ℤ) (hy : ∀ a l, y (ix2 a l) = (((2 : ℝ) ^ T : ℝ) : EReal)) (h0 : -100 ≤ T) (h1 : T ≤ 100)
    (a : Fin 8) (l : Fin 128) :
    k0_pay69 (F := Ideal) (k0_pay68 (F := Ideal) y (k0_pay66 (F := Ideal) y) (k0_pay67 (F := Ideal) y) 16#32) (ix2 a l)
      = (((2 : ℝ) ^ (-T) : ℝ) : EReal) := by
  rw [pay68_eq]
  have e : (vstep y 1#32 (vstep y 2#32 (vstep y 4#32 (vstep y 8#32 (vstep y 16#32 (vstep y 32#32 (vstep y 64#32 (vstep y 128#32 (broadcast S8x128 0#32))))))))) (ix2 a l) = BitVec.ofNat 32 (T + 127).toNat := by
    rw [← field_pow T (by omega) (by omega), ← hy a l]
    simp only [vstep_at]; rfl
  have e2 : Ideal.ofBits .f32 (IntOp.shli .vector (IntOp.addi (IntOp.subi 127#32 ((vstep y 1#32 (vstep y 2#32 (vstep y 4#32 (vstep y 8#32 (vstep y 16#32 (vstep y 32#32 (vstep y 64#32 (vstep y 128#32 (broadcast S8x128 0#32))))))))) (ix2 a l))) 127#32) 23#32)
      = (((2 : ℝ) ^ (-T) : ℝ) : EReal) := by
    rw [e, sub_ofNat_127 T (by omega), pow2_word _ (by omega) (by omega)]
  generalize (vstep y 1#32 (vstep y 2#32 (vstep y 4#32 (vstep y 8#32 (vstep y 16#32 (vstep y 32#32 (vstep y 64#32 (vstep y 128#32 (broadcast S8x128 0#32))))))))) = u at e2 ⊢
  rw [← e2]
  rfl

/-! ## The weights' quantiser and the last scaling -/

section Final
variable {P : Fin 256 → ℕ → Fin 256 → ℝ} {X : ℕ → Fin 256 → ℤ} {n : ℕ}
  {l0 p0 w0 l1 p1 w1 : FVec Ideal S8x128 .f32}

/-- The two halves put side by side, for query `j`. -/
theorem Carry.col (h : Carry P X n (l0, p0, w0, l1, p1, w1)) (j : Fin 256) :
    ∃ wm, k0_pay104 (F := Ideal) p0 w0 p1 w1 (ix2 0 j) = wm * Ideal.div 1 (k0_pay102 (F := Ideal) p0 p1 (ix2 0 j)) * Ideal.ofBits .f32 0x3B124925#32 ∧
      Col (P j) X n (k0_pay101 (F := Ideal) l0 l1 (ix2 0 j)) (k0_pay102 (F := Ideal) p0 p1 (ix2 0 j)) wm := by
  have e4 : k0_pay104 (F := Ideal) p0 w0 p1 w1 (ix2 0 j)
      = (if h : j.val < 128 then Finset.univ.fold max (Ideal.ofBits .f32 4286578688#32) (fun x => w0 (ix2 x ⟨j.val, h⟩))
          else Finset.univ.fold max (Ideal.ofBits .f32 4286578688#32) (fun x => w1 (ix2 x ⟨j.val - 128, by omega⟩)))
        * Ideal.div 1 (k0_pay102 (F := Ideal) p0 p1 (ix2 0 j)) * Ideal.ofBits .f32 0x3B124925#32 := by
    pointwise [k0_pay104, k0_pay103]
  have e2 : k0_pay102 (F := Ideal) p0 p1 (ix2 0 j)
      = (if h : j.val < 128 then Finset.univ.fold max (Ideal.ofBits .f32 4286578688#32) (fun x => p0 (ix2 x ⟨j.val, h⟩))
          else Finset.univ.fold max (Ideal.ofBits .f32 4286578688#32) (fun x => p1 (ix2 x ⟨j.val - 128, by omega⟩))) := by
    pointwise [k0_pay102]
  have e1 : k0_pay101 (F := Ideal) l0 l1 (ix2 0 j)
      = (if h : j.val < 128 then ∑ x, l0 (ix2 x ⟨j.val, h⟩) else ∑ x, l1 (ix2 x ⟨j.val - 128, by omega⟩)) := by
    pointwise [k0_pay101]
  refine ⟨_, e4, ?_⟩
  rw [e1, e2]
  simp only [show Ideal.ofBits .f32 4286578688#32 = (⊥ : EReal) from ofBits_ninf]
  by_cases hj : j.val < 128
  · simp only [dif_pos hj]
    exact Col.of_lanes fun a => (h a ⟨j.val, hj⟩).1
  · simp only [dif_neg hj]
    have e : hi ⟨j.val - 128, by omega⟩ = j := Fin.ext (by show 128 + (j.val - 128) = j.val; omega)
    have := fun a => (h a ⟨j.val - 128, by omega⟩).2
    rw [e] at this
    exact Col.of_lanes this

theorem pay109_eq (p0 w0 p1 w1 : FVec Ideal S8x128 .f32) :
    k0_pay109 (F := Ideal) (k0_pay104 p0 w0 p1 w1)
        (k0_pay107 (k0_pay104 p0 w0 p1 w1) (k0_pay105 p0 w0 p1 w1) (k0_pay106 p0 w0 p1 w1))
        (k0_pay108 (k0_pay104 p0 w0 p1 w1) (k0_pay105 p0 w0 p1 w1) (k0_pay106 p0 w0 p1 w1))
      = select (cmpf .oeq (k0_pay104 p0 w0 p1 w1) (broadcast S1x256 (Ideal.ofBits .f32 0x00000000#32)))
          (broadcast S1x256 0#32) (subi (vstep (k0_pay104 (F := Ideal) p0 w0 p1 w1) 1#32 (vstep (k0_pay104 (F := Ideal) p0 w0 p1 w1) 2#32 (vstep (k0_pay104 (F := Ideal) p0 w0 p1 w1) 4#32 (vstep (k0_pay104 (F := Ideal) p0 w0 p1 w1) 8#32 (vstep (k0_pay104 (F := Ideal) p0 w0 p1 w1) 16#32 (vstep (k0_pay104 (F := Ideal) p0 w0 p1 w1) 32#32 (vstep (k0_pay104 (F := Ideal) p0 w0 p1 w1) 64#32 (vstep (k0_pay104 (F := Ideal) p0 w0 p1 w1) 128#32 (broadcast S1x256 0#32))))))))) (broadcast S1x256 126#32)) := rfl

theorem pay109_at (p0 w0 p1 w1 : FVec Ideal S8x128 .f32) (j : Fin 256) :
    k0_pay109 (F := Ideal) (k0_pay104 p0 w0 p1 w1)
        (k0_pay107 (k0_pay104 p0 w0 p1 w1) (k0_pay105 p0 w0 p1 w1) (k0_pay106 p0 w0 p1 w1))
        (k0_pay108 (k0_pay104 p0 w0 p1 w1) (k0_pay105 p0 w0 p1 w1) (k0_pay106 p0 w0 p1 w1)) (ix2 0 j)
      = kexp (k0_pay104 (F := Ideal) p0 w0 p1 w1 (ix2 0 j)) := by
  rw [pay109_eq]
  generalize k0_pay104 (F := Ideal) p0 w0 p1 w1 = y
  have e : (vstep y 1#32 (vstep y 2#32 (vstep y 4#32 (vstep y 8#32 (vstep y 16#32 (vstep y 32#32 (vstep y 64#32 (vstep y 128#32 (broadcast S1x256 0#32))))))))) (ix2 0 j) = field (y (ix2 0 j)) := by
    simp only [vstep_at]; rfl
  unfold kexp
  rw [← e, ← Ideal.ofBits_zero .f32]
  rfl

/-- One chunk of the product with the values, at feature `d` and query `j`. -/
theorem pay112_at {v545 : FVec Ideal S8x128 .f32} {v648 v651 : FVec Ideal S1x256 .f32} {v715 v719 : IVec S1x256 32} {acc : FVec Ideal S128x256 .f32}
    {v767 : Vec Ideal S1x8x128 .f32} {v774 : Vec Ideal S1x256x256 .f32} {v784 : Vec Ideal S1x128x256 .fp8e4m3} (d : Fin 128) (j : Fin 256) (vb iv : EReal)
    (hvb : ∀ l, v767 (ix3 0 0 l) = vb) (hiv : ∀ l, v545 (ix2 0 l) = iv) :
    k0_pay112 v545 v648 v651 v715 v719 acc v767 v774 v784 (ix2 d j)
      = acc (ix2 d j) + ∑ r, v784 (ix3 0 d r) * min (Ideal.ofBits .f32 0x43E00000#32) (max (Ideal.ofBits .f32 0xC3E00000#32)
          (v774 (ix3 0 r j) * (k0_pay110 v648 v651 v715 v719 (ix2 0 j) * (vb * iv)))) := by
  have e : (if h : j.val < 128 then v767 (ix3 0 0 ⟨j.val, h⟩) * v545 (ix2 0 ⟨j.val, h⟩)
      else v767 (ix3 0 0 ⟨j.val - 128, by omega⟩) * v545 (ix2 0 ⟨j.val - 128, by omega⟩)) = vb * iv := by
    split
    · rw [hvb, hiv]
    · rw [hvb, hiv]
  rw [← e]
  pointwise [k0_pay112]

theorem pay110_at {v648 v651 : FVec Ideal S1x256 .f32} {v715 v719 : IVec S1x256 32} (j : Fin 256) {p : ℝ} {E : ℤ} (hp : 0 < p)
    (h1 : v648 (ix2 0 j) = Ideal.div 1 (p : EReal)) (h2 : k0_pay109 v651 v715 v719 (ix2 0 j) = BitVec.ofInt 32 E) (hE : -108 ≤ E ∧ E ≤ -8) :
    k0_pay110 v648 v651 v715 v719 (ix2 0 j) = ((1 / p * (2 : ℝ) ^ (-E) : ℝ) : EReal) := by
  have e : k0_pay110 v648 v651 v715 v719 (ix2 0 j) = v648 (ix2 0 j) * Ideal.ofBits .f32 (IntOp.shli .vector (IntOp.addi
      (IntOp.subi 0#32 (k0_pay109 v651 v715 v719 (ix2 0 j))) 127#32) 23#32) := by
    pointwise [k0_pay110]
  rw [e, h1, h2, neg_word, pow2_word _ (by omega) (by omega), div_one_coe hp, EReal.coe_mul]

theorem pay114_at {v465 : Vec Ideal S8x128 .f32} {v644 v645 v651 : FVec Ideal S1x256 .f32} {v715 v719 : IVec S1x256 32} {v747 : FVec Ideal S128x256 .f32}
    (d : Fin 128) (j : Fin 256) {E T : ℤ} (h2 : k0_pay109 v651 v715 v719 (ix2 0 j) = BitVec.ofInt 32 E) (hE : -108 ≤ E ∧ E ≤ -8)
    (hT : ∀ l, v465 (ix2 0 l) = (((2 : ℝ) ^ T : ℝ) : EReal)) :
    k0_pay114 v465 v644 v645 v651 v715 v719 v747 (ix2 j d)
      = v747 (ix2 d j) * (Ideal.div (v645 (ix2 0 j)) (v644 (ix2 0 j)) * (((2 : ℝ) ^ E : ℝ) : EReal)) * (((2 : ℝ) ^ T : ℝ) : EReal) := by
  have e : (if h : j.val < 128 then v465 (ix2 0 ⟨j.val, h⟩) else v465 (ix2 0 ⟨j.val - 128, by omega⟩)) = (((2 : ℝ) ^ T : ℝ) : EReal) := by
    split
    · rw [hT]
    · rw [hT]
  rw [← e, ← pow2_word E (by omega) (by omega), ← h2]
  pointwise [k0_pay114]

end Final

end Cert.KernelIdeal.Val
-- ==== Proof.KernelIdealLoop.lean ====
module

public import proofs.«01_k».proof.Proof.KernelIdealGeom
public import proofs.«01_k».proof.Proof.KernelIdealOut

@[expose] public section
set_option maxHeartbeats 400000
set_option maxRecDepth 100000
noncomputable section
namespace Cert.KernelIdeal.Val
open Idealize.ShloMosaic Idealize.ShloMosaic.TcCoe Idealize.ShloMosaic.Pointwise
open Cert.KernelIdeal Cert.KernelIdeal.Gen Cert.KernelIdeal.Facts Cert.Scales Cert.Lanes

/-- What the first loop carries. -/
abbrev Acc : Type := FVec Ideal S8x128 .f32 × FVec Ideal S8x128 .f32 × FVec Ideal S8x128 .f32 × FVec Ideal S8x128 .f32 × FVec Ideal S8x128 .f32 × FVec Ideal S8x128 .f32

/-- One trip of the first loop on what it carries, given the four blocks it loads. -/
def step1 (v101 : FVec Ideal S256x128 .fp8e4m3) (v331 : FVec Ideal S1x256 .f32) (v544 : IVec S8x128 32) (v767 : Vec Ideal S1x256x128 .fp8e4m3)
    (v771 v774 : Vec Ideal S1x256x128 .f32) (v777 : Vec Ideal S1x8x128 .f32) (acc : Acc) : Acc :=
  (k0_pay7 v101 (k0_pay70 v331) acc.1 v767 v771, k0_pay8 v101 (k0_pay70 v331) acc.2.1 v767 v771,
    k0_pay10 v101 (k0_pay69 v544) (k0_pay70 v331) acc.2.2.1 v767 v771 v774 v777,
    k0_pay73 acc.2.2.2.1 (k0_pay12 v101 (k0_pay70 v331) v767 v771), k0_pay74 acc.2.2.2.2.1 (k0_pay12 v101 (k0_pay70 v331) v767 v771),
    k0_pay76 acc.2.2.2.2.2 (k0_pay4 v774) (k0_pay5 (k0_pay69 v544) v777) (k0_pay12 v101 (k0_pay70 v331) v767 v771))

/-- The first loop's recursion. -/
theorem t1_succ (𝒱 : Variants) (c : Dev nD) (bd : Option 𝒱.V) (i : grid0.Coords) (arg3 : Memref sig .tc .vmem S1x256x128 .bf16) (harg3 : arg3.IsWhole) (arg4 : Memref sig .tc .vmem S1x256x128 .bf16) (harg4 : arg4.IsWhole) (arg5 : Memref sig .tc .vmem S1x256x128 .bf16) (harg5 : arg5.IsWhole) (arg6 : Memref sig .tc .vmem S1x256x128 .bf16) (harg6 : arg6.IsWhole) (arg7 : Memref sig .tc .vmem S1x256x128 .fp8e4m3) (harg7 : arg7.IsWhole) (arg8 : Memref sig .tc .vmem S1x1x1x1x256 .f32) (harg8 : arg8.IsWhole) (arg9 : Memref sig .tc .vmem S1x256x128 .fp8e4m3) (harg9 : arg9.IsWhole) (arg10 : Memref sig .tc .vmem S1x1x1x1x256 .f32) (harg10 : arg10.IsWhole) (arg11 : Memref sig .tc .vmem S1x256x128 .fp8e4m3) (harg11 : arg11.IsWhole) (arg12 : Memref sig .tc .vmem S1x1x1x1x256 .f32) (harg12 : arg12.IsWhole) (arg13 : Memref sig .tc .vmem S64x256x128 .fp8e4m3) (harg13 : arg13.IsWhole) (arg14 : Memref sig .tc .vmem S64x128x256 .fp8e4m3) (harg14 : arg14.IsWhole) (arg15 : Memref sig .tc .vmem S64x256x128 .f32) (harg15 : arg15.IsWhole) (arg16 : Memref sig .tc .vmem S64x256x128 .f32) (harg16 : arg16.IsWhole) (arg17 : Memref sig .tc .vmem S64x8x128 .f32) (harg17 : arg17.IsWhole) (arg18 : Memref sig .tc .vmem S8x128 .f32) (harg18 : arg18.IsWhole) (arg19 : Memref sig .tc .vmem S64x256x256 .f32) (harg19 : arg19.IsWhole) (arg2 : BitVec 32) (v101 : FVec Ideal S256x128 .fp8e4m3) (v331 : FVec Ideal S1x256 .f32) (v544 : IVec S8x128 32) (X_arg13 : BufTy.Contents (Elt Ideal) arg13.view.ty) (X_arg15 : BufTy.Contents (Elt Ideal) arg15.view.ty) (X_arg16 : BufTy.Contents (Elt Ideal) arg16.view.ty) (X_arg17 : BufTy.Contents (Elt Ideal) arg17.view.ty) (init : FVec Ideal S8x128 .f32 × FVec Ideal S8x128 .f32 × FVec Ideal S8x128 .f32 × FVec Ideal S8x128 .f32 × FVec Ideal S8x128 .f32 × FVec Ideal S8x128 .f32) (k : Fin (k0_t1_loop i).trips) :
    st_k0_t1 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg2 v101 v331 v544 X_arg13 X_arg15 X_arg16 X_arg17 init (k.val + 1)
      = (step1 v101 v331 v544 (View.readAt (Elt Ideal) arg13.view (Rect.unit (s := S64x256x128) (k0_off4 i k) ![1, 256, 128] (k0_off4_inb i k)).toLoadRect X_arg13)
            (View.readAt (Elt Ideal) arg15.view (Rect.unit (s := S64x256x128) (k0_off4 i k) ![1, 256, 128] (k0_off4_inb i k)).toLoadRect X_arg15)
            (View.readAt (Elt Ideal) arg16.view (Rect.unit (s := S64x256x128) (k0_off4 i k) ![1, 256, 128] (k0_off4_inb i k)).toLoadRect X_arg16)
            (View.readAt (Elt Ideal) arg17.view (Rect.unit (s := S64x8x128) (k0_off5 i k) ![1, 8, 128] (k0_off5_inb i k)).toLoadRect X_arg17)
            (st_k0_t1 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg2 v101 v331 v544 X_arg13 X_arg15 X_arg16 X_arg17 init k.val).1,
          (⟨Rect.unit (s := S64x256x256) (k0_off7 i k) ![1, 256, 128] (k0_off7_inb i k), k0_pay77
              (k0_pay4 (View.readAt (Elt Ideal) arg16.view (Rect.unit (s := S64x256x128) (k0_off4 i k) ![1, 256, 128] (k0_off4_inb i k)).toLoadRect X_arg16))
              (k0_pay12 v101 (k0_pay70 v331)
                (View.readAt (Elt Ideal) arg13.view (Rect.unit (s := S64x256x128) (k0_off4 i k) ![1, 256, 128] (k0_off4_inb i k)).toLoadRect X_arg13)
                (View.readAt (Elt Ideal) arg15.view (Rect.unit (s := S64x256x128) (k0_off4 i k) ![1, 256, 128] (k0_off4_inb i k)).toLoadRect X_arg15))⟩
            : View.Piece (Elt Ideal) S64x256x256 .f32)
          :: (⟨Rect.unit (s := S64x256x256) (k0_off6 i k) ![1, 256, 128] (k0_off6_inb i k), k0_pay11 v101 (k0_pay70 v331)
                (View.readAt (Elt Ideal) arg13.view (Rect.unit (s := S64x256x128) (k0_off4 i k) ![1, 256, 128] (k0_off4_inb i k)).toLoadRect X_arg13)
                (View.readAt (Elt Ideal) arg15.view (Rect.unit (s := S64x256x128) (k0_off4 i k) ![1, 256, 128] (k0_off4_inb i k)).toLoadRect X_arg15)
                (View.readAt (Elt Ideal) arg16.view (Rect.unit (s := S64x256x128) (k0_off4 i k) ![1, 256, 128] (k0_off4_inb i k)).toLoadRect X_arg16)⟩
            : View.Piece (Elt Ideal) S64x256x256 .f32)
          :: (st_k0_t1 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg2 v101 v331 v544 X_arg13 X_arg15 X_arg16 X_arg17 init k.val).2) := by
  rw [st_k0_t1_succ]
  generalize (st_k0_t1 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg2 v101 v331 v544 X_arg13 X_arg15 X_arg16 X_arg17 init k.val) = s
  unfold tripR_k0_t1 tripL_k0_t1 trip_k0_t1
  rfl

/-- The second pass's recursion. -/
theorem t3_succ (𝒱 : Variants) (c : Dev nD) (bd : Option 𝒱.V) (i : grid0.Coords) (arg3 : Memref sig .tc .vmem S1x256x128 .bf16) (harg3 : arg3.IsWhole) (arg4 : Memref sig .tc .vmem S1x256x128 .bf16) (harg4 : arg4.IsWhole) (arg5 : Memref sig .tc .vmem S1x256x128 .bf16) (harg5 : arg5.IsWhole) (arg6 : Memref sig .tc .vmem S1x256x128 .bf16) (harg6 : arg6.IsWhole) (arg7 : Memref sig .tc .vmem S1x256x128 .fp8e4m3) (harg7 : arg7.IsWhole) (arg8 : Memref sig .tc .vmem S1x1x1x1x256 .f32) (harg8 : arg8.IsWhole) (arg9 : Memref sig .tc .vmem S1x256x128 .fp8e4m3) (harg9 : arg9.IsWhole) (arg10 : Memref sig .tc .vmem S1x1x1x1x256 .f32) (harg10 : arg10.IsWhole) (arg11 : Memref sig .tc .vmem S1x256x128 .fp8e4m3) (harg11 : arg11.IsWhole) (arg12 : Memref sig .tc .vmem S1x1x1x1x256 .f32) (harg12 : arg12.IsWhole) (arg13 : Memref sig .tc .vmem S64x256x128 .fp8e4m3) (harg13 : arg13.IsWhole) (arg14 : Memref sig .tc .vmem S64x128x256 .fp8e4m3) (harg14 : arg14.IsWhole) (arg15 : Memref sig .tc .vmem S64x256x128 .f32) (harg15 : arg15.IsWhole) (arg16 : Memref sig .tc .vmem S64x256x128 .f32) (harg16 : arg16.IsWhole) (arg17 : Memref sig .tc .vmem S64x8x128 .f32) (harg17 : arg17.IsWhole) (arg18 : Memref sig .tc .vmem S8x128 .f32) (harg18 : arg18.IsWhole) (arg19 : Memref sig .tc .vmem S64x256x256 .f32) (harg19 : arg19.IsWhole) (arg2 : BitVec 32) (v465 : Vec Ideal S8x128 .f32) (v545 : FVec Ideal S8x128 .f32) (v644 : FVec Ideal S1x256 .f32) (v645 : FVec Ideal S1x256 .f32) (v648 : FVec Ideal S1x256 .f32) (v651 : FVec Ideal S1x256 .f32) (v715 : IVec S1x256 32) (v719 : IVec S1x256 32) (X_arg14 : BufTy.Contents (Elt Ideal) arg14.view.ty) (X_arg17 : BufTy.Contents (Elt Ideal) arg17.view.ty) (X_arg19 : BufTy.Contents (Elt Ideal) arg19.view.ty) (init : FVec Ideal S128x256 .f32) (k : Fin (k0_t3_loop i).trips) :
    st_k0_t3 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg2 v465 v545 v644 v645 v648 v651 v715 v719 X_arg14 X_arg17 X_arg19 init (k.val + 1)
      = k0_pay112 v545 v648 v651 v715 v719 (st_k0_t3 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg2 v465 v545 v644 v645 v648 v651 v715 v719 X_arg14 X_arg17 X_arg19 init k.val)
          (View.readAt (Elt Ideal) arg17.view (Rect.unit (s := S64x8x128) (k0_off14 i k) ![1, 8, 128] (k0_off14_inb i k)).toLoadRect X_arg17)
          (View.readAt (Elt Ideal) arg19.view (Rect.unit (s := S64x256x256) (k0_off15 i k) ![1, 256, 256] (k0_off15_inb i k)).toLoadRect X_arg19)
          (View.readAt (Elt Ideal) arg14.view (Rect.unit (s := S64x128x256) (k0_off16 i k) ![1, 128, 256] (k0_off16_inb i k)).toLoadRect X_arg14) := by
  rw [st_k0_t3_succ]
  generalize (st_k0_t3 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg2 v465 v545 v644 v645 v648 v651 v715 v719 X_arg14 X_arg17 X_arg19 init k.val) = s
  unfold tripR_k0_t3 trip_k0_t3
  rfl

end Cert.KernelIdeal.Val
-- ==== Proof.KernelIdealBlock.lean ====
module

public import proofs.«01_k».proof.Proof.KernelIdealLoop

@[expose] public section
set_option maxHeartbeats 400000
set_option maxRecDepth 100000
noncomputable section
namespace Cert.KernelIdeal.Val
open Idealize.ShloMosaic Idealize.ShloMosaic.TcCoe Idealize.ShloMosaic.Pointwise
open Cert.KernelIdeal Cert.KernelIdeal.Gen Cert.KernelIdeal.Facts Cert.Scales Cert.Lanes

/-! ## What is kept of each block of weights -/

section Kept
variable {v101 : FVec Ideal S256x128 .fp8e4m3} {v331 : FVec Ideal S1x256 .f32} {v767 : Vec Ideal S1x256x128 .fp8e4m3} {v771 v774 : Vec Ideal S1x256x128 .f32}
  {Q K V : Fin 256 → Fin 128 → EReal} {B : ℤ}

theorem lo_eq (j : Fin 256) (h : j.val < 128) : lo ⟨j.val, h⟩ = j := rfl
theorem hi_eq (j : Fin 256) (h : ¬ j.val < 128) : hi ⟨j.val - 128, by omega⟩ = j := Fin.ext (show 128 + (j.val - 128) = j.val by omega)

/-- The first half of an earlier block. -/
theorem kept_lo (hq : ∀ r d, v101 (ix2 r d) = rcode (Q r) d) (hr : ∀ j, v331 (ix2 0 j) = rscale (Q j))
    (hk : ∀ r d, v767 (ix3 0 r d) = rcode (K r) d) (hs : ∀ r l, v771 (ix3 0 r l) = rscale (K r))
    (hv : ∀ r l, v774 (ix3 0 r l) = (((2 : ℝ) ^ (rexp (V r) - B) : ℝ) : EReal)) (r : Fin 256) (l : Fin 128) :
    k0_pay11 v101 (k0_pay70 v331) v767 v771 v774 (ix3 0 r l) = ((wt (Q (lo l)) (K r) * (2 : ℝ) ^ (rexp (V r) - B) : ℝ) : EReal) := by
  have e : k0_pay11 v101 (k0_pay70 v331) v767 v771 v774 (ix3 0 r l) = k0_pay6 v101 (k0_pay70 v331) v767 v771 (ix2 r l) * v774 (ix3 0 r l) := by
    pointwise [k0_pay11, k0_pay9, k0_pay4]
  rw [e, pay6_at hq hr hk hs, hv, EReal.coe_mul]

/-- The second half of an earlier block. -/
theorem kept_hi (hq : ∀ r d, v101 (ix2 r d) = rcode (Q r) d) (hr : ∀ j, v331 (ix2 0 j) = rscale (Q j))
    (hk : ∀ r d, v767 (ix3 0 r d) = rcode (K r) d) (hs : ∀ r l, v771 (ix3 0 r l) = rscale (K r))
    (hv : ∀ r l, v774 (ix3 0 r l) = (((2 : ℝ) ^ (rexp (V r) - B) : ℝ) : EReal)) (r : Fin 256) (l : Fin 128) :
    k0_pay77 (k0_pay4 v774) (k0_pay12 v101 (k0_pay70 v331) v767 v771) (ix3 0 r l) = ((wt (Q (hi l)) (K r) * (2 : ℝ) ^ (rexp (V r) - B) : ℝ) : EReal) := by
  have h := pay72_at hq hr hk hs r l
  generalize k0_pay12 v101 (k0_pay70 v331) v767 v771 = u at h ⊢
  have e : k0_pay77 (k0_pay4 v774) u (ix3 0 r l) = k0_pay72 u (ix2 r l) * v774 (ix3 0 r l) := by
    pointwise [k0_pay77, k0_pay75, k0_pay4]
  rw [e, h, hv, EReal.coe_mul]

/-- The first half of the diagonal block. -/
theorem kept_diag_lo (hq : ∀ r d, v101 (ix2 r d) = rcode (Q r) d) (hr : ∀ j, v331 (ix2 0 j) = rscale (Q j))
    (hk : ∀ r d, v767 (ix3 0 r d) = rcode (K r) d) (hs : ∀ r l, v771 (ix3 0 r l) = rscale (K r))
    (hv : ∀ r l, v774 (ix3 0 r l) = (((2 : ℝ) ^ (rexp (V r) - B) : ℝ) : EReal)) (r : Fin 256) (l : Fin 128) :
    k0_pay94 (k0_pay86 v774) (k0_pay88 v101 v331 v767 v771) (ix3 0 r l) = ((mwt Q K (lo l) r * (2 : ℝ) ^ (rexp (V r) - B) : ℝ) : EReal) := by
  have h := pay88_at hq hr hk hs r l
  generalize k0_pay88 v101 v331 v767 v771 = u at h ⊢
  have e : k0_pay94 (k0_pay86 v774) u (ix3 0 r l) = u (ix2 r l) * v774 (ix3 0 r l) := by
    pointwise [k0_pay94, k0_pay92, k0_pay86]
  rw [e, h, hv, EReal.coe_mul]

/-- The second half of the diagonal block. -/
theorem kept_diag_hi (hq : ∀ r d, v101 (ix2 r d) = rcode (Q r) d) (hr : ∀ j, v331 (ix2 0 j) = rscale (Q j))
    (hk : ∀ r d, v767 (ix3 0 r d) = rcode (K r) d) (hs : ∀ r l, v771 (ix3 0 r l) = rscale (K r))
    (hv : ∀ r l, v774 (ix3 0 r l) = (((2 : ℝ) ^ (rexp (V r) - B) : ℝ) : EReal)) (r : Fin 256) (l : Fin 128) :
    k0_pay100 (k0_pay70 v331) (k0_pay84 v101 v767) (k0_pay85 v771) (k0_pay86 v774) (ix3 0 r l)
      = ((mwt Q K (hi l) r * (2 : ℝ) ^ (rexp (V r) - B) : ℝ) : EReal) := by
  have h := pay95_at hq hr hk hs r l
  generalize k0_pay70 v331 = a at h ⊢
  generalize k0_pay84 v101 v767 = b at h ⊢
  generalize k0_pay85 v771 = c at h ⊢
  have e : k0_pay100 a b c (k0_pay86 v774) (ix3 0 r l) = k0_pay95 a b c (ix2 r l) * v774 (ix3 0 r l) := by
    pointwise [k0_pay100, k0_pay98, k0_pay86]
  rw [e, h, hv, EReal.coe_mul]

end Kept

/-! ## The weights and the exponents the two passes are about -/

/-- The weight of key `r` of block `c` for query `j` of block `n`: every key of an earlier block counts, and of block `n` itself the keys up to the query. -/
def Pw (Q : Fin 256 → Fin 128 → EReal) (K : ℕ → Fin 256 → Fin 128 → EReal) (n : ℕ) (j : Fin 256) (c : ℕ) (r : Fin 256) : ℝ :=
  if c < n then wt (Q j) (K c r) else mwt Q (K c) j r

theorem Pw_nonneg (Q : Fin 256 → Fin 128 → EReal) (K : ℕ → Fin 256 → Fin 128 → EReal) (n : ℕ) (j : Fin 256) (c : ℕ) (r : Fin 256) : 0 ≤ Pw Q K n j c r := by
  unfold Pw; split
  · exact (wt_pos _ _).le
  · exact mwt_nonneg _ _ _ _

/-- The exponent of a value row against the largest one so far. -/
def Xw (V : ℕ → Fin 256 → Fin 128 → EReal) (T : ℤ) (c : ℕ) (r : Fin 256) : ℤ := rexp (V c r) - T

section Loop
variable {i : grid0.Coords} {arg13 : Memref sig .tc .vmem S64x256x128 .fp8e4m3} {arg14 : Memref sig .tc .vmem S64x128x256 .fp8e4m3}
  {arg15 arg16 : Memref sig .tc .vmem S64x256x128 .f32} {arg17 : Memref sig .tc .vmem S64x8x128 .f32} {arg19 : Memref sig .tc .vmem S64x256x256 .f32}
  {X13 : BufTy.Contents (Elt Ideal) arg13.view.ty} {X14 : BufTy.Contents (Elt Ideal) arg14.view.ty} {X15 : BufTy.Contents (Elt Ideal) arg15.view.ty}
  {X16 : BufTy.Contents (Elt Ideal) arg16.view.ty} {X17 : BufTy.Contents (Elt Ideal) arg17.view.ty} {X19 : BufTy.Contents (Elt Ideal) arg19.view.ty}
  {v101 : FVec Ideal S256x128 .fp8e4m3} {v331 : FVec Ideal S1x256 .f32} {v544 : IVec S8x128 32}
  {Q : Fin 256 → Fin 128 → EReal} {K V : ℕ → Fin 256 → Fin 128 → EReal} {B : ℕ → ℤ} {T : ℤ}

/-- What the scratch holds of the blocks up to and including the current one: codes of the keys and of the values, scales of the keys,
    and of the values' scales each block's largest and the rest against it. -/
structure Held (n : ℕ) (v13 : (S64x256x128 : Shape).Idx → EReal) (v14 : (S64x128x256 : Shape).Idx → EReal) (v15 v16 : (S64x256x128 : Shape).Idx → EReal)
    (v17 : (S64x8x128 : Shape).Idx → EReal) (K V : ℕ → Fin 256 → Fin 128 → EReal) (B : ℕ → ℤ) : Prop where
  h13 : ∀ c : Fin 64, c.val < n → ∀ r d, v13 (ix3 c r d) = rcode (K c r) d
  h14 : ∀ c : Fin 64, c.val < n → ∀ d r, v14 (ix3 c d r) = rcode (V c r) d
  h15 : ∀ c : Fin 64, c.val < n → ∀ r l, v15 (ix3 c r l) = rscale (K c r)
  h16 : ∀ c : Fin 64, c.val < n → ∀ r l, v16 (ix3 c r l) = (((2 : ℝ) ^ (rexp (V c r) - B c) : ℝ) : EReal)
  h17 : ∀ c : Fin 64, c.val < n → ∀ a l, v17 (ix3 c a l) = (((2 : ℝ) ^ B c : ℝ) : EReal)

/-- The first loop: after `k` trips it carries the sums and maxima over the first `k` blocks, and has kept their weights. -/
theorem t1_carry {st : ℕ → Acc × List (View.Piece (Elt Ideal) S64x256x256 .f32)}
    (h0 : st 0 = ((k0_pay71, k0_pay71, k0_pay71, k0_pay71, k0_pay71, k0_pay71), []))
    (hs : ∀ k : Fin (k0_t1_loop i).trips, st (k.val + 1)
      = (step1 v101 v331 v544 (View.readAt (Elt Ideal) arg13.view (Rect.unit (s := S64x256x128) (k0_off4 i k) ![1, 256, 128] (k0_off4_inb i k)).toLoadRect X13)
            (View.readAt (Elt Ideal) arg15.view (Rect.unit (s := S64x256x128) (k0_off4 i k) ![1, 256, 128] (k0_off4_inb i k)).toLoadRect X15)
            (View.readAt (Elt Ideal) arg16.view (Rect.unit (s := S64x256x128) (k0_off4 i k) ![1, 256, 128] (k0_off4_inb i k)).toLoadRect X16)
            (View.readAt (Elt Ideal) arg17.view (Rect.unit (s := S64x8x128) (k0_off5 i k) ![1, 8, 128] (k0_off5_inb i k)).toLoadRect X17)
            (st k.val).1,
          (⟨Rect.unit (s := S64x256x256) (k0_off7 i k) ![1, 256, 128] (k0_off7_inb i k), k0_pay77
              (k0_pay4 (View.readAt (Elt Ideal) arg16.view (Rect.unit (s := S64x256x128) (k0_off4 i k) ![1, 256, 128] (k0_off4_inb i k)).toLoadRect X16))
              (k0_pay12 v101 (k0_pay70 v331)
                (View.readAt (Elt Ideal) arg13.view (Rect.unit (s := S64x256x128) (k0_off4 i k) ![1, 256, 128] (k0_off4_inb i k)).toLoadRect X13)
                (View.readAt (Elt Ideal) arg15.view (Rect.unit (s := S64x256x128) (k0_off4 i k) ![1, 256, 128] (k0_off4_inb i k)).toLoadRect X15))⟩
            : View.Piece (Elt Ideal) S64x256x256 .f32)
          :: (⟨Rect.unit (s := S64x256x256) (k0_off6 i k) ![1, 256, 128] (k0_off6_inb i k), k0_pay11 v101 (k0_pay70 v331)
                (View.readAt (Elt Ideal) arg13.view (Rect.unit (s := S64x256x128) (k0_off4 i k) ![1, 256, 128] (k0_off4_inb i k)).toLoadRect X13)
                (View.readAt (Elt Ideal) arg15.view (Rect.unit (s := S64x256x128) (k0_off4 i k) ![1, 256, 128] (k0_off4_inb i k)).toLoadRect X15)
                (View.readAt (Elt Ideal) arg16.view (Rect.unit (s := S64x256x128) (k0_off4 i k) ![1, 256, 128] (k0_off4_inb i k)).toLoadRect X16)⟩
            : View.Piece (Elt Ideal) S64x256x256 .f32)
          :: (st k.val).2))
    (H : Held ((i 2).val + 1) (arg13.view.read (Elt Ideal) X13) (arg14.view.read (Elt Ideal) X14) (arg15.view.read (Elt Ideal) X15)
      (arg16.view.read (Elt Ideal) X16) (arg17.view.read (Elt Ideal) X17) K V B)
    (hq : ∀ r d, v101 (ix2 r d) = rcode (Q r) d) (hr : ∀ j, v331 (ix2 0 j) = rscale (Q j))
    (hT : ∀ a l, k0_pay69 (F := Ideal) v544 (ix2 a l) = (((2 : ℝ) ^ (-T) : ℝ) : EReal))
    (hX : ∀ c ≤ (i 2).val, ∀ r, -100 ≤ Xw V T c r ∧ Xw V T c r ≤ 0) (k : ℕ) (hk : k ≤ (i 2).val) :
    Carry (Pw Q K (i 2).val) (Xw V T) k (st k).1 ∧ ∀ f, ∀ c : Fin 64, c.val < k → ∀ r j,
      arg19.view.read (Elt Ideal) (arg19.view.writes (Elt Ideal) f (st k).2) (ix3 c r j) = ((Pw Q K (i 2).val j c r * (2 : ℝ) ^ (rexp (V c r) - B c) : ℝ) : EReal) := by
  induction k with
  | zero =>
    rw [h0]
    refine ⟨fun a l => ⟨?_, ?_⟩, fun f c hc => absurd hc (by omega)⟩
    · have z : k0_pay71 (F := Ideal) (ix2 a l) = 0 := by pointwise [k0_pay71]
      show Lane _ _ a 0 (k0_pay71 (F := Ideal) (ix2 a l)) (k0_pay71 (F := Ideal) (ix2 a l)) (k0_pay71 (F := Ideal) (ix2 a l))
      rw [z]; exact Lane.zero _ _ _
    · have z : k0_pay71 (F := Ideal) (ix2 a l) = 0 := by pointwise [k0_pay71]
      show Lane _ _ a 0 (k0_pay71 (F := Ideal) (ix2 a l)) (k0_pay71 (F := Ideal) (ix2 a l)) (k0_pay71 (F := Ideal) (ix2 a l))
      rw [z]; exact Lane.zero _ _ _
  | succ k ih =>
    obtain ⟨ihc, ihw⟩ := ih (by omega)
    have hlt : k < (k0_t1_loop i).trips := by rw [trips1]; omega
    have e := hs ⟨k, hlt⟩
    have h64 : k < 64 := lt1 ⟨k, hlt⟩
    have l13 : ∀ r d, View.readAt (Elt Ideal) arg13.view (Rect.unit (s := S64x256x128) (k0_off4 i ⟨k, hlt⟩) ![1, 256, 128] (k0_off4_inb i ⟨k, hlt⟩)).toLoadRect X13 (ix3 0 r d) = rcode (K k r) d :=
      fun r d => (load_block arg13.view X13 _ ⟨k, h64⟩ (off4 ⟨k, hlt⟩) r d).trans (H.h13 ⟨k, h64⟩ (show k < _ by omega) r d)
    have l15 : ∀ r d, View.readAt (Elt Ideal) arg15.view (Rect.unit (s := S64x256x128) (k0_off4 i ⟨k, hlt⟩) ![1, 256, 128] (k0_off4_inb i ⟨k, hlt⟩)).toLoadRect X15 (ix3 0 r d) = rscale (K k r) :=
      fun r d => (load_block arg15.view X15 _ ⟨k, h64⟩ (off4 ⟨k, hlt⟩) r d).trans (H.h15 ⟨k, h64⟩ (show k < _ by omega) r d)
    have l16 : ∀ r d, View.readAt (Elt Ideal) arg16.view (Rect.unit (s := S64x256x128) (k0_off4 i ⟨k, hlt⟩) ![1, 256, 128] (k0_off4_inb i ⟨k, hlt⟩)).toLoadRect X16 (ix3 0 r d) = (((2 : ℝ) ^ (rexp (V k r) - B k) : ℝ) : EReal) :=
      fun r d => (load_block arg16.view X16 _ ⟨k, h64⟩ (off4 ⟨k, hlt⟩) r d).trans (H.h16 ⟨k, h64⟩ (show k < _ by omega) r d)
    have l17 : ∀ a l, View.readAt (Elt Ideal) arg17.view (Rect.unit (s := S64x8x128) (k0_off5 i ⟨k, hlt⟩) ![1, 8, 128] (k0_off5_inb i ⟨k, hlt⟩)).toLoadRect X17 (ix3 0 a l) = (((2 : ℝ) ^ B k : ℝ) : EReal) :=
      fun a l => (load_block arg17.view X17 _ ⟨k, h64⟩ (off5 ⟨k, hlt⟩) a l).trans (H.h17 ⟨k, h64⟩ (show k < _ by omega) a l)
    have hP : ∀ j r, Pw Q K (i 2).val j k r = wt (Q j) (K k r) := fun j r => if_pos (by omega)
    rw [show st (k + 1) = _ from e]
    generalize View.readAt (Elt Ideal) arg13.view (Rect.unit (s := S64x256x128) (k0_off4 i ⟨k, hlt⟩) ![1, 256, 128] (k0_off4_inb i ⟨k, hlt⟩)).toLoadRect X13 = u13 at l13 ⊢
    generalize View.readAt (Elt Ideal) arg15.view (Rect.unit (s := S64x256x128) (k0_off4 i ⟨k, hlt⟩) ![1, 256, 128] (k0_off4_inb i ⟨k, hlt⟩)).toLoadRect X15 = u15 at l15 ⊢
    generalize View.readAt (Elt Ideal) arg16.view (Rect.unit (s := S64x256x128) (k0_off4 i ⟨k, hlt⟩) ![1, 256, 128] (k0_off4_inb i ⟨k, hlt⟩)).toLoadRect X16 = u16 at l16 ⊢
    generalize View.readAt (Elt Ideal) arg17.view (Rect.unit (s := S64x8x128) (k0_off5 i ⟨k, hlt⟩) ![1, 8, 128] (k0_off5_inb i ⟨k, hlt⟩)).toLoadRect X17 = u17 at l17 ⊢
    refine ⟨ihc.step hq hr l13 l15 l16 l17 hT hP (fun _ => rfl) (hX k (by omega)), fun f c hc r j => ?_⟩
    by_cases hck : c.val = k
    · have e2 := store_halves arg19.view f (k0_off6_inb i ⟨k, hlt⟩) (k0_off7_inb i ⟨k, hlt⟩) (k0_pay11 v101 (k0_pay70 v331) u13 u15 u16)
        (k0_pay77 (k0_pay4 u16) (k0_pay12 v101 (k0_pay70 v331) u13 u15)) (st k).2 c ((off6 ⟨k, hlt⟩).trans (by rw [hck])) ((off7 ⟨k, hlt⟩).trans (by rw [hck])) r j
      refine e2.trans ?_
      rw [hck, hP]
      split
      · rename_i hj
        rw [kept_lo hq hr l13 l15 l16, lo_eq]
      · rename_i hj
        rw [kept_hi hq hr l13 l15 l16, hi_eq j hj]
    · refine (keep_block arg19.view f (k0_off7_inb i ⟨k, hlt⟩) _ _ c k (off7 ⟨k, hlt⟩) hck r j).trans ?_
      refine (keep_block arg19.view f (k0_off6_inb i ⟨k, hlt⟩) _ _ c k (off6 ⟨k, hlt⟩) hck r j).trans ?_
      exact ihw f c (by omega) r j

end Loop

end Cert.KernelIdeal.Val
-- ==== Proof.KernelIdealBlockOut.lean ====
module

public import proofs.«01_k».proof.Proof.KernelIdealBlock

@[expose] public section
set_option maxHeartbeats 400000
set_option maxRecDepth 100000
noncomputable section
namespace Cert.KernelIdeal.Val
open Idealize.ShloMosaic Idealize.ShloMosaic.TcCoe Idealize.ShloMosaic.Pointwise
open Cert.KernelIdeal Cert.KernelIdeal.Gen Cert.KernelIdeal.Facts Cert.Scales Cert.Lanes

/-- What attention returns for query `j` of block `n` in column `d`: the weighted mean of the value rows up to the query. -/
def attn (Q : Fin 256 → Fin 128 → EReal) (K V : ℕ → Fin 256 → Fin 128 → EReal) (n : ℕ) (j : Fin 256) (d : Fin 128) : ℝ :=
  (∑ c ∈ Finset.range (n + 1), ∑ r, Pw Q K n j c r * (V c r d).toReal) / ∑ c ∈ Finset.range (n + 1), ∑ r, Pw Q K n j c r

section Final
variable {i : grid0.Coords} {arg13 : Memref sig .tc .vmem S64x256x128 .fp8e4m3} {arg14 : Memref sig .tc .vmem S64x128x256 .fp8e4m3}
  {arg15 arg16 : Memref sig .tc .vmem S64x256x128 .f32} {arg17 : Memref sig .tc .vmem S64x8x128 .f32} {arg19 : Memref sig .tc .vmem S64x256x256 .f32}
  {X14 : BufTy.Contents (Elt Ideal) arg14.view.ty} {X17 : BufTy.Contents (Elt Ideal) arg17.view.ty} {X19 : BufTy.Contents (Elt Ideal) arg19.view.ty}
  {v13 : (S64x256x128 : Shape).Idx → EReal} {v15 v16 : (S64x256x128 : Shape).Idx → EReal}
  {v465 : Vec Ideal S8x128 .f32} {v545 : FVec Ideal S8x128 .f32} {v648 v651 : FVec Ideal S1x256 .f32} {v715 v719 : IVec S1x256 32}
  {Q : Fin 256 → Fin 128 → EReal} {K V : ℕ → Fin 256 → Fin 128 → EReal} {B : ℕ → ℤ} {T : ℤ}

/-- The second pass: after `k` trips it holds the products over the first `k` blocks. -/
theorem t3_sum {st : ℕ → FVec Ideal S128x256 .f32} (h0 : st 0 = k0_pay111)
    (hs : ∀ k : Fin (k0_t3_loop i).trips, st (k.val + 1) = k0_pay112 v545 v648 v651 v715 v719 (st k.val)
          (View.readAt (Elt Ideal) arg17.view (Rect.unit (s := S64x8x128) (k0_off14 i k) ![1, 8, 128] (k0_off14_inb i k)).toLoadRect X17)
          (View.readAt (Elt Ideal) arg19.view (Rect.unit (s := S64x256x256) (k0_off15 i k) ![1, 256, 256] (k0_off15_inb i k)).toLoadRect X19)
          (View.readAt (Elt Ideal) arg14.view (Rect.unit (s := S64x128x256) (k0_off16 i k) ![1, 128, 256] (k0_off16_inb i k)).toLoadRect X14))
    (H : Held ((i 2).val + 1) v13 (arg14.view.read (Elt Ideal) X14) v15 v16 (arg17.view.read (Elt Ideal) X17) K V B)
    (hw : ∀ c : Fin 64, c.val < (i 2).val + 1 → ∀ r j, arg19.view.read (Elt Ideal) X19 (ix3 c r j)
      = ((Pw Q K (i 2).val j c r * (2 : ℝ) ^ (rexp (V c r) - B c) : ℝ) : EReal))
    (hT : ∀ l, v545 (ix2 0 l) = (((2 : ℝ) ^ (-T) : ℝ) : EReal)) (j : Fin 256) {p w : ℝ} {E : ℤ} (hp : 0 < p) (hE : E = expo (w / p))
    (hP : ∀ c < (i 2).val + 1, ∀ r, Pw Q K (i 2).val j c r * (2 : ℝ) ^ Xw V T c r ≤ w)
    (h110 : k0_pay110 v648 v651 v715 v719 (ix2 0 j) = ((1 / p * (2 : ℝ) ^ (-E) : ℝ) : EReal)) (d : Fin 128) (k : ℕ) (hk : k ≤ (i 2).val + 1) :
    st k (ix2 d j) = ((∑ c ∈ Finset.range k, ∑ r, (V c r d).toReal * (2 : ℝ) ^ (-rexp (V c r))
      * (Pw Q K (i 2).val j c r * (2 : ℝ) ^ (rexp (V c r) - T) / p * (2 : ℝ) ^ (-E)) : ℝ) : EReal) := by
  induction k with
  | zero =>
    rw [h0, Finset.range_zero, Finset.sum_empty, EReal.coe_zero]
    pointwise [k0_pay111]
  | succ k ih =>
    have hlt : k < (k0_t3_loop i).trips := by rw [trips3]; omega
    have h64 : k < 64 := lt3 ⟨k, hlt⟩
    have l17 : ∀ l, View.readAt (Elt Ideal) arg17.view (Rect.unit (s := S64x8x128) (k0_off14 i ⟨k, hlt⟩) ![1, 8, 128] (k0_off14_inb i ⟨k, hlt⟩)).toLoadRect X17 (ix3 0 0 l) = (((2 : ℝ) ^ B k : ℝ) : EReal) :=
      fun l => (load_block arg17.view X17 _ ⟨k, h64⟩ (off14 ⟨k, hlt⟩) 0 l).trans (H.h17 ⟨k, h64⟩ (show k < _ by omega) 0 l)
    have l19 : ∀ r, View.readAt (Elt Ideal) arg19.view (Rect.unit (s := S64x256x256) (k0_off15 i ⟨k, hlt⟩) ![1, 256, 256] (k0_off15_inb i ⟨k, hlt⟩)).toLoadRect X19 (ix3 0 r j)
        = ((Pw Q K (i 2).val j k r * (2 : ℝ) ^ (rexp (V k r) - B k) : ℝ) : EReal) :=
      fun r => (load_block arg19.view X19 _ ⟨k, h64⟩ (off15 ⟨k, hlt⟩) r j).trans (hw ⟨k, h64⟩ (show k < _ by omega) r j)
    have l14 : ∀ r, View.readAt (Elt Ideal) arg14.view (Rect.unit (s := S64x128x256) (k0_off16 i ⟨k, hlt⟩) ![1, 128, 256] (k0_off16_inb i ⟨k, hlt⟩)).toLoadRect X14 (ix3 0 d r) = rcode (V k r) d :=
      fun r => (load_block arg14.view X14 _ ⟨k, h64⟩ (off16 ⟨k, hlt⟩) d r).trans (H.h14 ⟨k, h64⟩ (show k < _ by omega) d r)
    have a := acc_succ (Pw Q K (i 2).val j k) (fun r => rexp (V k r)) (fun r => (V k r d).toReal * (2 : ℝ) ^ (-rexp (V k r))) _ _ _ _ _ hp hE
      (fun r => Pw_nonneg Q K _ j k r) (hP k (by omega)) l14 l19 h110 (l17 0) (hT 0)
    rw [show st (k + 1) = _ from hs ⟨k, hlt⟩, pay112_at d j (((2 : ℝ) ^ B k : ℝ) : EReal) (((2 : ℝ) ^ (-T) : ℝ) : EReal) l17 hT, ih (by omega),
      Finset.sum_range_succ, EReal.coe_add]
    rw [← a, l17 0, hT 0]

/-- The block of results, from what the first pass carried and kept. -/
theorem block_final {l0 p0 w0 l1 p1 w1 : FVec Ideal S8x128 .f32} (hc : Carry (Pw Q K (i 2).val) (Xw V T) ((i 2).val + 1) (l0, p0, w0, l1, p1, w1))
    {st : ℕ → FVec Ideal S128x256 .f32} (h0 : st 0 = k0_pay111)
    (hs : ∀ k : Fin (k0_t3_loop i).trips, st (k.val + 1) = k0_pay112 v545 (k0_pay103 p0 p1) (k0_pay104 p0 w0 p1 w1)
          (k0_pay107 (k0_pay104 p0 w0 p1 w1) (k0_pay105 p0 w0 p1 w1) (k0_pay106 p0 w0 p1 w1))
          (k0_pay108 (k0_pay104 p0 w0 p1 w1) (k0_pay105 p0 w0 p1 w1) (k0_pay106 p0 w0 p1 w1)) (st k.val)
          (View.readAt (Elt Ideal) arg17.view (Rect.unit (s := S64x8x128) (k0_off14 i k) ![1, 8, 128] (k0_off14_inb i k)).toLoadRect X17)
          (View.readAt (Elt Ideal) arg19.view (Rect.unit (s := S64x256x256) (k0_off15 i k) ![1, 256, 256] (k0_off15_inb i k)).toLoadRect X19)
          (View.readAt (Elt Ideal) arg14.view (Rect.unit (s := S64x128x256) (k0_off16 i k) ![1, 128, 256] (k0_off16_inb i k)).toLoadRect X14))
    (H : Held ((i 2).val + 1) v13 (arg14.view.read (Elt Ideal) X14) v15 v16 (arg17.view.read (Elt Ideal) X17) K V B)
    (hw : ∀ c : Fin 64, c.val < (i 2).val + 1 → ∀ r j, arg19.view.read (Elt Ideal) X19 (ix3 c r j)
      = ((Pw Q K (i 2).val j c r * (2 : ℝ) ^ (rexp (V c r) - B c) : ℝ) : EReal))
    (hT : ∀ l, v545 (ix2 0 l) = (((2 : ℝ) ^ (-T) : ℝ) : EReal)) (hT' : ∀ l, v465 (ix2 0 l) = (((2 : ℝ) ^ T : ℝ) : EReal)) (j : Fin 256) (d : Fin 128) :
    k0_pay114 v465 (k0_pay101 l0 l1) (k0_pay102 p0 p1) (k0_pay104 p0 w0 p1 w1)
        (k0_pay107 (k0_pay104 p0 w0 p1 w1) (k0_pay105 p0 w0 p1 w1) (k0_pay106 p0 w0 p1 w1))
        (k0_pay108 (k0_pay104 p0 w0 p1 w1) (k0_pay105 p0 w0 p1 w1) (k0_pay106 p0 w0 p1 w1)) (st ((i 2).val + 1)) (ix2 j d)
      = ((attn Q K V (i 2).val j d : ℝ) : EReal) := by
  obtain ⟨wm, h104, p, w, hl, hpm, hwm, hwp, hpw, hb⟩ := hc.col j
  have hpos : 0 < Pw Q K (i 2).val j (i 2).val j := by
    unfold Pw mwt
    rw [if_neg (lt_irrefl _), if_pos le_rfl]
    exact wt_pos _ _
  have hp : 0 < p := lt_of_lt_of_le hpos (hb _ (by omega) j).1
  have hL : 0 < ∑ c ∈ Finset.range ((i 2).val + 1), ∑ r, Pw Q K (i 2).val j c r := by
    refine lt_of_lt_of_le hpos ?_
    refine le_trans ?_ (Finset.single_le_sum (f := fun c => ∑ r, Pw Q K (i 2).val j c r) (fun c _ => Finset.sum_nonneg fun r _ => Pw_nonneg Q K _ j c r) (Finset.mem_range.2 (Nat.lt_succ_self (i 2).val)))
    exact Finset.single_le_sum (f := fun r => Pw Q K (i 2).val j (i 2).val r) (fun r _ => Pw_nonneg Q K _ j _ r) (Finset.mem_univ j)
  obtain ⟨hk, hE0, hE1⟩ := wexp hp hwp hpw
  have h109 : k0_pay109 (F := Ideal) (k0_pay104 p0 w0 p1 w1)
        (k0_pay107 (k0_pay104 p0 w0 p1 w1) (k0_pay105 p0 w0 p1 w1) (k0_pay106 p0 w0 p1 w1))
        (k0_pay108 (k0_pay104 p0 w0 p1 w1) (k0_pay105 p0 w0 p1 w1) (k0_pay106 p0 w0 p1 w1)) (ix2 0 j) = BitVec.ofInt 32 (expo (w / p)) := by
    rw [pay109_at, h104, hwm, hpm, hk]
  have h103 : k0_pay103 (F := Ideal) p0 p1 (ix2 0 j) = Ideal.div 1 (p : EReal) := by
    rw [← hpm]
    show Ideal.div (Ideal.ofBits .f32 0x3F800000#32) _ = _
    rw [ofBits_one, EReal.coe_one]
  have h110 := pay110_at j hp h103 h109 ⟨hE0, hE1⟩
  have hsum := t3_sum h0 hs H hw hT j hp rfl (fun c hc r => (hb c hc r).2) h110 d _ le_rfl
  rw [pay114_at d j h109 ⟨hE0, hE1⟩ hT', hsum, hl, hpm]
  exact out_eq _ (Pw Q K (i 2).val j) (fun c r => rexp (V c r)) (fun c r => (V c r d).toReal) hp hL

/-- The block of results, from what the first pass carries and keeps of the earlier blocks, and the diagonal block's own loads. -/
theorem block_value {v101 : FVec Ideal S256x128 .fp8e4m3} {v331 : FVec Ideal S1x256 .f32} {v544 : IVec S8x128 32} {v767 : Vec Ideal S1x256x128 .fp8e4m3}
    {v771 v774 : Vec Ideal S1x256x128 .f32} {v777 : Vec Ideal S1x8x128 .f32} {acc : Acc} {L1 : List (View.Piece (Elt Ideal) S64x256x256 .f32)}
    {l0 p0 w0 l1 p1 w1 : FVec Ideal S8x128 .f32} {f19 : BufTy.Contents (Elt Ideal) arg19.view.ty}
    (H : Held ((i 2).val + 1) v13 (arg14.view.read (Elt Ideal) X14) v15 v16 (arg17.view.read (Elt Ideal) X17) K V B)
    (hq : ∀ r d, v101 (ix2 r d) = rcode (Q r) d) (hr : ∀ j, v331 (ix2 0 j) = rscale (Q j))
    (hk : ∀ r d, v767 (ix3 0 r d) = rcode (K (i 2).val r) d) (hs : ∀ r l, v771 (ix3 0 r l) = rscale (K (i 2).val r))
    (hv : ∀ r l, v774 (ix3 0 r l) = (((2 : ℝ) ^ (rexp (V (i 2).val r) - B (i 2).val) : ℝ) : EReal)) (hb : ∀ a l, v777 (ix3 0 a l) = (((2 : ℝ) ^ B (i 2).val : ℝ) : EReal))
    (hT : ∀ a l, k0_pay69 (F := Ideal) v544 (ix2 a l) = (((2 : ℝ) ^ (-T) : ℝ) : EReal)) (hT' : ∀ l, v465 (ix2 0 l) = (((2 : ℝ) ^ T : ℝ) : EReal))
    (hX : ∀ c ≤ (i 2).val, ∀ r, -100 ≤ Xw V T c r ∧ Xw V T c r ≤ 0)
    (hacc : Carry (Pw Q K (i 2).val) (Xw V T) (i 2).val acc)
    (hkept : ∀ f, ∀ c : Fin 64, c.val < (i 2).val → ∀ r j, arg19.view.read (Elt Ideal) (arg19.view.writes (Elt Ideal) f L1) (ix3 c r j)
      = ((Pw Q K (i 2).val j c r * (2 : ℝ) ^ (rexp (V c r) - B c) : ℝ) : EReal))
    (he : (l0, p0, w0, l1, p1, w1) = (k0_pay90 acc.1 (k0_pay89 v101 v331 v767 v771), k0_pay91 acc.2.1 (k0_pay88 v101 v331 v767 v771),
      k0_pay93 acc.2.2.1 (k0_pay86 v774) (k0_pay87 v544 v777) (k0_pay88 v101 v331 v767 v771),
      k0_pay96 (k0_pay70 v331) acc.2.2.2.1 (k0_pay84 v101 v767) (k0_pay85 v771), k0_pay97 (k0_pay70 v331) acc.2.2.2.2.1 (k0_pay84 v101 v767) (k0_pay85 v771),
      k0_pay99 (k0_pay70 v331) acc.2.2.2.2.2 (k0_pay84 v101 v767) (k0_pay85 v771) (k0_pay86 v774) (k0_pay87 v544 v777)))
    (hX19 : X19 = arg19.view.writes (Elt Ideal) f19
      ((⟨Rect.unit (s := S64x256x256) (k0_off13 i) ![1, 256, 128] (k0_off13_inb i), k0_pay100 (k0_pay70 v331) (k0_pay84 v101 v767) (k0_pay85 v771) (k0_pay86 v774)⟩ : View.Piece (Elt Ideal) S64x256x256 .f32)
        :: (⟨Rect.unit (s := S64x256x256) (k0_off12 i) ![1, 256, 128] (k0_off12_inb i), k0_pay94 (k0_pay86 v774) (k0_pay88 v101 v331 v767 v771)⟩ : View.Piece (Elt Ideal) S64x256x256 .f32) :: L1))
    {st : ℕ → FVec Ideal S128x256 .f32} (h0 : st 0 = k0_pay111)
    (hst : ∀ k : Fin (k0_t3_loop i).trips, st (k.val + 1) = k0_pay112 (k0_pay69 v544) (k0_pay103 p0 p1) (k0_pay104 p0 w0 p1 w1)
          (k0_pay107 (k0_pay104 p0 w0 p1 w1) (k0_pay105 p0 w0 p1 w1) (k0_pay106 p0 w0 p1 w1))
          (k0_pay108 (k0_pay104 p0 w0 p1 w1) (k0_pay105 p0 w0 p1 w1) (k0_pay106 p0 w0 p1 w1)) (st k.val)
          (View.readAt (Elt Ideal) arg17.view (Rect.unit (s := S64x8x128) (k0_off14 i k) ![1, 8, 128] (k0_off14_inb i k)).toLoadRect X17)
          (View.readAt (Elt Ideal) arg19.view (Rect.unit (s := S64x256x256) (k0_off15 i k) ![1, 256, 256] (k0_off15_inb i k)).toLoadRect X19)
          (View.readAt (Elt Ideal) arg14.view (Rect.unit (s := S64x128x256) (k0_off16 i k) ![1, 128, 256] (k0_off16_inb i k)).toLoadRect X14))
    (j : Fin 256) (d : Fin 128) :
    k0_pay114 v465 (k0_pay101 l0 l1) (k0_pay102 p0 p1) (k0_pay104 p0 w0 p1 w1)
        (k0_pay107 (k0_pay104 p0 w0 p1 w1) (k0_pay105 p0 w0 p1 w1) (k0_pay106 p0 w0 p1 w1))
        (k0_pay108 (k0_pay104 p0 w0 p1 w1) (k0_pay105 p0 w0 p1 w1) (k0_pay106 p0 w0 p1 w1)) (st ((i 2).val + 1)) (ix2 j d)
      = ((attn Q K V (i 2).val j d : ℝ) : EReal) := by
  have hPd : ∀ j r, Pw Q K (i 2).val j (i 2).val r = mwt Q (K (i 2).val) j r := fun j r => if_neg (lt_irrefl _)
  have hc : Carry (Pw Q K (i 2).val) (Xw V T) ((i 2).val + 1) (l0, p0, w0, l1, p1, w1) := by
    rw [he]
    exact hacc.diag hq hr hk hs hv hb hT hPd (fun _ => rfl) (hX _ le_rfl)
  refine block_final hc h0 hst H ?_ (hT 0) hT' j d
  intro c hcn r j
  rw [hX19]
  by_cases hck : c.val = (i 2).val
  · refine (store_halves arg19.view f19 (k0_off12_inb i) (k0_off13_inb i) (k0_pay94 (k0_pay86 v774) (k0_pay88 v101 v331 v767 v771))
      (k0_pay100 (k0_pay70 v331) (k0_pay84 v101 v767) (k0_pay85 v771) (k0_pay86 v774)) L1 c ((off12 i).trans (by rw [hck])) ((off13 i).trans (by rw [hck])) r j).trans ?_
    rw [hck, hPd]
    split
    · rename_i hj
      rw [kept_diag_lo hq hr hk hs hv, lo_eq]
    · rename_i hj
      rw [kept_diag_hi hq hr hk hs hv, hi_eq j hj]
  · refine (keep_block arg19.view f19 (k0_off13_inb i) _ _ c (i 2).val (off13 i) hck r j).trans ?_
    refine (keep_block arg19.view f19 (k0_off12_inb i) _ _ c (i 2).val (off12 i) hck r j).trans ?_
    exact hkept f19 c (by omega) r j

end Final

end Cert.KernelIdeal.Val
-- ==== Proof.Rows.lean ====
module

public import proofs.«01_k».proof.Proof.KernelIdealBlockOut

@[expose] public section
set_option maxRecDepth 100000
noncomputable section
namespace Cert.Rows
open Idealize.ShloMosaic Cert.KernelIdeal.Val Cert.Scales

/-- An array of activations, and an array of scales. -/
abbrev Arr := (⟨3, ![4, 16384, 1024]⟩ : Shape).Idx → EReal
abbrev Scl := (⟨5, ![4, 8, 64, 1, 256]⟩ : Shape).Idx → EReal

/-- Row `r` of block `c` of head `h` in batch `b`. -/
def arow (A : Arr) (b : Fin 4) (h : Fin 8) (c : ℕ) (r : Fin 256) : Fin 128 → EReal :=
  fun d => A (ix3 b ⟨(c * 256 + r.val) % 16384, Nat.mod_lt _ (by norm_num)⟩ ⟨h.val * 128 + d.val, by omega⟩)

/-- The coordinates of an entry: its head, its column in the head, its block, its row in the block. -/
def hd (i : (⟨3, ![4, 16384, 1024]⟩ : Shape).Idx) : Fin 8 := ⟨(i 2).val / 128, by have : (i 2).val < 1024 := (i 2).isLt; omega⟩
def hc (i : (⟨3, ![4, 16384, 1024]⟩ : Shape).Idx) : Fin 128 := ⟨(i 2).val % 128, Nat.mod_lt _ (by norm_num)⟩
def rb (i : (⟨3, ![4, 16384, 1024]⟩ : Shape).Idx) : ℕ := (i 1).val / 256
def rr (i : (⟨3, ![4, 16384, 1024]⟩ : Shape).Idx) : Fin 256 := ⟨(i 1).val % 256, Nat.mod_lt _ (by norm_num)⟩

/-- The attention of every query. -/
def outArr (X K V : Arr) : Arr := fun i =>
  ((attn (arow X (i 0) (hd i) (rb i)) (arow K (i 0) (hd i)) (arow V (i 0) (hd i)) (rb i) (rr i) (hc i) : ℝ) : EReal)

/-- The codes of every row. -/
def codeArr (A : Arr) : Arr := fun i => rcode (arow A (i 0) (hd i) (rb i) (rr i)) (hc i)

/-- The scales of every row. -/
def sclArr (A : Arr) : Scl := fun i => rscale (arow A (i 0) (i 1) (i 2).val (i 4))

/-- Every row fits the given range of exponents. -/
def AllFit (lo hi : ℤ) (A : Arr) : Prop := ∀ b h c r, Fits lo hi (arow A b h c r)

end Cert.Rows

end
-- ==== Proof.KernelIdealRunA.lean ====
module

public import proofs.«01_k».proof.Proof.Gen.KernelIdeal.Skeleton
public import proofs.«01_k».proof.Proof.Gen.KernelIdeal.Loops
public import proofs.«01_k».proof.Proof.Gen.KernelIdeal.Frame

@[expose] public section

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

/-- The first key block of a head: the grid's last coordinate is zero. -/
abbrev cond0 (i : grid0.Coords) : Prop := (Scalar.cmpi .ne (Scalar.extui (Scalar.cmpi .eq (BitVec.ofNat 32 (i 2).val) 0#32)) 0#32) = 1#1

/-- A later key block: the grid's last coordinate is positive. -/
abbrev cond1 (i : grid0.Coords) : Prop := (Scalar.cmpi .ne (Scalar.extui (Scalar.cmpi .sgt (BitVec.ofNat 32 (i 2).val) 0#32)) 0#32) = 1#1

set_option maxHeartbeats 2000000 in
/-- The whole body at a grid point whose key block index is zero: from the three input blocks and whatever the scratch
    holds, it runs to its end; the lists are the blocks it stores, last first, into each output and each scratch buffer. -/
noncomputable def runA (c : Dev nD) (i : grid0.Coords) (arg3 : Memref sig .tc .vmem S1x256x128 .bf16) (harg3 : arg3.IsWhole) (arg4 : Memref sig .tc .vmem S1x256x128 .bf16) (harg4 : arg4.IsWhole) (arg5 : Memref sig .tc .vmem S1x256x128 .bf16) (harg5 : arg5.IsWhole) (arg6 : Memref sig .tc .vmem S1x256x128 .bf16) (harg6 : arg6.IsWhole) (arg7 : Memref sig .tc .vmem S1x256x128 .fp8e4m3) (harg7 : arg7.IsWhole) (arg8 : Memref sig .tc .vmem S1x1x1x1x256 .f32) (harg8 : arg8.IsWhole) (arg9 : Memref sig .tc .vmem S1x256x128 .fp8e4m3) (harg9 : arg9.IsWhole) (arg10 : Memref sig .tc .vmem S1x1x1x1x256 .f32) (harg10 : arg10.IsWhole) (arg11 : Memref sig .tc .vmem S1x256x128 .fp8e4m3) (harg11 : arg11.IsWhole) (arg12 : Memref sig .tc .vmem S1x1x1x1x256 .f32) (harg12 : arg12.IsWhole) (arg13 : Memref sig .tc .vmem S64x256x128 .fp8e4m3) (harg13 : arg13.IsWhole) (arg14 : Memref sig .tc .vmem S64x128x256 .fp8e4m3) (harg14 : arg14.IsWhole) (arg15 : Memref sig .tc .vmem S64x256x128 .f32) (harg15 : arg15.IsWhole) (arg16 : Memref sig .tc .vmem S64x256x128 .f32) (harg16 : arg16.IsWhole) (arg17 : Memref sig .tc .vmem S64x8x128 .f32) (harg17 : arg17.IsWhole) (arg18 : Memref sig .tc .vmem S8x128 .f32) (harg18 : arg18.IsWhole) (arg19 : Memref sig .tc .vmem S64x256x256 .f32) (harg19 : arg19.IsWhole) (hc0 : cond0 i) (hc1 : ¬cond1 i)
    (x3 : Vec F S1x256x128 .bf16) (x4 : Vec F S1x256x128 .bf16) (x5 : Vec F S1x256x128 .bf16) (s13 : Vec F S64x256x128 .fp8e4m3) (s14 : Vec F S64x128x256 .fp8e4m3) (s15 : Vec F S64x256x128 .f32) (s16 : Vec F S64x256x128 .f32) (s17 : Vec F S64x8x128 .f32) (s18 : Vec F S8x128 .f32) (s19 : Vec F S64x256x256 .f32) :
    Σ' (L6 : List (View.Piece (Elt F) S1x256x128 .bf16)) (L7 : List (View.Piece (Elt F) S1x256x128 .fp8e4m3)) (L8 : List (View.Piece (Elt F) S1x1x1x1x256 .f32)) (L9 : List (View.Piece (Elt F) S1x256x128 .fp8e4m3)) (L10 : List (View.Piece (Elt F) S1x1x1x1x256 .f32)) (L11 : List (View.Piece (Elt F) S1x256x128 .fp8e4m3)) (L12 : List (View.Piece (Elt F) S1x1x1x1x256 .f32)) (L13 : List (View.Piece (Elt F) S64x256x128 .fp8e4m3)) (L14 : List (View.Piece (Elt F) S64x128x256 .fp8e4m3)) (L15 : List (View.Piece (Elt F) S64x256x128 .f32)) (L16 : List (View.Piece (Elt F) S64x256x128 .f32)) (L17 : List (View.Piece (Elt F) S64x8x128 .f32)) (L18 : List (View.Piece (Elt F) S8x128 .f32)),
    { L19 : List (View.Piece (Elt F) S64x256x256 .f32) //
      ∀ (E : Set ℕ) (K : PUnit → sProp 𝕄),
        iprop(owns (c : Thread nD τ) arg3 fullShare x3 ∗ owns (c : Thread nD τ) arg4 fullShare x4 ∗ owns (c : Thread nD τ) arg5 fullShare x5 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ owns (c : Thread nD τ) arg13 fullShare s13 ∗ owns (c : Thread nD τ) arg14 fullShare s14 ∗ owns (c : Thread nD τ) arg15 fullShare s15 ∗ owns (c : Thread nD τ) arg16 fullShare s16 ∗ owns (c : Thread nD τ) arg17 fullShare s17 ∗ owns (c : Thread nD τ) arg18 fullShare s18 ∗ owns (c : Thread nD τ) arg19 fullShare s19
            ∗ (iprop(owns (c : Thread nD τ) arg3 fullShare x3 ∗ owns (c : Thread nD τ) arg4 fullShare x4 ∗ owns (c : Thread nD τ) arg5 fullShare x5 ∗ (∃ f, arg6.view.loc (c : Thread nD τ) ↦[arg6.view.set]{fullShare} arg6.view.writes (Elt F) f L6) ∗ (∃ f, arg7.view.loc (c : Thread nD τ) ↦[arg7.view.set]{fullShare} arg7.view.writes (Elt F) f L7) ∗ (∃ f, arg8.view.loc (c : Thread nD τ) ↦[arg8.view.set]{fullShare} arg8.view.writes (Elt F) f L8) ∗ (∃ f, arg9.view.loc (c : Thread nD τ) ↦[arg9.view.set]{fullShare} arg9.view.writes (Elt F) f L9) ∗ (∃ f, arg10.view.loc (c : Thread nD τ) ↦[arg10.view.set]{fullShare} arg10.view.writes (Elt F) f L10) ∗ (∃ f, arg11.view.loc (c : Thread nD τ) ↦[arg11.view.set]{fullShare} arg11.view.writes (Elt F) f L11) ∗ (∃ f, arg12.view.loc (c : Thread nD τ) ↦[arg12.view.set]{fullShare} arg12.view.writes (Elt F) f L12) ∗ (arg13.view.loc (c : Thread nD τ) ↦[arg13.view.set]{fullShare} arg13.view.writes (Elt F) (harg13.unread s13) L13) ∗ (arg14.view.loc (c : Thread nD τ) ↦[arg14.view.set]{fullShare} arg14.view.writes (Elt F) (harg14.unread s14) L14) ∗ (arg15.view.loc (c : Thread nD τ) ↦[arg15.view.set]{fullShare} arg15.view.writes (Elt F) (harg15.unread s15) L15) ∗ (arg16.view.loc (c : Thread nD τ) ↦[arg16.view.set]{fullShare} arg16.view.writes (Elt F) (harg16.unread s16) L16) ∗ (arg17.view.loc (c : Thread nD τ) ↦[arg17.view.set]{fullShare} arg17.view.writes (Elt F) (harg17.unread s17) L17) ∗ (∃ f, arg18.view.loc (c : Thread nD τ) ↦[arg18.view.set]{fullShare} arg18.view.writes (Elt F) f L18) ∗ (arg19.view.loc (c : Thread nD τ) ↦[arg19.view.set]{fullShare} arg19.view.writes (Elt F) (harg19.unread s19) L19)) -∗ K ⟨⟩))
          ⊢ wp frame (wpE (defs₀ (F := F)) Variants.none c none) E (cc0_softcap_attention i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K } := by
  refine ⟨?_, ?_, ?_, ?_, ?_, ?_, ?_, ?_, ?_, ?_, ?_, ?_, ?_, ?_, fun E K => ?run⟩
  case run =>
    simp only [cc0_softcap_attention_eq_skeleton]; unfold cc0_softcap_attention_skel
    simp only [k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton]
    unfold owns
    iintro ⟨⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, Hk⟩
    obtain rfl := harg3.eq_unread hf3
    obtain rfl := harg4.eq_unread hf4
    obtain rfl := harg5.eq_unread hf5
    obtain rfl := harg13.eq_unread hf13
    obtain rfl := harg14.eq_unread hf14
    obtain rfl := harg15.eq_unread hf15
    obtain rfl := harg16.eq_unread hf16
    obtain rfl := harg17.eq_unread hf17
    obtain rfl := harg18.eq_unread hf18
    obtain rfl := harg19.eq_unread hf19
    sl_exec (disch := first | sl_exact hc0 | sl_exact hc1)
    sl_step
    iapply Hk
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]; · iexists _; iexact H6
    isplitl [H7]; · iexists _; iexact H7
    isplitl [H8]; · iexists _; iexact H8
    isplitl [H9]; · iexists _; iexact H9
    isplitl [H10]; · iexists _; iexact H10
    isplitl [H11]; · iexists _; iexact H11
    isplitl [H12]; · iexists _; iexact H12
    isplitl [H13]; · iexact H13
    isplitl [H14]; · iexact H14
    isplitl [H15]; · iexact H15
    isplitl [H16]; · iexact H16
    isplitl [H17]; · iexact H17
    isplitl [H18]; · iexists _; iexact H18
    iexact H19

end Cert.KernelIdeal.Run

end
-- ==== Proof.KernelIdealRunB.lean ====
module

public import proofs.«01_k».proof.Proof.KernelIdealRunA

@[expose] public section

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

set_option maxHeartbeats 2000000 in
/-- The whole body at a grid point whose key block index is positive: from the three input blocks and whatever the scratch
    holds, it runs to its end; the lists are the blocks it stores, last first, into each output and each scratch buffer. -/
noncomputable def runB (c : Dev nD) (i : grid0.Coords) (arg3 : Memref sig .tc .vmem S1x256x128 .bf16) (harg3 : arg3.IsWhole) (arg4 : Memref sig .tc .vmem S1x256x128 .bf16) (harg4 : arg4.IsWhole) (arg5 : Memref sig .tc .vmem S1x256x128 .bf16) (harg5 : arg5.IsWhole) (arg6 : Memref sig .tc .vmem S1x256x128 .bf16) (harg6 : arg6.IsWhole) (arg7 : Memref sig .tc .vmem S1x256x128 .fp8e4m3) (harg7 : arg7.IsWhole) (arg8 : Memref sig .tc .vmem S1x1x1x1x256 .f32) (harg8 : arg8.IsWhole) (arg9 : Memref sig .tc .vmem S1x256x128 .fp8e4m3) (harg9 : arg9.IsWhole) (arg10 : Memref sig .tc .vmem S1x1x1x1x256 .f32) (harg10 : arg10.IsWhole) (arg11 : Memref sig .tc .vmem S1x256x128 .fp8e4m3) (harg11 : arg11.IsWhole) (arg12 : Memref sig .tc .vmem S1x1x1x1x256 .f32) (harg12 : arg12.IsWhole) (arg13 : Memref sig .tc .vmem S64x256x128 .fp8e4m3) (harg13 : arg13.IsWhole) (arg14 : Memref sig .tc .vmem S64x128x256 .fp8e4m3) (harg14 : arg14.IsWhole) (arg15 : Memref sig .tc .vmem S64x256x128 .f32) (harg15 : arg15.IsWhole) (arg16 : Memref sig .tc .vmem S64x256x128 .f32) (harg16 : arg16.IsWhole) (arg17 : Memref sig .tc .vmem S64x8x128 .f32) (harg17 : arg17.IsWhole) (arg18 : Memref sig .tc .vmem S8x128 .f32) (harg18 : arg18.IsWhole) (arg19 : Memref sig .tc .vmem S64x256x256 .f32) (harg19 : arg19.IsWhole) (hc0 : ¬cond0 i) (hc1 : cond1 i)
    (x3 : Vec F S1x256x128 .bf16) (x4 : Vec F S1x256x128 .bf16) (x5 : Vec F S1x256x128 .bf16) (s13 : Vec F S64x256x128 .fp8e4m3) (s14 : Vec F S64x128x256 .fp8e4m3) (s15 : Vec F S64x256x128 .f32) (s16 : Vec F S64x256x128 .f32) (s17 : Vec F S64x8x128 .f32) (s18 : Vec F S8x128 .f32) (s19 : Vec F S64x256x256 .f32) :
    Σ' (L6 : List (View.Piece (Elt F) S1x256x128 .bf16)) (L7 : List (View.Piece (Elt F) S1x256x128 .fp8e4m3)) (L8 : List (View.Piece (Elt F) S1x1x1x1x256 .f32)) (L9 : List (View.Piece (Elt F) S1x256x128 .fp8e4m3)) (L10 : List (View.Piece (Elt F) S1x1x1x1x256 .f32)) (L11 : List (View.Piece (Elt F) S1x256x128 .fp8e4m3)) (L12 : List (View.Piece (Elt F) S1x1x1x1x256 .f32)) (L13 : List (View.Piece (Elt F) S64x256x128 .fp8e4m3)) (L14 : List (View.Piece (Elt F) S64x128x256 .fp8e4m3)) (L15 : List (View.Piece (Elt F) S64x256x128 .f32)) (L16 : List (View.Piece (Elt F) S64x256x128 .f32)) (L17 : List (View.Piece (Elt F) S64x8x128 .f32)) (L18 : List (View.Piece (Elt F) S8x128 .f32)),
    { L19 : List (View.Piece (Elt F) S64x256x256 .f32) //
      ∀ (E : Set ℕ) (K : PUnit → sProp 𝕄),
        iprop(owns (c : Thread nD τ) arg3 fullShare x3 ∗ owns (c : Thread nD τ) arg4 fullShare x4 ∗ owns (c : Thread nD τ) arg5 fullShare x5 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ owns (c : Thread nD τ) arg13 fullShare s13 ∗ owns (c : Thread nD τ) arg14 fullShare s14 ∗ owns (c : Thread nD τ) arg15 fullShare s15 ∗ owns (c : Thread nD τ) arg16 fullShare s16 ∗ owns (c : Thread nD τ) arg17 fullShare s17 ∗ owns (c : Thread nD τ) arg18 fullShare s18 ∗ owns (c : Thread nD τ) arg19 fullShare s19
            ∗ (iprop(owns (c : Thread nD τ) arg3 fullShare x3 ∗ owns (c : Thread nD τ) arg4 fullShare x4 ∗ owns (c : Thread nD τ) arg5 fullShare x5 ∗ (∃ f, arg6.view.loc (c : Thread nD τ) ↦[arg6.view.set]{fullShare} arg6.view.writes (Elt F) f L6) ∗ (∃ f, arg7.view.loc (c : Thread nD τ) ↦[arg7.view.set]{fullShare} arg7.view.writes (Elt F) f L7) ∗ (∃ f, arg8.view.loc (c : Thread nD τ) ↦[arg8.view.set]{fullShare} arg8.view.writes (Elt F) f L8) ∗ (∃ f, arg9.view.loc (c : Thread nD τ) ↦[arg9.view.set]{fullShare} arg9.view.writes (Elt F) f L9) ∗ (∃ f, arg10.view.loc (c : Thread nD τ) ↦[arg10.view.set]{fullShare} arg10.view.writes (Elt F) f L10) ∗ (∃ f, arg11.view.loc (c : Thread nD τ) ↦[arg11.view.set]{fullShare} arg11.view.writes (Elt F) f L11) ∗ (∃ f, arg12.view.loc (c : Thread nD τ) ↦[arg12.view.set]{fullShare} arg12.view.writes (Elt F) f L12) ∗ (arg13.view.loc (c : Thread nD τ) ↦[arg13.view.set]{fullShare} arg13.view.writes (Elt F) (harg13.unread s13) L13) ∗ (arg14.view.loc (c : Thread nD τ) ↦[arg14.view.set]{fullShare} arg14.view.writes (Elt F) (harg14.unread s14) L14) ∗ (arg15.view.loc (c : Thread nD τ) ↦[arg15.view.set]{fullShare} arg15.view.writes (Elt F) (harg15.unread s15) L15) ∗ (arg16.view.loc (c : Thread nD τ) ↦[arg16.view.set]{fullShare} arg16.view.writes (Elt F) (harg16.unread s16) L16) ∗ (arg17.view.loc (c : Thread nD τ) ↦[arg17.view.set]{fullShare} arg17.view.writes (Elt F) (harg17.unread s17) L17) ∗ (∃ f, arg18.view.loc (c : Thread nD τ) ↦[arg18.view.set]{fullShare} arg18.view.writes (Elt F) f L18) ∗ (arg19.view.loc (c : Thread nD τ) ↦[arg19.view.set]{fullShare} arg19.view.writes (Elt F) (harg19.unread s19) L19)) -∗ K ⟨⟩))
          ⊢ wp frame (wpE (defs₀ (F := F)) Variants.none c none) E (cc0_softcap_attention i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K } := by
  refine ⟨?_, ?_, ?_, ?_, ?_, ?_, ?_, ?_, ?_, ?_, ?_, ?_, ?_, ?_, fun E K => ?run⟩
  case run =>
    simp only [cc0_softcap_attention_eq_skeleton]; unfold cc0_softcap_attention_skel
    simp only [k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton]
    unfold owns
    iintro ⟨⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, Hk⟩
    obtain rfl := harg3.eq_unread hf3
    obtain rfl := harg4.eq_unread hf4
    obtain rfl := harg5.eq_unread hf5
    obtain rfl := harg13.eq_unread hf13
    obtain rfl := harg14.eq_unread hf14
    obtain rfl := harg15.eq_unread hf15
    obtain rfl := harg16.eq_unread hf16
    obtain rfl := harg17.eq_unread hf17
    obtain rfl := harg18.eq_unread hf18
    obtain rfl := harg19.eq_unread hf19
    sl_exec (disch := first | sl_exact hc0 | sl_exact hc1)
    sl_step
    iapply Hk
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]; · iexists _; iexact H6
    isplitl [H7]; · iexists _; iexact H7
    isplitl [H8]; · iexists _; iexact H8
    isplitl [H9]; · iexists _; iexact H9
    isplitl [H10]; · iexists _; iexact H10
    isplitl [H11]; · iexists _; iexact H11
    isplitl [H12]; · iexists _; iexact H12
    isplitl [H13]; · iexact H13
    isplitl [H14]; · iexact H14
    isplitl [H15]; · iexact H15
    isplitl [H16]; · iexact H16
    isplitl [H17]; · iexact H17
    isplitl [H18]; · iexists _; iexact H18
    iexact H19

end Cert.KernelIdeal.Run

end
-- ==== Proof.KernelIdealFrame.lean ====
module

public import proofs.«01_k».proof.Proof.KernelIdealRunB
public import Idealize.ShloMosaic.Lib.Claim

@[expose] public section

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The first branch is taken exactly at the points whose key block index is zero. -/
theorem hcond0 : ∀ t : Fin cfg0.N, cond0 (grid0.coords t) ↔ t.val % 64 = 0 :=
  (fun t => by
    have ht : t.val < 2048 := Nat.lt_of_lt_of_eq t.isLt N_0
    have e0 : (grid0.coords t 2).val = t.val / 1 % 64 := Pipeline.Grid.coords_val t 2 (by decide) rfl
    simp only [cond0, e0]
    word_cmp
   : ∀ t : Fin grid0.N, cond0 (grid0.coords t) ↔ t.val % 64 = 0)

/-- The second branch is taken exactly at the other points. -/
theorem hcond1 : ∀ t : Fin cfg0.N, cond1 (grid0.coords t) ↔ ¬ t.val % 64 = 0 :=
  (fun t => by
    have ht : t.val < 2048 := Nat.lt_of_lt_of_eq t.isLt N_0
    have e0 : (grid0.coords t 2).val = t.val / 1 % 64 := Pipeline.Grid.coords_val t 2 (by decide) rfl
    simp only [cond1, e0]
    word_cmp
   : ∀ t : Fin grid0.N, cond1 (grid0.coords t) ↔ ¬ t.val % 64 = 0)

/-! The staging memref of each window at a point, and the scratch buffers. -/

abbrev ms0 (t : Fin cfg0.N) : Memref sig .tc .vmem S1x256x128 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x256x128 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x256x128 .bf16 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x256x128 .bf16 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x256x128 .fp8e4m3 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x1x1x1x256 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S1x256x128 .fp8e4m3 := win0_6.stage (cfg0.slots t 6)
abbrev hs6 (t : Fin cfg0.N) : (ms6 t).IsWhole := hstage0_6 ((cfg0.slots t 6).cast nbuf0_6)
abbrev ms7 (t : Fin cfg0.N) : Memref sig .tc .vmem S1x1x1x1x256 .f32 := win0_7.stage (cfg0.slots t 7)
abbrev hs7 (t : Fin cfg0.N) : (ms7 t).IsWhole := hstage0_7 ((cfg0.slots t 7).cast nbuf0_7)
abbrev ms8 (t : Fin cfg0.N) : Memref sig .tc .vmem S1x256x128 .fp8e4m3 := win0_8.stage (cfg0.slots t 8)
abbrev hs8 (t : Fin cfg0.N) : (ms8 t).IsWhole := hstage0_8 ((cfg0.slots t 8).cast nbuf0_8)
abbrev ms9 (t : Fin cfg0.N) : Memref sig .tc .vmem S1x1x1x1x256 .f32 := win0_9.stage (cfg0.slots t 9)
abbrev hs9 (t : Fin cfg0.N) : (ms9 t).IsWhole := hstage0_9 ((cfg0.slots t 9).cast nbuf0_9)
abbrev sc13 : Memref sig .tc .vmem S64x256x128 .fp8e4m3 := Memref.whole cc0_scratch0
abbrev sc14 : Memref sig .tc .vmem S64x128x256 .fp8e4m3 := Memref.whole cc0_scratch1
abbrev sc15 : Memref sig .tc .vmem S64x256x128 .f32 := Memref.whole cc0_scratch2
abbrev sc16 : Memref sig .tc .vmem S64x256x128 .f32 := Memref.whole cc0_scratch3
abbrev sc17 : Memref sig .tc .vmem S64x8x128 .f32 := Memref.whole cc0_scratch4
abbrev sc18 : Memref sig .tc .vmem S8x128 .f32 := Memref.whole cc0_scratch5
abbrev sc19 : Memref sig .tc .vmem S64x256x256 .f32 := Memref.whole cc0_scratch6

/-- The region's own invariant, spelled over the seven scratch buffers. -/
theorem PhiA0_eq (c : Dev nD) :
    (Pipeline.ΦA spec0 c : sProp 𝕄)
      = iprop(iprop((∃ d, owns (c : Thread nD τ) sc13 fullShare d) ∗ (∃ d, owns (c : Thread nD τ) sc14 fullShare d) ∗ (∃ d, owns (c : Thread nD τ) sc15 fullShare d) ∗ (∃ d, owns (c : Thread nD τ) sc16 fullShare d) ∗ (∃ d, owns (c : Thread nD τ) sc17 fullShare d) ∗ (∃ d, owns (c : Thread nD τ) sc18 fullShare d) ∗ (∃ d, owns (c : Thread nD τ) sc19 fullShare d)) ∗ (∃ r, prngReg c r)) := by
  unfold Pipeline.ΦA; rw [scopedRest0_eq]; simp only [sc13, sc14, sc15, sc16, sc17, sc18, sc19, owns_whole]; try rfl

/-- The output windows: the frame states nothing of what the kernel leaves in them. -/
def forgets0 : Fin 10 → Bool := fun w => decide (3 ≤ w.val)

/-- The proof data of the pipeline: each input's buffer keeps its block, the outputs are forgotten, the scratch holds anything. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, h⟩ => Pipeline.Dat.unnamed (cfg := cfg0) ⟨3, h⟩ t
    | ⟨4, h⟩ => Pipeline.Dat.unnamed (cfg := cfg0) ⟨4, h⟩ t
    | ⟨5, h⟩ => Pipeline.Dat.unnamed (cfg := cfg0) ⟨5, h⟩ t
    | ⟨6, h⟩ => Pipeline.Dat.unnamed (cfg := cfg0) ⟨6, h⟩ t
    | ⟨7, h⟩ => Pipeline.Dat.unnamed (cfg := cfg0) ⟨7, h⟩ t
    | ⟨8, h⟩ => Pipeline.Dat.unnamed (cfg := cfg0) ⟨8, h⟩ t
    | ⟨9, h⟩ => Pipeline.Dat.unnamed (cfg := cfg0) ⟨9, h⟩ t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem before0_0 (c : Dev nD) (t : Fin cfg0.N) (d) : (dats m 0 c).before 0 t d = iblk m c 0 t :=
  before0_0_of m (dats m 0 c) (A_eq m c 0) (after0_0 m c) t d
theorem after0_1 (c : Dev nD) (t : Fin cfg0.N) : (dats m 0 c).after 1 t = iblk m c 1 t := by dsimp only [dats]
theorem before0_1 (c : Dev nD) (t : Fin cfg0.N) (d) : (dats m 0 c).before 1 t d = iblk m c 1 t :=
  before0_1_of m (dats m 0 c) (A_eq m c 1) (after0_1 m c) t d
theorem after0_2 (c : Dev nD) (t : Fin cfg0.N) : (dats m 0 c).after 2 t = iblk m c 2 t := by dsimp only [dats]
theorem before0_2 (c : Dev nD) (t : Fin cfg0.N) (d) : (dats m 0 c).before 2 t d = iblk m c 2 t :=
  before0_2_of m (dats m 0 c) (A_eq m c 2) (after0_2 m c) t d

/-- What the body is called with at a point, window by window. -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d)) ∗ (∃ d, owns (c : Thread nD τ) (ms1 t) fullShare ((dats m 0 c).before 1 t d)) ∗ (∃ d, owns (c : Thread nD τ) (ms2 t) fullShare ((dats m 0 c).before 2 t d)) ∗ (∃ d, owns (c : Thread nD τ) (ms3 t) fullShare d) ∗ (∃ d, owns (c : Thread nD τ) (ms4 t) fullShare d) ∗ (∃ d, owns (c : Thread nD τ) (ms5 t) fullShare d) ∗ (∃ d, owns (c : Thread nD τ) (ms6 t) fullShare d) ∗ (∃ d, owns (c : Thread nD τ) (ms7 t) fullShare d) ∗ (∃ d, owns (c : Thread nD τ) (ms8 t) fullShare d) ∗ (∃ d, owns (c : Thread nD τ) (ms9 t) fullShare d))

/-- What the body returns at a point, window by window. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t) ∗ owns (c : Thread nD τ) (ms1 t) fullShare ((dats m 0 c).after 1 t) ∗ owns (c : Thread nD τ) (ms2 t) fullShare ((dats m 0 c).after 2 t) ∗ (∃ d, owns (c : Thread nD τ) (ms3 t) fullShare d) ∗ (∃ d, owns (c : Thread nD τ) (ms4 t) fullShare d) ∗ (∃ d, owns (c : Thread nD τ) (ms5 t) fullShare d) ∗ (∃ d, owns (c : Thread nD τ) (ms6 t) fullShare d) ∗ (∃ d, owns (c : Thread nD τ) (ms7 t) fullShare d) ∗ (∃ d, owns (c : Thread nD τ) (ms8 t) fullShare d) ∗ (∃ d, owns (c : Thread nD τ) (ms9 t) fullShare d))

/-- A buffer at some contents is owned at some value. -/
theorem own_some (c : Dev nD) {s : Shape} {e : EltTy} (M : Memref sig .tc .vmem s e) (f : BufTy.Contents (Elt F) M.view.ty) :
    (M.view.loc (c : Thread nD τ) ↦[M.view.set]{fullShare} f : sProp 𝕄) ⊢ iprop(∃ d, owns (c : Thread nD τ) M fullShare d) := by
  iintro H
  iexists _; unfold owns; iexists _; isplitr
  swap; · iexact H
  ipureintro; rfl

set_option maxHeartbeats 1600000 in
/-- The body at any point runs from what it is called with to what it returns. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).owesAt () t.succ = (dats m 0 c).owesAt () t.castSucc from rfl, after0_0, after0_1, after0_2,
    show (dats m 0 c).Φ t.succ = Pipeline.ΦA spec0 c from rfl, show (dats m 0 c).Φ t.castSucc = Pipeline.ΦA spec0 c from rfl, PhiA0_eq]
  iintro ⟨⟨⟨⟨%s13, S13⟩, ⟨%s14, S14⟩, ⟨%s15, S15⟩, ⟨%s16, S16⟩, ⟨%s17, S17⟩, ⟨%s18, S18⟩, ⟨%s19, S19⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  by_cases h0 : t.val % 64 = 0
  · iapply ((runA c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) sc13 (Memref.isWhole_whole _) sc14 (Memref.isWhole_whole _) sc15 (Memref.isWhole_whole _) sc16 (Memref.isWhole_whole _) sc17 (Memref.isWhole_whole _) sc18 (Memref.isWhole_whole _) sc19 (Memref.isWhole_whole _) ((hcond0 t).mpr h0) (fun h => (hcond1 t).mp h h0) (iblk m c 0 t) (iblk m c 1 t) (iblk m c 2 t) s13 s14 s15 s16 s17 s18 s19).2.2.2.2.2.2.2.2.2.2.2.2.2.2 Set.univ _)
    isplitl [H0]; · iexact H0
    isplitl [H1]; · iexact H1
    isplitl [H2]; · iexact H2
    isplitl [H3]; · iexists _; iexact H3
    isplitl [H4]; · iexists _; iexact H4
    isplitl [H5]; · iexists _; iexact H5
    isplitl [H6]; · iexists _; iexact H6
    isplitl [H7]; · iexists _; iexact H7
    isplitl [H8]; · iexists _; iexact H8
    isplitl [H9]; · iexists _; iexact H9
    isplitl [S13]; · iexact S13
    isplitl [S14]; · iexact S14
    isplitl [S15]; · iexact S15
    isplitl [S16]; · iexact S16
    isplitl [S17]; · iexact S17
    isplitl [S18]; · iexact S18
    isplitl [S19]; · iexact S19
    iintro ⟨H0, H1, H2, ⟨%e3, H3⟩, ⟨%e4, H4⟩, ⟨%e5, H5⟩, ⟨%e6, H6⟩, ⟨%e7, H7⟩, ⟨%e8, H8⟩, ⟨%e9, H9⟩, S13, S14, S15, S16, S17, ⟨%e18, S18⟩, S19⟩
    isplitl [S13 S14 S15 S16 S17 S18 S19 Hg]
    · isplitl [S13 S14 S15 S16 S17 S18 S19]
      · isplitl [S13]; · iapply (own_some c sc13 _); iexact S13
        isplitl [S14]; · iapply (own_some c sc14 _); iexact S14
        isplitl [S15]; · iapply (own_some c sc15 _); iexact S15
        isplitl [S16]; · iapply (own_some c sc16 _); iexact S16
        isplitl [S17]; · iapply (own_some c sc17 _); iexact S17
        isplitl [S18]; · iapply (own_some c sc18 _); iexact S18
        iapply (own_some c sc19 _); iexact S19
      iexact Hg
    isplitl [Ho]; · iexact Ho
    isplitl [H0]; · iexact H0
    isplitl [H1]; · iexact H1
    isplitl [H2]; · iexact H2
    isplitl [H3]; · iapply (own_some c (ms3 t) _); iexact H3
    isplitl [H4]; · iapply (own_some c (ms4 t) _); iexact H4
    isplitl [H5]; · iapply (own_some c (ms5 t) _); iexact H5
    isplitl [H6]; · iapply (own_some c (ms6 t) _); iexact H6
    isplitl [H7]; · iapply (own_some c (ms7 t) _); iexact H7
    isplitl [H8]; · iapply (own_some c (ms8 t) _); iexact H8
    iapply (own_some c (ms9 t) _); iexact H9
  · iapply ((runB c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) sc13 (Memref.isWhole_whole _) sc14 (Memref.isWhole_whole _) sc15 (Memref.isWhole_whole _) sc16 (Memref.isWhole_whole _) sc17 (Memref.isWhole_whole _) sc18 (Memref.isWhole_whole _) sc19 (Memref.isWhole_whole _) (fun h => h0 ((hcond0 t).mp h)) ((hcond1 t).mpr h0) (iblk m c 0 t) (iblk m c 1 t) (iblk m c 2 t) s13 s14 s15 s16 s17 s18 s19).2.2.2.2.2.2.2.2.2.2.2.2.2.2 Set.univ _)
    isplitl [H0]; · iexact H0
    isplitl [H1]; · iexact H1
    isplitl [H2]; · iexact H2
    isplitl [H3]; · iexists _; iexact H3
    isplitl [H4]; · iexists _; iexact H4
    isplitl [H5]; · iexists _; iexact H5
    isplitl [H6]; · iexists _; iexact H6
    isplitl [H7]; · iexists _; iexact H7
    isplitl [H8]; · iexists _; iexact H8
    isplitl [H9]; · iexists _; iexact H9
    isplitl [S13]; · iexact S13
    isplitl [S14]; · iexact S14
    isplitl [S15]; · iexact S15
    isplitl [S16]; · iexact S16
    isplitl [S17]; · iexact S17
    isplitl [S18]; · iexact S18
    isplitl [S19]; · iexact S19
    iintro ⟨H0, H1, H2, ⟨%e3, H3⟩, ⟨%e4, H4⟩, ⟨%e5, H5⟩, ⟨%e6, H6⟩, ⟨%e7, H7⟩, ⟨%e8, H8⟩, ⟨%e9, H9⟩, S13, S14, S15, S16, S17, ⟨%e18, S18⟩, S19⟩
    isplitl [S13 S14 S15 S16 S17 S18 S19 Hg]
    · isplitl [S13 S14 S15 S16 S17 S18 S19]
      · isplitl [S13]; · iapply (own_some c sc13 _); iexact S13
        isplitl [S14]; · iapply (own_some c sc14 _); iexact S14
        isplitl [S15]; · iapply (own_some c sc15 _); iexact S15
        isplitl [S16]; · iapply (own_some c sc16 _); iexact S16
        isplitl [S17]; · iapply (own_some c sc17 _); iexact S17
        isplitl [S18]; · iapply (own_some c sc18 _); iexact S18
        iapply (own_some c sc19 _); iexact S19
      iexact Hg
    isplitl [Ho]; · iexact Ho
    isplitl [H0]; · iexact H0
    isplitl [H1]; · iexact H1
    isplitl [H2]; · iexact H2
    isplitl [H3]; · iapply (own_some c (ms3 t) _); iexact H3
    isplitl [H4]; · iapply (own_some c (ms4 t) _); iexact H4
    isplitl [H5]; · iapply (own_some c (ms5 t) _); iexact H5
    isplitl [H6]; · iapply (own_some c (ms6 t) _); iexact H6
    isplitl [H7]; · iapply (own_some c (ms7 t) _); iexact H7
    isplitl [H8]; · iapply (own_some c (ms8 t) _); iexact H8
    iapply (own_some c (ms9 t) _); iexact H9

theorem defs₀_row (t : Fin cfg0.N) :
    defs₀ (F := F) .tc cfg0.body (cfg0.bodyArgs t (cfg0.slots t)) = bodyAt0 t := by
  unfold defs₀; rw [Defs.onTc_tc]

/-- The pipeline's obligation on its body, at every point. -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

set_option backward.isDefEq.respectTransparency.types false in
/-- The whole program terminates, leaves every input array as it was and every semaphore at zero. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_track_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hin := fun _ => .rfl) (hout := fun _ => .rfl)

/-- The frame claim: the three argument arrays end as they began, and no semaphore is left raised. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c =>
    ⟨(Pipeline.RDat.FramePost.arr_in h.1 c 0 rfl).trans ((A_eq m c 0).trans (V_main_arg0 m c)),
      (Pipeline.RDat.FramePost.arr_in h.1 c 1 rfl).trans ((A_eq m c 1).trans (V_main_arg1 m c)),
      (Pipeline.RDat.FramePost.arr_in h.1 c 2 rfl).trans ((A_eq m c 2).trans (V_main_arg2 m c))⟩, h.2⟩) (run_main_quiescent m ρ)

end Cert.KernelIdeal.Run

end
-- ==== Proof.KernelIdealGrid.lean ====
module

public import proofs.«01_k».proof.Proof.Rows
public import proofs.«01_k».proof.Proof.KernelIdealFrame

@[expose] public section
set_option maxRecDepth 100000
noncomputable section
namespace Cert.KernelIdeal.Val
open Idealize.ShloMosaic Idealize.ShloMosaic.TcCoe Idealize.ShloMosaic.Pipeline
open Cert.KernelIdeal Cert.KernelIdeal.Gen Cert.Scales Cert.Rows

/-- The batch and the head of a point of the grid. -/
def bOf (n : ℕ) : Fin 4 := ⟨n / 512 % 4, Nat.mod_lt _ (by norm_num)⟩
def hOf (n : ℕ) : Fin 8 := ⟨n / 64 % 8, Nat.mod_lt _ (by norm_num)⟩

theorem co0 (t : Fin cfg0.N) : (grid0.coords t 0).val = t.val / 512 % 4 := Grid.coords_val t 0 (by decide) rfl
theorem co1 (t : Fin cfg0.N) : (grid0.coords t 1).val = t.val / 64 % 8 := Grid.coords_val t 1 (by decide) rfl
theorem co2 (t : Fin cfg0.N) : (grid0.coords t 2).val = t.val / 1 % 64 := Grid.coords_val t 2 (by decide) rfl
theorem co2' (t : Fin cfg0.N) : (grid0.coords t 2).val = t.val % 64 := by rw [co2, Nat.div_one]

/-- The coordinate words are the coordinates. -/
theorem w0 (t : Fin cfg0.N) : (BitVec.ofNat 32 (grid0.coords t 0).val).toNat = t.val / 512 % 4 := by
  rw [co0, BitVec.toNat_ofNat]; omega
theorem w1 (t : Fin cfg0.N) : (BitVec.ofNat 32 (grid0.coords t 1).val).toNat = t.val / 64 % 8 := by
  rw [co1, BitVec.toNat_ofNat]; omega
theorem w2 (t : Fin cfg0.N) : (BitVec.ofNat 32 (grid0.coords t 2).val).toNat = t.val % 64 := by
  rw [co2', BitVec.toNat_ofNat]; omega

theorem rd0 (t : Fin cfg0.N) (G : Arr) (r : Fin 256) (d : Fin 128) :
    ((cfg0.win 0).blk t).view.read (Elt Ideal) G (ix3 0 r d)
      = G (ix3 (bOf t.val) ⟨(t.val % 64 * 256 + r.val) % 16384, Nat.mod_lt _ (by norm_num)⟩ ⟨(hOf t.val).val * 128 + d.val, by omega⟩) := by
  rw [View.read_apply]
  show G _ = G _
  congr 1; funext a; apply Fin.ext
  match a with
  | ⟨0, _⟩ =>
    show (BitVec.ofNat 32 (grid0.coords t 0).val).toNat * 1 + 1 * 0 = t.val / 512 % 4
    rw [w0]; omega
  | ⟨1, _⟩ =>
    show (BitVec.ofNat 32 (grid0.coords t 2).val).toNat * 256 + 1 * r.val = (t.val % 64 * 256 + r.val) % 16384
    rw [w2]; omega
  | ⟨2, _⟩ =>
    show (BitVec.ofNat 32 (grid0.coords t 1).val).toNat * 128 + 1 * d.val = t.val / 64 % 8 * 128 + d.val
    rw [w1]; omega

theorem rd1 (t : Fin cfg0.N) (G : Arr) (r : Fin 256) (d : Fin 128) :
    ((cfg0.win 1).blk t).view.read (Elt Ideal) G (ix3 0 r d)
      = G (ix3 (bOf t.val) ⟨(t.val % 64 * 256 + r.val) % 16384, Nat.mod_lt _ (by norm_num)⟩ ⟨(hOf t.val).val * 128 + d.val, by omega⟩) := by
  rw [View.read_apply]
  show G _ = G _
  congr 1; funext a; apply Fin.ext
  match a with
  | ⟨0, _⟩ =>
    show (BitVec.ofNat 32 (grid0.coords t 0).val).toNat * 1 + 1 * 0 = t.val / 512 % 4
    rw [w0]; omega
  | ⟨1, _⟩ =>
    show (BitVec.ofNat 32 (grid0.coords t 2).val).toNat * 256 + 1 * r.val = (t.val % 64 * 256 + r.val) % 16384
    rw [w2]; omega
  | ⟨2, _⟩ =>
    show (BitVec.ofNat 32 (grid0.coords t 1).val).toNat * 128 + 1 * d.val = t.val / 64 % 8 * 128 + d.val
    rw [w1]; omega

theorem rd2 (t : Fin cfg0.N) (G : Arr) (r : Fin 256) (d : Fin 128) :
    ((cfg0.win 2).blk t).view.read (Elt Ideal) G (ix3 0 r d)
      = G (ix3 (bOf t.val) ⟨(t.val % 64 * 256 + r.val) % 16384, Nat.mod_lt _ (by norm_num)⟩ ⟨(hOf t.val).val * 128 + d.val, by omega⟩) := by
  rw [View.read_apply]
  show G _ = G _
  congr 1; funext a; apply Fin.ext
  match a with
  | ⟨0, _⟩ =>
    show (BitVec.ofNat 32 (grid0.coords t 0).val).toNat * 1 + 1 * 0 = t.val / 512 % 4
    rw [w0]; omega
  | ⟨1, _⟩ =>
    show (BitVec.ofNat 32 (grid0.coords t 2).val).toNat * 256 + 1 * r.val = (t.val % 64 * 256 + r.val) % 16384
    rw [w2]; omega
  | ⟨2, _⟩ =>
    show (BitVec.ofNat 32 (grid0.coords t 1).val).toNat * 128 + 1 * d.val = t.val / 64 % 8 * 128 + d.val
    rw [w1]; omega

theorem rd3 (t : Fin cfg0.N) (G : Arr) (r : Fin 256) (d : Fin 128) :
    ((cfg0.win 3).blk t).view.read (Elt Ideal) G (ix3 0 r d)
      = G (ix3 (bOf t.val) ⟨(t.val % 64 * 256 + r.val) % 16384, Nat.mod_lt _ (by norm_num)⟩ ⟨(hOf t.val).val * 128 + d.val, by omega⟩) := by
  rw [View.read_apply]
  show G _ = G _
  congr 1; funext a; apply Fin.ext
  match a with
  | ⟨0, _⟩ =>
    show (BitVec.ofNat 32 (grid0.coords t 0).val).toNat * 1 + 1 * 0 = t.val / 512 % 4
    rw [w0]; omega
  | ⟨1, _⟩ =>
    show (BitVec.ofNat 32 (grid0.coords t 2).val).toNat * 256 + 1 * r.val = (t.val % 64 * 256 + r.val) % 16384
    rw [w2]; omega
  | ⟨2, _⟩ =>
    show (BitVec.ofNat 32 (grid0.coords t 1).val).toNat * 128 + 1 * d.val = t.val / 64 % 8 * 128 + d.val
    rw [w1]; omega

theorem rd4 (t : Fin cfg0.N) (G : Arr) (r : Fin 256) (d : Fin 128) :
    ((cfg0.win 4).blk t).view.read (Elt Ideal) G (ix3 0 r d)
      = G (ix3 (bOf t.val) ⟨(t.val % 64 * 256 + r.val) % 16384, Nat.mod_lt _ (by norm_num)⟩ ⟨(hOf t.val).val * 128 + d.val, by omega⟩) := by
  rw [View.read_apply]
  show G _ = G _
  congr 1; funext a; apply Fin.ext
  match a with
  | ⟨0, _⟩ =>
    show (BitVec.ofNat 32 (grid0.coords t 0).val).toNat * 1 + 1 * 0 = t.val / 512 % 4
    rw [w0]; omega
  | ⟨1, _⟩ =>
    show (BitVec.ofNat 32 (grid0.coords t 2).val).toNat * 256 + 1 * r.val = (t.val % 64 * 256 + r.val) % 16384
    rw [w2]; omega
  | ⟨2, _⟩ =>
    show (BitVec.ofNat 32 (grid0.coords t 1).val).toNat * 128 + 1 * d.val = t.val / 64 % 8 * 128 + d.val
    rw [w1]; omega

theorem rd6 (t : Fin cfg0.N) (G : Arr) (r : Fin 256) (d : Fin 128) :
    ((cfg0.win 6).blk t).view.read (Elt Ideal) G (ix3 0 r d)
      = G (ix3 (bOf t.val) ⟨(t.val % 64 * 256 + r.val) % 16384, Nat.mod_lt _ (by norm_num)⟩ ⟨(hOf t.val).val * 128 + d.val, by omega⟩) := by
  rw [View.read_apply]
  show G _ = G _
  congr 1; funext a; apply Fin.ext
  match a with
  | ⟨0, _⟩ =>
    show (BitVec.ofNat 32 (grid0.coords t 0).val).toNat * 1 + 1 * 0 = t.val / 512 % 4
    rw [w0]; omega
  | ⟨1, _⟩ =>
    show (BitVec.ofNat 32 (grid0.coords t 2).val).toNat * 256 + 1 * r.val = (t.val % 64 * 256 + r.val) % 16384
    rw [w2]; omega
  | ⟨2, _⟩ =>
    show (BitVec.ofNat 32 (grid0.coords t 1).val).toNat * 128 + 1 * d.val = t.val / 64 % 8 * 128 + d.val
    rw [w1]; omega

theorem rd8 (t : Fin cfg0.N) (G : Arr) (r : Fin 256) (d : Fin 128) :
    ((cfg0.win 8).blk t).view.read (Elt Ideal) G (ix3 0 r d)
      = G (ix3 (bOf t.val) ⟨(t.val % 64 * 256 + r.val) % 16384, Nat.mod_lt _ (by norm_num)⟩ ⟨(hOf t.val).val * 128 + d.val, by omega⟩) := by
  rw [View.read_apply]
  show G _ = G _
  congr 1; funext a; apply Fin.ext
  match a with
  | ⟨0, _⟩ =>
    show (BitVec.ofNat 32 (grid0.coords t 0).val).toNat * 1 + 1 * 0 = t.val / 512 % 4
    rw [w0]; omega
  | ⟨1, _⟩ =>
    show (BitVec.ofNat 32 (grid0.coords t 2).val).toNat * 256 + 1 * r.val = (t.val % 64 * 256 + r.val) % 16384
    rw [w2]; omega
  | ⟨2, _⟩ =>
    show (BitVec.ofNat 32 (grid0.coords t 1).val).toNat * 128 + 1 * d.val = t.val / 64 % 8 * 128 + d.val
    rw [w1]; omega

theorem rd5 (t : Fin cfg0.N) (G : Scl) (r : Fin 256) :
    ((cfg0.win 5).blk t).view.read (Elt Ideal) G (ix5 0 0 0 0 r)
      = G (ix5 (bOf t.val) (hOf t.val) ⟨t.val % 64, Nat.mod_lt _ (by norm_num)⟩ 0 r) := by
  rw [View.read_apply]
  show G _ = G _
  congr 1; funext a; apply Fin.ext
  match a with
  | ⟨0, _⟩ =>
    show (BitVec.ofNat 32 (grid0.coords t 0).val).toNat * 1 + 1 * 0 = t.val / 512 % 4
    rw [w0]; omega
  | ⟨1, _⟩ =>
    show (BitVec.ofNat 32 (grid0.coords t 1).val).toNat * 1 + 1 * 0 = t.val / 64 % 8
    rw [w1]; omega
  | ⟨2, _⟩ =>
    show (BitVec.ofNat 32 (grid0.coords t 2).val).toNat * 1 + 1 * 0 = t.val % 64
    rw [w2]; omega
  | ⟨3, _⟩ =>
    show (0#32).toNat * 1 + 1 * 0 = 0
    rfl
  | ⟨4, _⟩ =>
    show (0#32).toNat * 256 + 1 * r.val = r.val
    simp

theorem rd7 (t : Fin cfg0.N) (G : Scl) (r : Fin 256) :
    ((cfg0.win 7).blk t).view.read (Elt Ideal) G (ix5 0 0 0 0 r)
      = G (ix5 (bOf t.val) (hOf t.val) ⟨t.val % 64, Nat.mod_lt _ (by norm_num)⟩ 0 r) := by
  rw [View.read_apply]
  show G _ = G _
  congr 1; funext a; apply Fin.ext
  match a with
  | ⟨0, _⟩ =>
    show (BitVec.ofNat 32 (grid0.coords t 0).val).toNat * 1 + 1 * 0 = t.val / 512 % 4
    rw [w0]; omega
  | ⟨1, _⟩ =>
    show (BitVec.ofNat 32 (grid0.coords t 1).val).toNat * 1 + 1 * 0 = t.val / 64 % 8
    rw [w1]; omega
  | ⟨2, _⟩ =>
    show (BitVec.ofNat 32 (grid0.coords t 2).val).toNat * 1 + 1 * 0 = t.val % 64
    rw [w2]; omega
  | ⟨3, _⟩ =>
    show (0#32).toNat * 1 + 1 * 0 = 0
    rfl
  | ⟨4, _⟩ =>
    show (0#32).toNat * 256 + 1 * r.val = r.val
    simp

theorem rd9 (t : Fin cfg0.N) (G : Scl) (r : Fin 256) :
    ((cfg0.win 9).blk t).view.read (Elt Ideal) G (ix5 0 0 0 0 r)
      = G (ix5 (bOf t.val) (hOf t.val) ⟨t.val % 64, Nat.mod_lt _ (by norm_num)⟩ 0 r) := by
  rw [View.read_apply]
  show G _ = G _
  congr 1; funext a; apply Fin.ext
  match a with
  | ⟨0, _⟩ =>
    show (BitVec.ofNat 32 (grid0.coords t 0).val).toNat * 1 + 1 * 0 = t.val / 512 % 4
    rw [w0]; omega
  | ⟨1, _⟩ =>
    show (BitVec.ofNat 32 (grid0.coords t 1).val).toNat * 1 + 1 * 0 = t.val / 64 % 8
    rw [w1]; omega
  | ⟨2, _⟩ =>
    show (BitVec.ofNat 32 (grid0.coords t 2).val).toNat * 1 + 1 * 0 = t.val % 64
    rw [w2]; omega
  | ⟨3, _⟩ =>
    show (0#32).toNat * 1 + 1 * 0 = 0
    rfl
  | ⟨4, _⟩ =>
    show (0#32).toNat * 256 + 1 * r.val = r.val
    simp

/-- The point that writes a given entry. -/
def pt3 (i : (⟨3, ![4, 16384, 1024]⟩ : Shape).Idx) : Fin cfg0.N :=
  ⟨(i 0).val * 512 + (i 2).val / 128 * 64 + (i 1).val / 256, by
    have h0 : (i 0).val < 4 := (i 0).isLt
    have h1 : (i 1).val < 16384 := (i 1).isLt
    have h2 : (i 2).val < 1024 := (i 2).isLt
    exact Nat.lt_of_lt_of_eq (show _ < 2048 by omega) N_0.symm⟩
def pt5 (i : (⟨5, ![4, 8, 64, 1, 256]⟩ : Shape).Idx) : Fin cfg0.N :=
  ⟨(i 0).val * 512 + (i 1).val * 64 + (i 2).val, by
    have h0 : (i 0).val < 4 := (i 0).isLt
    have h1 : (i 1).val < 8 := (i 1).isLt
    have h2 : (i 2).val < 64 := (i 2).isLt
    exact Nat.lt_of_lt_of_eq (show _ < 2048 by omega) N_0.symm⟩

theorem cover3 (i : (⟨3, ![4, 16384, 1024]⟩ : Shape).Idx) : ∃ t : Fin cfg0.N, (cfg0.win 3).flush t = true ∧ i ∈ ((cfg0.win 3).blk t).view.set := by
  have h0 : (i 0).val < 4 := (i 0).isLt
  have h1 : (i 1).val < 16384 := (i 1).isLt
  have h2 : (i 2).val < 1024 := (i 2).isLt
  have hv : (pt3 i).val = (i 0).val * 512 + (i 2).val / 128 * 64 + (i 1).val / 256 := rfl
  refine ⟨pt3 i, flush0_3 _, ?_⟩
  show i ∈ ((View.whole main_v0_0).slice (win0_3.rect (pt3 i))).set
  rw [View.set_slice_whole, Rect.mem_set_unit]
  intro a
  match a with
  | ⟨0, _⟩ =>
    show (BitVec.ofNat 32 (grid0.coords (pt3 i) 0).val).toNat * 1 ≤ (i 0).val ∧ (i 0).val < (BitVec.ofNat 32 (grid0.coords (pt3 i) 0).val).toNat * 1 + 1
    rw [w0]; omega
  | ⟨1, _⟩ =>
    show (BitVec.ofNat 32 (grid0.coords (pt3 i) 2).val).toNat * 256 ≤ (i 1).val ∧ (i 1).val < (BitVec.ofNat 32 (grid0.coords (pt3 i) 2).val).toNat * 256 + 256
    rw [w2]; omega
  | ⟨2, _⟩ =>
    show (BitVec.ofNat 32 (grid0.coords (pt3 i) 1).val).toNat * 128 ≤ (i 2).val ∧ (i 2).val < (BitVec.ofNat 32 (grid0.coords (pt3 i) 1).val).toNat * 128 + 128
    rw [w1]; omega

theorem cover4 (i : (⟨3, ![4, 16384, 1024]⟩ : Shape).Idx) : ∃ t : Fin cfg0.N, (cfg0.win 4).flush t = true ∧ i ∈ ((cfg0.win 4).blk t).view.set := by
  have h0 : (i 0).val < 4 := (i 0).isLt
  have h1 : (i 1).val < 16384 := (i 1).isLt
  have h2 : (i 2).val < 1024 := (i 2).isLt
  have hv : (pt3 i).val = (i 0).val * 512 + (i 2).val / 128 * 64 + (i 1).val / 256 := rfl
  refine ⟨pt3 i, flush0_4 _, ?_⟩
  show i ∈ ((View.whole main_v0_1).slice (win0_4.rect (pt3 i))).set
  rw [View.set_slice_whole, Rect.mem_set_unit]
  intro a
  match a with
  | ⟨0, _⟩ =>
    show (BitVec.ofNat 32 (grid0.coords (pt3 i) 0).val).toNat * 1 ≤ (i 0).val ∧ (i 0).val < (BitVec.ofNat 32 (grid0.coords (pt3 i) 0).val).toNat * 1 + 1
    rw [w0]; omega
  | ⟨1, _⟩ =>
    show (BitVec.ofNat 32 (grid0.coords (pt3 i) 2).val).toNat * 256 ≤ (i 1).val ∧ (i 1).val < (BitVec.ofNat 32 (grid0.coords (pt3 i) 2).val).toNat * 256 + 256
    rw [w2]; omega
  | ⟨2, _⟩ =>
    show (BitVec.ofNat 32 (grid0.coords (pt3 i) 1).val).toNat * 128 ≤ (i 2).val ∧ (i 2).val < (BitVec.ofNat 32 (grid0.coords (pt3 i) 1).val).toNat * 128 + 128
    rw [w1]; omega

theorem cover6 (i : (⟨3, ![4, 16384, 1024]⟩ : Shape).Idx) : ∃ t : Fin cfg0.N, (cfg0.win 6).flush t = true ∧ i ∈ ((cfg0.win 6).blk t).view.set := by
  have h0 : (i 0).val < 4 := (i 0).isLt
  have h1 : (i 1).val < 16384 := (i 1).isLt
  have h2 : (i 2).val < 1024 := (i 2).isLt
  have hv : (pt3 i).val = (i 0).val * 512 + (i 2).val / 128 * 64 + (i 1).val / 256 := rfl
  refine ⟨pt3 i, flush0_6 _, ?_⟩
  show i ∈ ((View.whole main_v0_3).slice (win0_6.rect (pt3 i))).set
  rw [View.set_slice_whole, Rect.mem_set_unit]
  intro a
  match a with
  | ⟨0, _⟩ =>
    show (BitVec.ofNat 32 (grid0.coords (pt3 i) 0).val).toNat * 1 ≤ (i 0).val ∧ (i 0).val < (BitVec.ofNat 32 (grid0.coords (pt3 i) 0).val).toNat * 1 + 1
    rw [w0]; omega
  | ⟨1, _⟩ =>
    show (BitVec.ofNat 32 (grid0.coords (pt3 i) 2).val).toNat * 256 ≤ (i 1).val ∧ (i 1).val < (BitVec.ofNat 32 (grid0.coords (pt3 i) 2).val).toNat * 256 + 256
    rw [w2]; omega
  | ⟨2, _⟩ =>
    show (BitVec.ofNat 32 (grid0.coords (pt3 i) 1).val).toNat * 128 ≤ (i 2).val ∧ (i 2).val < (BitVec.ofNat 32 (grid0.coords (pt3 i) 1).val).toNat * 128 + 128
    rw [w1]; omega

theorem cover8 (i : (⟨3, ![4, 16384, 1024]⟩ : Shape).Idx) : ∃ t : Fin cfg0.N, (cfg0.win 8).flush t = true ∧ i ∈ ((cfg0.win 8).blk t).view.set := by
  have h0 : (i 0).val < 4 := (i 0).isLt
  have h1 : (i 1).val < 16384 := (i 1).isLt
  have h2 : (i 2).val < 1024 := (i 2).isLt
  have hv : (pt3 i).val = (i 0).val * 512 + (i 2).val / 128 * 64 + (i 1).val / 256 := rfl
  refine ⟨pt3 i, flush0_8 _, ?_⟩
  show i ∈ ((View.whole main_v0_5).slice (win0_8.rect (pt3 i))).set
  rw [View.set_slice_whole, Rect.mem_set_unit]
  intro a
  match a with
  | ⟨0, _⟩ =>
    show (BitVec.ofNat 32 (grid0.coords (pt3 i) 0).val).toNat * 1 ≤ (i 0).val ∧ (i 0).val < (BitVec.ofNat 32 (grid0.coords (pt3 i) 0).val).toNat * 1 + 1
    rw [w0]; omega
  | ⟨1, _⟩ =>
    show (BitVec.ofNat 32 (grid0.coords (pt3 i) 2).val).toNat * 256 ≤ (i 1).val ∧ (i 1).val < (BitVec.ofNat 32 (grid0.coords (pt3 i) 2).val).toNat * 256 + 256
    rw [w2]; omega
  | ⟨2, _⟩ =>
    show (BitVec.ofNat 32 (grid0.coords (pt3 i) 1).val).toNat * 128 ≤ (i 2).val ∧ (i 2).val < (BitVec.ofNat 32 (grid0.coords (pt3 i) 1).val).toNat * 128 + 128
    rw [w1]; omega

theorem cover5 (i : (⟨5, ![4, 8, 64, 1, 256]⟩ : Shape).Idx) : ∃ t : Fin cfg0.N, (cfg0.win 5).flush t = true ∧ i ∈ ((cfg0.win 5).blk t).view.set := by
  have h0 : (i 0).val < 4 := (i 0).isLt
  have h1 : (i 1).val < 8 := (i 1).isLt
  have h2 : (i 2).val < 64 := (i 2).isLt
  have h3 : (i 3).val < 1 := (i 3).isLt
  have h4 : (i 4).val < 256 := (i 4).isLt
  have hv : (pt5 i).val = (i 0).val * 512 + (i 1).val * 64 + (i 2).val := rfl
  refine ⟨pt5 i, flush0_5 _, ?_⟩
  show i ∈ ((View.whole main_v0_2).slice (win0_5.rect (pt5 i))).set
  rw [View.set_slice_whole, Rect.mem_set_unit]
  intro a
  match a with
  | ⟨0, _⟩ =>
    show (BitVec.ofNat 32 (grid0.coords (pt5 i) 0).val).toNat * 1 ≤ (i 0).val ∧ (i 0).val < (BitVec.ofNat 32 (grid0.coords (pt5 i) 0).val).toNat * 1 + 1
    rw [w0]; omega
  | ⟨1, _⟩ =>
    show (BitVec.ofNat 32 (grid0.coords (pt5 i) 1).val).toNat * 1 ≤ (i 1).val ∧ (i 1).val < (BitVec.ofNat 32 (grid0.coords (pt5 i) 1).val).toNat * 1 + 1
    rw [w1]; omega
  | ⟨2, _⟩ =>
    show (BitVec.ofNat 32 (grid0.coords (pt5 i) 2).val).toNat * 1 ≤ (i 2).val ∧ (i 2).val < (BitVec.ofNat 32 (grid0.coords (pt5 i) 2).val).toNat * 1 + 1
    rw [w2]; omega
  | ⟨3, _⟩ =>
    show (0#32).toNat * 1 ≤ (i 3).val ∧ (i 3).val < (0#32).toNat * 1 + 1
    simpa using h3
  | ⟨4, _⟩ =>
    show (0#32).toNat * 256 ≤ (i 4).val ∧ (i 4).val < (0#32).toNat * 256 + 256
    simpa using h4

theorem cover7 (i : (⟨5, ![4, 8, 64, 1, 256]⟩ : Shape).Idx) : ∃ t : Fin cfg0.N, (cfg0.win 7).flush t = true ∧ i ∈ ((cfg0.win 7).blk t).view.set := by
  have h0 : (i 0).val < 4 := (i 0).isLt
  have h1 : (i 1).val < 8 := (i 1).isLt
  have h2 : (i 2).val < 64 := (i 2).isLt
  have h3 : (i 3).val < 1 := (i 3).isLt
  have h4 : (i 4).val < 256 := (i 4).isLt
  have hv : (pt5 i).val = (i 0).val * 512 + (i 1).val * 64 + (i 2).val := rfl
  refine ⟨pt5 i, flush0_7 _, ?_⟩
  show i ∈ ((View.whole main_v0_4).slice (win0_7.rect (pt5 i))).set
  rw [View.set_slice_whole, Rect.mem_set_unit]
  intro a
  match a with
  | ⟨0, _⟩ =>
    show (BitVec.ofNat 32 (grid0.coords (pt5 i) 0).val).toNat * 1 ≤ (i 0).val ∧ (i 0).val < (BitVec.ofNat 32 (grid0.coords (pt5 i) 0).val).toNat * 1 + 1
    rw [w0]; omega
  | ⟨1, _⟩ =>
    show (BitVec.ofNat 32 (grid0.coords (pt5 i) 1).val).toNat * 1 ≤ (i 1).val ∧ (i 1).val < (BitVec.ofNat 32 (grid0.coords (pt5 i) 1).val).toNat * 1 + 1
    rw [w1]; omega
  | ⟨2, _⟩ =>
    show (BitVec.ofNat 32 (grid0.coords (pt5 i) 2).val).toNat * 1 ≤ (i 2).val ∧ (i 2).val < (BitVec.ofNat 32 (grid0.coords (pt5 i) 2).val).toNat * 1 + 1
    rw [w2]; omega
  | ⟨3, _⟩ =>
    show (0#32).toNat * 1 ≤ (i 3).val ∧ (i 3).val < (0#32).toNat * 1 + 1
    simpa using h3
  | ⟨4, _⟩ =>
    show (0#32).toNat * 256 ≤ (i 4).val ∧ (i 4).val < (0#32).toNat * 256 + 256
    simpa using h4

theorem cover9 (i : (⟨5, ![4, 8, 64, 1, 256]⟩ : Shape).Idx) : ∃ t : Fin cfg0.N, (cfg0.win 9).flush t = true ∧ i ∈ ((cfg0.win 9).blk t).view.set := by
  have h0 : (i 0).val < 4 := (i 0).isLt
  have h1 : (i 1).val < 8 := (i 1).isLt
  have h2 : (i 2).val < 64 := (i 2).isLt
  have h3 : (i 3).val < 1 := (i 3).isLt
  have h4 : (i 4).val < 256 := (i 4).isLt
  have hv : (pt5 i).val = (i 0).val * 512 + (i 1).val * 64 + (i 2).val := rfl
  refine ⟨pt5 i, flush0_9 _, ?_⟩
  show i ∈ ((View.whole main_v0_6).slice (win0_9.rect (pt5 i))).set
  rw [View.set_slice_whole, Rect.mem_set_unit]
  intro a
  match a with
  | ⟨0, _⟩ =>
    show (BitVec.ofNat 32 (grid0.coords (pt5 i) 0).val).toNat * 1 ≤ (i 0).val ∧ (i 0).val < (BitVec.ofNat 32 (grid0.coords (pt5 i) 0).val).toNat * 1 + 1
    rw [w0]; omega
  | ⟨1, _⟩ =>
    show (BitVec.ofNat 32 (grid0.coords (pt5 i) 1).val).toNat * 1 ≤ (i 1).val ∧ (i 1).val < (BitVec.ofNat 32 (grid0.coords (pt5 i) 1).val).toNat * 1 + 1
    rw [w1]; omega
  | ⟨2, _⟩ =>
    show (BitVec.ofNat 32 (grid0.coords (pt5 i) 2).val).toNat * 1 ≤ (i 2).val ∧ (i 2).val < (BitVec.ofNat 32 (grid0.coords (pt5 i) 2).val).toNat * 1 + 1
    rw [w2]; omega
  | ⟨3, _⟩ =>
    show (0#32).toNat * 1 ≤ (i 3).val ∧ (i 3).val < (0#32).toNat * 1 + 1
    simpa using h3
  | ⟨4, _⟩ =>
    show (0#32).toNat * 256 ≤ (i 4).val ∧ (i 4).val < (0#32).toNat * 256 + 256
    simpa using h4

section Blocks
variable (m : (ℓ : Loc nD τ sig) → Buf (Elt Ideal) ℓ) (c : Dev nD)

/-- The queries', keys' and values' rows. -/
def aX : Arr := V m c main_arg0
def aK : Arr := V m c main_arg1
def aV : Arr := V m c main_arg2

/-- The row a point reads: each is a row of its array. -/
theorem brow0 (t : Fin cfg0.N) (r : Fin 256) : brow (iblk m c 0 t) r = arow (aX m c) (bOf t.val) (hOf t.val) (t.val % 64) r :=
  funext fun d => rd0 t (aX m c) r d
theorem brow1 (t : Fin cfg0.N) (r : Fin 256) : brow (iblk m c 1 t) r = arow (aK m c) (bOf t.val) (hOf t.val) (t.val % 64) r :=
  funext fun d => rd1 t (aK m c) r d
theorem brow2 (t : Fin cfg0.N) (r : Fin 256) : brow (iblk m c 2 t) r = arow (aV m c) (bOf t.val) (hOf t.val) (t.val % 64) r :=
  funext fun d => rd2 t (aV m c) r d

end Blocks

section Where
variable (n : ℕ) (r : Fin 256) (d : Fin 128)
/-- The entry that row `r`, column `d` of a point's block is. -/
def at3 : (⟨3, ![4, 16384, 1024]⟩ : Shape).Idx :=
  ix3 (bOf n) ⟨(n % 64 * 256 + r.val) % 16384, Nat.mod_lt _ (by norm_num)⟩ ⟨(hOf n).val * 128 + d.val, by omega⟩
theorem hd_at : hd (at3 n r d) = hOf n := Fin.ext (show ((hOf n).val * 128 + d.val) / 128 = _ by omega)
theorem hc_at : hc (at3 n r d) = d := Fin.ext (show ((hOf n).val * 128 + d.val) % 128 = _ by omega)
theorem rb_at : rb (at3 n r d) = n % 64 := show (n % 64 * 256 + r.val) % 16384 / 256 = _ by omega
theorem rr_at : rr (at3 n r d) = r := Fin.ext (show (n % 64 * 256 + r.val) % 16384 % 256 = _ by omega)

theorem outArr_at (X K W : Arr) : outArr X K W (at3 n r d)
    = ((attn (arow X (bOf n) (hOf n) (n % 64)) (arow K (bOf n) (hOf n)) (arow W (bOf n) (hOf n)) (n % 64) r d : ℝ) : EReal) := by
  unfold outArr; rw [hd_at, hc_at, rb_at, rr_at]; rfl
theorem codeArr_at (A : Arr) : codeArr A (at3 n r d) = rcode (arow A (bOf n) (hOf n) (n % 64) r) d := by
  unfold codeArr; rw [hd_at, hc_at, rb_at, rr_at]; rfl
end Where

end Cert.KernelIdeal.Val

end
-- ==== Proof.KernelIdealPoint.lean ====
module

public import proofs.«01_k».proof.Proof.KernelIdealBlockOut
public import proofs.«01_k».proof.Proof.KernelIdealRunB

@[expose] public section
set_option maxHeartbeats 400000
set_option maxRecDepth 100000
noncomputable section
namespace Cert.KernelIdeal.Val
open Idealize.ShloMosaic Idealize.ShloMosaic.TcCoe Idealize.ShloMosaic.Pointwise
open Cert.KernelIdeal Cert.KernelIdeal.Gen Cert.KernelIdeal.Facts Cert.Scales Cert.Lanes

/-! ## The codes and scales of a block of rows -/

section Payloads
variable (M : Memref sig .tc .vmem S1x256x128 .bf16) (hM : M.IsWhole) (x : Vec Ideal S1x256x128 .bf16)

/-- A block as loaded from its buffer. -/
def ld : Vec Ideal S1x256x128 .bf16 :=
  View.readAt (Elt Ideal) M.view (Rect.unit (s := S1x256x128) ![0, 0, 0] S1x256x128.size inb_S1x256x128_S1x256x128_0_0_0).toLoadRect (hM.unread x)

theorem ld_eq : ld M hM x = x :=
  (View.readAt_full M.view _ _).trans (hM.read_unread x)

def qc : FVec Ideal S256x128 .fp8e4m3 := k0_pay31 (k0_pay24 x) (k0_pay28 (k0_pay25 x) (k0_pay26 x) (k0_pay27 x)) (k0_pay29 (k0_pay25 x))
def qs : FVec Ideal S256x128 .f32 := k0_pay32 (k0_pay28 (F := Ideal) (k0_pay25 x) (k0_pay26 x) (k0_pay27 x)) (k0_pay29 (F := Ideal) (k0_pay25 x))
def kc : FVec Ideal S256x128 .fp8e4m3 := k0_pay40 (k0_pay33 x) (k0_pay34 x) (k0_pay37 (k0_pay34 x) (k0_pay35 x) (k0_pay36 x)) (k0_pay38 (k0_pay34 x) (k0_pay35 x) (k0_pay36 x))
def ks : FVec Ideal S256x128 .f32 := k0_pay41 (k0_pay34 (F := Ideal) x) (k0_pay37 (F := Ideal) (k0_pay34 x) (k0_pay35 x) (k0_pay36 x)) (k0_pay38 (F := Ideal) (k0_pay34 x) (k0_pay35 x) (k0_pay36 x))
def vc : FVec Ideal S256x128 .fp8e4m3 := k0_pay46 (k0_pay42 x) (k0_pay45 (k0_pay43 x) (k0_pay44 x)) 0#32
def vs : FVec Ideal S256x128 .f32 := k0_pay47 (k0_pay45 (F := Ideal) (k0_pay43 x) (k0_pay44 (F := Ideal) x))

end Payloads

/-! ## Their values -/

/-- The largest exponent of a block of value rows. -/
theorem btop_bounds {R : Fin 256 → Fin 128 → EReal} (hf : ∀ r, Fits (-50) 50 (R r)) : -58 ≤ btop (fun r => rexp (R r)) ∧ btop (fun r => rexp (R r)) ≤ 42 := by
  obtain ⟨r, h⟩ := btop_mem fun r => rexp (R r)
  rw [h]
  have := (hf r).rexp_bounds (by norm_num) (by norm_num)
  omega

section Rows
variable {x : Vec Ideal S1x256x128 .bf16} {R : Fin 256 → Fin 128 → EReal} (hR : ∀ r, brow x r = R r) {lo hi : ℤ}
include hR

theorem qc_at (hf : ∀ r, Fits (-117) 117 (R r)) (r : Fin 256) (d : Fin 128) : qc x (ix2 r d) = rcode (R r) d := by
  rw [← hR]; exact q_code x r d (by rw [hR]; exact hf r)
theorem qs_at (hf : ∀ r, Fits (-117) 117 (R r)) (r : Fin 256) (d : Fin 128) : qs x (ix2 r d) = rscale (R r) := by
  rw [← hR]; exact q_scale x r d (by rw [hR]; exact hf r)
theorem kc_at (hf : ∀ r, Fits (-117) 117 (R r)) (r : Fin 256) (d : Fin 128) : kc x (ix2 r d) = rcode (R r) d := by
  rw [← hR]; exact k_code x r d (by rw [hR]; exact hf r)
theorem ks_at (hf : ∀ r, Fits (-117) 117 (R r)) (r : Fin 256) (d : Fin 128) : ks x (ix2 r d) = rscale (R r) := by
  rw [← hR]; exact k_scale x r d (by rw [hR]; exact hf r)
theorem vc_at (hf : ∀ r, Fits (-117) 117 (R r)) (r : Fin 256) (d : Fin 128) : vc x (ix2 r d) = rcode (R r) d := by
  rw [← hR]; exact v_code x r d (by rw [hR]; exact hf r)
theorem vs_at (hf : ∀ r, Fits (-117) 117 (R r)) (r : Fin 256) (d : Fin 128) : vs x (ix2 r d) = rscale (R r) := by
  rw [← hR]; exact v_scale x r d (by rw [hR]; exact hf r)

/-- The row of the keys' codes, their scales, and the values', as they are stored in the scratch. -/
theorem p13_at (hf : ∀ r, Fits (-117) 117 (R r)) (r : Fin 256) (d : Fin 128) : k0_pay56 (F := Ideal) (kc x) (ix3 0 r d) = rcode (R r) d := by
  rw [← kc_at hR hf r d]; generalize kc x = y; pointwise [k0_pay56]
theorem p14_at (hf : ∀ r, Fits (-117) 117 (R r)) (d : Fin 128) (r : Fin 256) : k0_pay57 (F := Ideal) (vc x) (ix3 0 d r) = rcode (R r) d := by
  rw [← vc_at hR hf r d]; generalize vc x = y; pointwise [k0_pay57]
theorem p15_at (hf : ∀ r, Fits (-117) 117 (R r)) (r : Fin 256) (l : Fin 128) : k0_pay58 (F := Ideal) (ks x) (ix3 0 r l) = rscale (R r) := by
  rw [← ks_at hR hf r l]; generalize ks x = y; pointwise [k0_pay58]
theorem p16_at (hf : ∀ r, Fits (-50) 50 (R r)) (r : Fin 256) (l : Fin 128) :
    k0_pay63 (F := Ideal) (vs x) (k0_pay59 (F := Ideal) (vs x)) (k0_pay62 (F := Ideal) (k0_pay59 (F := Ideal) (vs x)) k0_pay61 128#32) 4#32 (ix3 0 r l)
      = (((2 : ℝ) ^ (rexp (R r) - btop fun r => rexp (R r)) : ℝ) : EReal) := by
  have hb := btop_bounds hf
  exact pay63_at (vs x) R (fun r l => vs_at hR (fun r => (hf r).mono (by norm_num) (by norm_num)) r l) _ rfl (by omega) (by omega) r l
theorem p59_at (hf : ∀ r, Fits (-50) 50 (R r)) (a : Fin 8) (l : Fin 128) :
    k0_pay59 (F := Ideal) (vs x) (ix2 a l) = (((2 : ℝ) ^ btop (fun r => rexp (R r)) : ℝ) : EReal) :=
  pay59_at (vs x) R (fun r l => vs_at hR (fun r => (hf r).mono (by norm_num) (by norm_num)) r l) a l
theorem p17_at (hf : ∀ r, Fits (-50) 50 (R r)) (a : Fin 8) (l : Fin 128) :
    k0_pay60 (F := Ideal) (vs x) (ix3 0 a l) = (((2 : ℝ) ^ btop (fun r => rexp (R r)) : ℝ) : EReal) :=
  (pay60_at (vs x) a l).trans (p59_at hR hf a l)

end Rows

/-! ## What the body stores at a point -/

section Stores
variable (i : grid0.Coords) (x : Vec Ideal S1x256x128 .bf16)

def P13 : List (View.Piece (Elt Ideal) S64x256x128 .fp8e4m3) := [⟨Rect.unit (s := S64x256x128) (k0_off1 i) S1x256x128.size (k0_off1_inb i), k0_pay56 (kc x)⟩]
def P14 : List (View.Piece (Elt Ideal) S64x128x256 .fp8e4m3) := [⟨Rect.unit (s := S64x128x256) (k0_off2 i) S1x128x256.size (k0_off2_inb i), k0_pay57 (vc x)⟩]
def P15 : List (View.Piece (Elt Ideal) S64x256x128 .f32) := [⟨Rect.unit (s := S64x256x128) (k0_off1 i) S1x256x128.size (k0_off1_inb i), k0_pay58 (ks x)⟩]
def P16 : List (View.Piece (Elt Ideal) S64x256x128 .f32) := [⟨Rect.unit (s := S64x256x128) (k0_off1 i) S1x256x128.size (k0_off1_inb i),
  k0_pay63 (vs x) (k0_pay59 (vs x)) (k0_pay62 (k0_pay59 (vs x)) k0_pay61 128#32) 4#32⟩]
def P17 : List (View.Piece (Elt Ideal) S64x8x128 .f32) := [⟨Rect.unit (s := S64x8x128) (k0_off3 i) S1x8x128.size (k0_off3_inb i), k0_pay60 (vs x)⟩]

end Stores

section Out
variable (c : Dev nD) (i : grid0.Coords) (arg3 : Memref sig .tc .vmem S1x256x128 .bf16) (harg3 : arg3.IsWhole) (arg4 : Memref sig .tc .vmem S1x256x128 .bf16) (harg4 : arg4.IsWhole) (arg5 : Memref sig .tc .vmem S1x256x128 .bf16) (harg5 : arg5.IsWhole) (arg6 : Memref sig .tc .vmem S1x256x128 .bf16) (harg6 : arg6.IsWhole) (arg7 : Memref sig .tc .vmem S1x256x128 .fp8e4m3) (harg7 : arg7.IsWhole) (arg8 : Memref sig .tc .vmem S1x1x1x1x256 .f32) (harg8 : arg8.IsWhole) (arg9 : Memref sig .tc .vmem S1x256x128 .fp8e4m3) (harg9 : arg9.IsWhole) (arg10 : Memref sig .tc .vmem S1x1x1x1x256 .f32) (harg10 : arg10.IsWhole) (arg11 : Memref sig .tc .vmem S1x256x128 .fp8e4m3) (harg11 : arg11.IsWhole) (arg12 : Memref sig .tc .vmem S1x1x1x1x256 .f32) (harg12 : arg12.IsWhole) (arg13 : Memref sig .tc .vmem S64x256x128 .fp8e4m3) (harg13 : arg13.IsWhole) (arg14 : Memref sig .tc .vmem S64x128x256 .fp8e4m3) (harg14 : arg14.IsWhole) (arg15 : Memref sig .tc .vmem S64x256x128 .f32) (harg15 : arg15.IsWhole) (arg16 : Memref sig .tc .vmem S64x256x128 .f32) (harg16 : arg16.IsWhole) (arg17 : Memref sig .tc .vmem S64x8x128 .f32) (harg17 : arg17.IsWhole) (arg18 : Memref sig .tc .vmem S8x128 .f32) (harg18 : arg18.IsWhole) (arg19 : Memref sig .tc .vmem S64x256x256 .f32) (harg19 : arg19.IsWhole)
  (xq xk xv : Vec Ideal S1x256x128 .bf16) (s13 : Vec Ideal S64x256x128 .fp8e4m3) (s14 : Vec Ideal S64x128x256 .fp8e4m3) (s15 : Vec Ideal S64x256x128 .f32) (s16 : Vec Ideal S64x256x128 .f32) (s17 : Vec Ideal S64x8x128 .f32) (s19 : Vec Ideal S64x256x256 .f32) (v465 : Vec Ideal S8x128 .f32)

/-- The word of the largest value exponent so far. -/
def tword : IVec S8x128 32 := k0_pay68 (F := Ideal) v465 (k0_pay66 (F := Ideal) v465) (k0_pay67 (F := Ideal) v465) 16#32

/-- The first loop's state after `k` trips. -/
def loop1 (k : ℕ) : Acc × List (View.Piece (Elt Ideal) S64x256x256 .f32) :=
  st_k0_t1 (F := Ideal) Variants.none c none i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 (BitVec.ofNat 32 (i 2).val) (qc xq) (k0_pay51 (qs xq)) (tword v465)
    (arg13.view.writes (Elt Ideal) (harg13.unread s13) (P13 i xk)) (arg15.view.writes (Elt Ideal) (harg15.unread s15) (P15 i xk))
    (arg16.view.writes (Elt Ideal) (harg16.unread s16) (P16 i xv)) (arg17.view.writes (Elt Ideal) (harg17.unread s17) (P17 i xv))
    (k0_pay71, k0_pay71, k0_pay71, k0_pay71, k0_pay71, k0_pay71) k

/-- The state after the loop that takes what the first one's unrolling leaves over. -/
def loop2 : Acc × List (View.Piece (Elt Ideal) S64x256x256 .f32) :=
  st_k0_t2 (F := Ideal) Variants.none c none i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 (BitVec.ofNat 32 (i 2).val) (qc xq) (k0_pay51 (qs xq)) (tword v465)
    (Scalar.addi 0#32 (Scalar.muli (Scalar.divsi (Scalar.subi (BitVec.ofNat 32 (i 2).val) 0#32) 1#32) 1#32))
    (arg13.view.writes (Elt Ideal) (harg13.unread s13) (P13 i xk)) (arg15.view.writes (Elt Ideal) (harg15.unread s15) (P15 i xk))
    (arg16.view.writes (Elt Ideal) (harg16.unread s16) (P16 i xv)) (arg17.view.writes (Elt Ideal) (harg17.unread s17) (P17 i xv))
    ((loop1 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 xq xk xv s13 s15 s16 s17 v465 (Scf.trips (k0_t1_loop i).lb (k0_t1_loop i).ub (k0_t1_loop i).st)).1.1, (loop1 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 xq xk xv s13 s15 s16 s17 v465 (Scf.trips (k0_t1_loop i).lb (k0_t1_loop i).ub (k0_t1_loop i).st)).1.2.1, (loop1 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 xq xk xv s13 s15 s16 s17 v465 (Scf.trips (k0_t1_loop i).lb (k0_t1_loop i).ub (k0_t1_loop i).st)).1.2.2.1, (loop1 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 xq xk xv s13 s15 s16 s17 v465 (Scf.trips (k0_t1_loop i).lb (k0_t1_loop i).ub (k0_t1_loop i).st)).1.2.2.2.1, (loop1 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 xq xk xv s13 s15 s16 s17 v465 (Scf.trips (k0_t1_loop i).lb (k0_t1_loop i).ub (k0_t1_loop i).st)).1.2.2.2.2.1, (loop1 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 xq xk xv s13 s15 s16 s17 v465 (Scf.trips (k0_t1_loop i).lb (k0_t1_loop i).ub (k0_t1_loop i).st)).1.2.2.2.2.2)
    (Scf.trips (k0_t2_loop i).lb (k0_t2_loop i).ub (k0_t2_loop i).st)

def d13 : Vec Ideal S1x256x128 .fp8e4m3 := arg13.view.readCov (P13 i xk) (Rect.unit (s := S64x256x128) (k0_off1 i) S1x256x128.size (k0_off1_inb i)).toLoadRect
def d15 : Vec Ideal S1x256x128 .f32 := arg15.view.readCov (P15 i xk) (Rect.unit (s := S64x256x128) (k0_off1 i) S1x256x128.size (k0_off1_inb i)).toLoadRect
def d16 : Vec Ideal S1x256x128 .f32 := arg16.view.readCov (P16 i xv) (Rect.unit (s := S64x256x128) (k0_off1 i) S1x256x128.size (k0_off1_inb i)).toLoadRect
def d17 : Vec Ideal S1x8x128 .f32 := arg17.view.readCov (P17 i xv) (Rect.unit (s := S64x8x128) (k0_off3 i) S1x8x128.size (k0_off3_inb i)).toLoadRect

/-- The sums and maxima after the diagonal block. -/
def carried : Acc :=
  (k0_pay90 (loop2 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 xq xk xv s13 s15 s16 s17 v465).1.1 (k0_pay89 (qc xq) (k0_pay51 (qs xq)) (d13 i arg13 xk) (d15 i arg15 xk)),
   k0_pay91 (loop2 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 xq xk xv s13 s15 s16 s17 v465).1.2.1 (k0_pay88 (qc xq) (k0_pay51 (qs xq)) (d13 i arg13 xk) (d15 i arg15 xk)),
   k0_pay93 (loop2 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 xq xk xv s13 s15 s16 s17 v465).1.2.2.1 (k0_pay86 (d16 i arg16 xv)) (k0_pay87 (tword v465) (d17 i arg17 xv)) (k0_pay88 (qc xq) (k0_pay51 (qs xq)) (d13 i arg13 xk) (d15 i arg15 xk)),
   k0_pay96 (k0_pay70 (k0_pay51 (qs xq))) (loop2 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 xq xk xv s13 s15 s16 s17 v465).1.2.2.2.1 (k0_pay84 (qc xq) (d13 i arg13 xk)) (k0_pay85 (d15 i arg15 xk)),
   k0_pay97 (k0_pay70 (k0_pay51 (qs xq))) (loop2 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 xq xk xv s13 s15 s16 s17 v465).1.2.2.2.2.1 (k0_pay84 (qc xq) (d13 i arg13 xk)) (k0_pay85 (d15 i arg15 xk)),
   k0_pay99 (k0_pay70 (k0_pay51 (qs xq))) (loop2 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 xq xk xv s13 s15 s16 s17 v465).1.2.2.2.2.2 (k0_pay84 (qc xq) (d13 i arg13 xk)) (k0_pay85 (d15 i arg15 xk)) (k0_pay86 (d16 i arg16 xv)) (k0_pay87 (tword v465) (d17 i arg17 xv)))

/-- The blocks of weights stored. -/
def P19 : List (View.Piece (Elt Ideal) S64x256x256 .f32) :=
  ⟨Rect.unit (s := S64x256x256) (k0_off13 i) S1x256x128.size (k0_off13_inb i), k0_pay100 (k0_pay70 (k0_pay51 (qs xq))) (k0_pay84 (qc xq) (d13 i arg13 xk)) (k0_pay85 (d15 i arg15 xk)) (k0_pay86 (d16 i arg16 xv))⟩
    :: ⟨Rect.unit (s := S64x256x256) (k0_off12 i) S1x256x128.size (k0_off12_inb i), k0_pay94 (k0_pay86 (d16 i arg16 xv)) (k0_pay88 (qc xq) (k0_pay51 (qs xq)) (d13 i arg13 xk) (d15 i arg15 xk))⟩
    :: ((loop2 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 xq xk xv s13 s15 s16 s17 v465).2 ++ (loop1 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 xq xk xv s13 s15 s16 s17 v465 (Scf.trips (k0_t1_loop i).lb (k0_t1_loop i).ub (k0_t1_loop i).st)).2)

/-- The exponent words of the products' scales: what the search for them starts from. -/
def e104 (a : Acc) : FVec Ideal S1x256 .f32 := k0_pay104 a.2.1 a.2.2.1 a.2.2.2.2.1 a.2.2.2.2.2
def e107 (a : Acc) : IVec S1x256 32 := k0_pay107 (e104 a) (k0_pay105 (F := Ideal) a.2.1 a.2.2.1 a.2.2.2.2.1 a.2.2.2.2.2) (k0_pay106 (F := Ideal) a.2.1 a.2.2.1 a.2.2.2.2.1 a.2.2.2.2.2)
def e108 (a : Acc) : IVec S1x256 32 := k0_pay108 (e104 a) (k0_pay105 (F := Ideal) a.2.1 a.2.2.1 a.2.2.2.2.1 a.2.2.2.2.2) (k0_pay106 (F := Ideal) a.2.1 a.2.2.1 a.2.2.2.2.1 a.2.2.2.2.2)

/-- The second pass's state after `k` trips. -/
def loop3 (k : ℕ) : FVec Ideal S128x256 .f32 :=
  st_k0_t3 (F := Ideal) Variants.none c none i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 (BitVec.ofNat 32 (i 2).val) v465 (k0_pay69 (tword v465)) (k0_pay101 (carried c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 xq xk xv s13 s15 s16 s17 v465).1 (carried c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 xq xk xv s13 s15 s16 s17 v465).2.2.2.1) (k0_pay102 (carried c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 xq xk xv s13 s15 s16 s17 v465).2.1 (carried c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 xq xk xv s13 s15 s16 s17 v465).2.2.2.2.1) (k0_pay103 (carried c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 xq xk xv s13 s15 s16 s17 v465).2.1 (carried c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 xq xk xv s13 s15 s16 s17 v465).2.2.2.2.1) (e104 (carried c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 xq xk xv s13 s15 s16 s17 v465)) (e107 (carried c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 xq xk xv s13 s15 s16 s17 v465)) (e108 (carried c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 xq xk xv s13 s15 s16 s17 v465))
    (arg14.view.writes (Elt Ideal) (harg14.unread s14) (P14 i xv)) (arg17.view.writes (Elt Ideal) (harg17.unread s17) (P17 i xv)) (arg19.view.writes (Elt Ideal) (harg19.unread s19) (P19 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 xq xk xv s13 s15 s16 s17 v465)) k0_pay111 k

/-- The state after the loop that takes what the second pass's unrolling leaves over. -/
def loop4 : FVec Ideal S128x256 .f32 :=
  st_k0_t4 (F := Ideal) Variants.none c none i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 (BitVec.ofNat 32 (i 2).val) v465 (k0_pay69 (tword v465)) (k0_pay101 (carried c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 xq xk xv s13 s15 s16 s17 v465).1 (carried c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 xq xk xv s13 s15 s16 s17 v465).2.2.2.1) (k0_pay102 (carried c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 xq xk xv s13 s15 s16 s17 v465).2.1 (carried c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 xq xk xv s13 s15 s16 s17 v465).2.2.2.2.1) (k0_pay103 (carried c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 xq xk xv s13 s15 s16 s17 v465).2.1 (carried c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 xq xk xv s13 s15 s16 s17 v465).2.2.2.2.1) (e104 (carried c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 xq xk xv s13 s15 s16 s17 v465)) (e107 (carried c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 xq xk xv s13 s15 s16 s17 v465)) (e108 (carried c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 xq xk xv s13 s15 s16 s17 v465))
    (arg14.view.writes (Elt Ideal) (harg14.unread s14) (P14 i xv)) (arg17.view.writes (Elt Ideal) (harg17.unread s17) (P17 i xv)) (arg19.view.writes (Elt Ideal) (harg19.unread s19) (P19 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 xq xk xv s13 s15 s16 s17 v465))
    (loop3 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 xq xk xv s13 s14 s15 s16 s17 s19 v465 (Scf.trips (k0_t3_loop i).lb (k0_t3_loop i).ub (k0_t3_loop i).st)) (Scf.trips (k0_t4_loop i).lb (k0_t4_loop i).ub (k0_t4_loop i).st)

/-- The block of results. -/
def blockOut : FVec Ideal S256x128 .bf16 :=
  k0_pay114 v465 (k0_pay101 (carried c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 xq xk xv s13 s15 s16 s17 v465).1 (carried c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 xq xk xv s13 s15 s16 s17 v465).2.2.2.1) (k0_pay102 (carried c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 xq xk xv s13 s15 s16 s17 v465).2.1 (carried c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 xq xk xv s13 s15 s16 s17 v465).2.2.2.2.1) (e104 (carried c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 xq xk xv s13 s15 s16 s17 v465)) (e107 (carried c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 xq xk xv s13 s15 s16 s17 v465)) (e108 (carried c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 xq xk xv s13 s15 s16 s17 v465)) (loop4 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 xq xk xv s13 s14 s15 s16 s17 s19 v465)

variable {c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 xq xk xv s13 s14 s15 s16 s17 s19 v465}
  {Q : Fin 256 → Fin 128 → EReal} {K V : ℕ → Fin 256 → Fin 128 → EReal} {T : ℤ}

/-- Storing the current block keeps what the earlier points held, and adds it. -/
theorem Held.step {sk sv : Vec Ideal S1x256x128 .bf16} (hK : ∀ r, brow sk r = K (i 2).val r) (hV : ∀ r, brow sv r = V (i 2).val r)
    (fk : ∀ r, Fits (-117) 117 (K (i 2).val r)) (fv : ∀ r, Fits (-50) 50 (V (i 2).val r))
    (H : Held (i 2).val s13 s14 s15 s16 s17 K V (fun c => btop fun r => rexp (V c r))) :
    Held ((i 2).val + 1) (arg13.view.read (Elt Ideal) (arg13.view.writes (Elt Ideal) (harg13.unread s13) (P13 i sk)))
      (arg14.view.read (Elt Ideal) (arg14.view.writes (Elt Ideal) (harg14.unread s14) (P14 i sv)))
      (arg15.view.read (Elt Ideal) (arg15.view.writes (Elt Ideal) (harg15.unread s15) (P15 i sk)))
      (arg16.view.read (Elt Ideal) (arg16.view.writes (Elt Ideal) (harg16.unread s16) (P16 i sv)))
      (arg17.view.read (Elt Ideal) (arg17.view.writes (Elt Ideal) (harg17.unread s17) (P17 i sv))) K V (fun c => btop fun r => rexp (V c r)) := by
  have fv' : ∀ r, Fits (-117) 117 (V (i 2).val r) := fun r => (fv r).mono (by norm_num) (by norm_num)
  constructor <;> intro c hc a b <;> by_cases hn : c.val = (i 2).val
  · refine (store_block arg13.view _ (k0_off1_inb i) _ [] c ((off1 i).trans (by rw [hn])) a b).trans ?_
    rw [hn]; exact p13_at hK fk a b
  · refine (keep_block arg13.view _ (k0_off1_inb i) _ [] c (i 2).val (off1 i) hn a b).trans ?_
    exact (congrFun (harg13.read_unread s13) _).trans (H.h13 c (by omega) a b)
  · refine (store_block arg14.view _ (k0_off2_inb i) _ [] c ((off2 i).trans (by rw [hn])) a b).trans ?_
    rw [hn]; exact p14_at hV fv' a b
  · refine (keep_block arg14.view _ (k0_off2_inb i) _ [] c (i 2).val (off2 i) hn a b).trans ?_
    exact (congrFun (harg14.read_unread s14) _).trans (H.h14 c (by omega) a b)
  · refine (store_block arg15.view _ (k0_off1_inb i) _ [] c ((off1 i).trans (by rw [hn])) a b).trans ?_
    rw [hn]; exact p15_at hK fk a b
  · refine (keep_block arg15.view _ (k0_off1_inb i) _ [] c (i 2).val (off1 i) hn a b).trans ?_
    exact (congrFun (harg15.read_unread s15) _).trans (H.h15 c (by omega) a b)
  · refine (store_block arg16.view _ (k0_off1_inb i) _ [] c ((off1 i).trans (by rw [hn])) a b).trans ?_
    rw [hn]; exact p16_at hV fv a b
  · refine (keep_block arg16.view _ (k0_off1_inb i) _ [] c (i 2).val (off1 i) hn a b).trans ?_
    exact (congrFun (harg16.read_unread s16) _).trans (H.h16 c (by omega) a b)
  · refine (store_block arg17.view _ (k0_off3_inb i) _ [] c ((off3 i).trans (by rw [hn])) a b).trans ?_
    rw [hn]; exact p17_at hV fv a b
  · refine (keep_block arg17.view _ (k0_off3_inb i) _ [] c (i 2).val (off3 i) hn a b).trans ?_
    exact (congrFun (harg17.read_unread s17) _).trans (H.h17 c (by omega) a b)

theorem loop2_fst : (loop2 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 xq xk xv s13 s15 s16 s17 v465).1 = (loop1 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 xq xk xv s13 s15 s16 s17 v465 (i 2).val).1 := by
  unfold loop2
  rw [show Scf.trips (k0_t2_loop i).lb (k0_t2_loop i).ub (k0_t2_loop i).st = 0 from trips2 i, st_k0_t2_zero,
    show Scf.trips (k0_t1_loop i).lb (k0_t1_loop i).ub (k0_t1_loop i).st = (i 2).val from trips1 i]

theorem loop2_snd : (loop2 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 xq xk xv s13 s15 s16 s17 v465).2 = [] := by
  unfold loop2
  rw [show Scf.trips (k0_t2_loop i).lb (k0_t2_loop i).ub (k0_t2_loop i).st = 0 from trips2 i, st_k0_t2.eq_1]

theorem loop4_eq : loop4 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 xq xk xv s13 s14 s15 s16 s17 s19 v465 = loop3 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 xq xk xv s13 s14 s15 s16 s17 s19 v465 ((i 2).val + 1) := by
  unfold loop4
  rw [show Scf.trips (k0_t4_loop i).lb (k0_t4_loop i).ub (k0_t4_loop i).st = 0 from trips4 i, st_k0_t4_zero,
    show Scf.trips (k0_t3_loop i).lb (k0_t3_loop i).ub (k0_t3_loop i).st = (i 2).val + 1 from trips3 i]

/-- The block of results at a point is the attention of its queries. -/
theorem blockOut_at (hQ : ∀ r, brow xq r = Q r) (hK : ∀ r, brow xk r = K (i 2).val r) (hV : ∀ r, brow xv r = V (i 2).val r)
    (fq : ∀ r, Fits (-117) 117 (Q r)) (fk : ∀ r, Fits (-117) 117 (K (i 2).val r)) (fv : ∀ c ≤ (i 2).val, ∀ r, Fits (-50) 50 (V c r))
    (H : Held (i 2).val s13 s14 s15 s16 s17 K V (fun c => btop fun r => rexp (V c r)))
    (hT : ∀ a l, v465 (ix2 a l) = (((2 : ℝ) ^ T : ℝ) : EReal)) (hB : ∀ c ≤ (i 2).val, (btop fun r => rexp (V c r)) ≤ T) (hT0 : -58 ≤ T) (hT1 : T ≤ 42)
    (j : Fin 256) (d : Fin 128) : blockOut c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 xq xk xv s13 s14 s15 s16 s17 s19 v465 (ix2 j d) = ((attn Q K V (i 2).val j d : ℝ) : EReal) := by
  have hX : ∀ c ≤ (i 2).val, ∀ r, -100 ≤ Xw V T c r ∧ Xw V T c r ≤ 0 := fun c hc r => by
    have h1 := (fv c hc r).rexp_bounds (by norm_num) (by norm_num)
    have h2 := le_btop (fun r => rexp (V c r)) r
    have h3 := hB c hc
    unfold Xw
    omega
  have H' := Held.step (arg13 := arg13) (harg13 := harg13) (arg14 := arg14) (harg14 := harg14) (arg15 := arg15) (harg15 := harg15) (arg16 := arg16) (harg16 := harg16)
    (arg17 := arg17) (harg17 := harg17) hK hV fk (fv _ le_rfl) H
  have hr : ∀ j, k0_pay51 (F := Ideal) (qs xq) (ix2 0 j) = rscale (Q j) := fun j => by
    rw [← qs_at hQ fq j 0]; generalize qs xq = y; pointwise [k0_pay51]
  have hT2 : ∀ a l, k0_pay69 (F := Ideal) (tword v465) (ix2 a l) = (((2 : ℝ) ^ (-T) : ℝ) : EReal) := pay69_at v465 T hT (by omega) (by omega)
  have hc := t1_carry (arg13 := arg13) (arg14 := arg14) (arg15 := arg15) (arg16 := arg16) (arg17 := arg17) (arg19 := arg19)
    (v101 := qc xq) (v331 := k0_pay51 (qs xq)) (v544 := tword v465) (st := fun k => loop1 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 xq xk xv s13 s15 s16 s17 v465 k) (st_k0_t1.eq_1 ..) (fun k => t1_succ ..) H' (qc_at hQ fq) hr hT2 hX (i 2).val le_rfl
  unfold blockOut
  rw [loop4_eq]
  refine block_value (L1 := (loop1 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 xq xk xv s13 s15 s16 s17 v465 (i 2).val).2) (acc := (loop2 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 xq xk xv s13 s15 s16 s17 v465).1) (f19 := harg19.unread s19) (v544 := tword v465)
    (v767 := d13 i arg13 xk) (v771 := d15 i arg15 xk) (v774 := d16 i arg16 xv) (v777 := d17 i arg17 xv)
    H' (qc_at hQ fq) hr ?_ ?_ ?_ ?_ hT2 (hT 0) hX ?_ hc.2 rfl ?_ (st := fun k => loop3 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 xq xk xv s13 s14 s15 s16 s17 s19 v465 k) (st_k0_t3.eq_1 ..) (fun k => t3_succ ..) j d
  · intro r d
    unfold d13 P13
    rw [View.readCov_cons_toLoadRect]; exact p13_at hK fk r d
  · intro r d
    unfold d15 P15
    rw [View.readCov_cons_toLoadRect]; exact p15_at hK fk r d
  · intro r d
    unfold d16 P16
    rw [View.readCov_cons_toLoadRect]; exact p16_at hV (fv _ le_rfl) r d
  · intro r d
    unfold d17 P17
    rw [View.readCov_cons_toLoadRect]; exact p17_at hV (fv _ le_rfl) r d
  · rw [loop2_fst]; exact hc.1
  · unfold P19
    rw [loop2_snd, List.nil_append, show Scf.trips (k0_t1_loop i).lb (k0_t1_loop i).ub (k0_t1_loop i).st = (i 2).val from trips1 i]

end Out

end Cert.KernelIdeal.Val
-- ==== Proof.KernelIdealLink.lean ====
module

public import proofs.«01_k».proof.Proof.KernelIdealPoint

@[expose] public section
set_option maxHeartbeats 1000000
set_option maxRecDepth 100000
noncomputable section
namespace Cert.KernelIdeal.Val
open Idealize.ShloMosaic Idealize.ShloMosaic.TcCoe Idealize.ShloMosaic.Pointwise
open Cert.KernelIdeal Cert.KernelIdeal.Gen Cert.KernelIdeal.Facts Cert.Scales Cert.Lanes

section Link
variable (c : Dev nD) (i : grid0.Coords) (arg3 : Memref sig .tc .vmem S1x256x128 .bf16) (harg3 : arg3.IsWhole) (arg4 : Memref sig .tc .vmem S1x256x128 .bf16) (harg4 : arg4.IsWhole) (arg5 : Memref sig .tc .vmem S1x256x128 .bf16) (harg5 : arg5.IsWhole) (arg6 : Memref sig .tc .vmem S1x256x128 .bf16) (harg6 : arg6.IsWhole) (arg7 : Memref sig .tc .vmem S1x256x128 .fp8e4m3) (harg7 : arg7.IsWhole) (arg8 : Memref sig .tc .vmem S1x1x1x1x256 .f32) (harg8 : arg8.IsWhole) (arg9 : Memref sig .tc .vmem S1x256x128 .fp8e4m3) (harg9 : arg9.IsWhole) (arg10 : Memref sig .tc .vmem S1x1x1x1x256 .f32) (harg10 : arg10.IsWhole) (arg11 : Memref sig .tc .vmem S1x256x128 .fp8e4m3) (harg11 : arg11.IsWhole) (arg12 : Memref sig .tc .vmem S1x1x1x1x256 .f32) (harg12 : arg12.IsWhole) (arg13 : Memref sig .tc .vmem S64x256x128 .fp8e4m3) (harg13 : arg13.IsWhole) (arg14 : Memref sig .tc .vmem S64x128x256 .fp8e4m3) (harg14 : arg14.IsWhole) (arg15 : Memref sig .tc .vmem S64x256x128 .f32) (harg15 : arg15.IsWhole) (arg16 : Memref sig .tc .vmem S64x256x128 .f32) (harg16 : arg16.IsWhole) (arg17 : Memref sig .tc .vmem S64x8x128 .f32) (harg17 : arg17.IsWhole) (arg18 : Memref sig .tc .vmem S8x128 .f32) (harg18 : arg18.IsWhole) (arg19 : Memref sig .tc .vmem S64x256x256 .f32) (harg19 : arg19.IsWhole)
  (x3 x4 x5 : Vec Ideal S1x256x128 .bf16) (s13 : Vec Ideal S64x256x128 .fp8e4m3) (s14 : Vec Ideal S64x128x256 .fp8e4m3) (s15 : Vec Ideal S64x256x128 .f32) (s16 : Vec Ideal S64x256x128 .f32) (s17 : Vec Ideal S64x8x128 .f32) (s18 : Vec Ideal S8x128 .f32) (s19 : Vec Ideal S64x256x256 .f32)

/-- The largest value exponents so far after a first block: the block's own. -/
def topA : Vec Ideal S8x128 .f32 := arg18.view.readCov [⟨Rect.unit (s := S8x128) ![0, 0] S8x128.size inb_S8x128_S8x128_0_0, k0_pay64 (k0_pay59 (vs (ld arg5 harg5 x5)))⟩]
  (Rect.unit (s := S8x128) ![0, 0] S8x128.size inb_S8x128_S8x128_0_0).toLoadRect

theorem runA_out (hc0 : Run.cond0 i) (hc1 : ¬ Run.cond1 i) :
    (Run.runA (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x3 x4 x5 s13 s14 s15 s16 s17 s18 s19).1
      = [⟨Rect.unit (s := S1x256x128) ![0, 0, 0] S1x256x128.size inb_S1x256x128_S1x256x128_0_0_0,
          k0_pay1 (blockOut c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 (ld arg3 harg3 x3) (ld arg4 harg4 x4) (ld arg5 harg5 x5) s13 s14 s15 s16 s17 s19 (topA arg5 harg5 arg18 x5))⟩] := rfl

/-- The largest value exponents so far after a later block: the larger of the block's own and the ones before. -/
def stB : Vec Ideal S8x128 .f32 := k0_pay65 (k0_pay59 (vs (ld arg5 harg5 x5)))
  (View.readAt (Elt Ideal) arg18.view (Rect.unit (s := S8x128) ![0, 0] S8x128.size inb_S8x128_S8x128_0_0).toLoadRect (harg18.unread s18))
def topB : Vec Ideal S8x128 .f32 := arg18.view.readCov [⟨Rect.unit (s := S8x128) ![0, 0] S8x128.size inb_S8x128_S8x128_0_0, stB arg5 harg5 arg18 harg18 x5 s18⟩]
  (Rect.unit (s := S8x128) ![0, 0] S8x128.size inb_S8x128_S8x128_0_0).toLoadRect

theorem runB_out (hc0 : ¬ Run.cond0 i) (hc1 : Run.cond1 i) :
    (Run.runB (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x3 x4 x5 s13 s14 s15 s16 s17 s18 s19).1
      = [⟨Rect.unit (s := S1x256x128) ![0, 0, 0] S1x256x128.size inb_S1x256x128_S1x256x128_0_0_0,
          k0_pay1 (blockOut c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 (ld arg3 harg3 x3) (ld arg4 harg4 x4) (ld arg5 harg5 x5) s13 s14 s15 s16 s17 s19 (topB arg5 harg5 arg18 harg18 x5 s18))⟩] := rfl

/-- The codes and scales stored in the six other outputs. -/
theorem runA_codes (hc0 : Run.cond0 i) (hc1 : ¬ Run.cond1 i) :
    (Run.runA (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x3 x4 x5 s13 s14 s15 s16 s17 s18 s19).2.1 = [⟨Rect.unit (s := S1x256x128) ![0, 0, 0] S1x256x128.size inb_S1x256x128_S1x256x128_0_0_0, k0_pay48 (qc (ld arg3 harg3 x3))⟩]
    ∧ (Run.runA (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x3 x4 x5 s13 s14 s15 s16 s17 s18 s19).2.2.1 = [⟨Rect.unit (s := S1x1x1x1x256) ![0, 0, 0, 0, 0] S1x1x1x1x256.size inb_S1x1x1x1x256_S1x1x1x1x256_0_0_0_0_0, k0_pay52 (qs (ld arg3 harg3 x3))⟩]
    ∧ (Run.runA (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x3 x4 x5 s13 s14 s15 s16 s17 s18 s19).2.2.2.1 = [⟨Rect.unit (s := S1x256x128) ![0, 0, 0] S1x256x128.size inb_S1x256x128_S1x256x128_0_0_0, k0_pay49 (kc (ld arg4 harg4 x4))⟩]
    ∧ (Run.runA (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x3 x4 x5 s13 s14 s15 s16 s17 s18 s19).2.2.2.2.1 = [⟨Rect.unit (s := S1x1x1x1x256) ![0, 0, 0, 0, 0] S1x1x1x1x256.size inb_S1x1x1x1x256_S1x1x1x1x256_0_0_0_0_0, k0_pay54 (k0_pay53 (ks (ld arg4 harg4 x4)))⟩]
    ∧ (Run.runA (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x3 x4 x5 s13 s14 s15 s16 s17 s18 s19).2.2.2.2.2.1 = [⟨Rect.unit (s := S1x256x128) ![0, 0, 0] S1x256x128.size inb_S1x256x128_S1x256x128_0_0_0, k0_pay50 (k0_pay42 (ld arg5 harg5 x5)) (k0_pay45 (k0_pay43 (ld arg5 harg5 x5)) (k0_pay44 (ld arg5 harg5 x5))) 0#32⟩]
    ∧ (Run.runA (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x3 x4 x5 s13 s14 s15 s16 s17 s18 s19).2.2.2.2.2.2.1 = [⟨Rect.unit (s := S1x1x1x1x256) ![0, 0, 0, 0, 0] S1x1x1x1x256.size inb_S1x1x1x1x256_S1x1x1x1x256_0_0_0_0_0, k0_pay55 (vs (ld arg5 harg5 x5))⟩] :=
  ⟨rfl, rfl, rfl, rfl, rfl, rfl⟩

/-- What is stored in the scratch. -/
theorem runA_scratch (hc0 : Run.cond0 i) (hc1 : ¬ Run.cond1 i) :
    (Run.runA (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x3 x4 x5 s13 s14 s15 s16 s17 s18 s19).2.2.2.2.2.2.2.1 = P13 i (ld arg4 harg4 x4)
    ∧ (Run.runA (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x3 x4 x5 s13 s14 s15 s16 s17 s18 s19).2.2.2.2.2.2.2.2.1 = P14 i (ld arg5 harg5 x5)
    ∧ (Run.runA (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x3 x4 x5 s13 s14 s15 s16 s17 s18 s19).2.2.2.2.2.2.2.2.2.1 = P15 i (ld arg4 harg4 x4)
    ∧ (Run.runA (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x3 x4 x5 s13 s14 s15 s16 s17 s18 s19).2.2.2.2.2.2.2.2.2.2.1 = P16 i (ld arg5 harg5 x5)
    ∧ (Run.runA (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x3 x4 x5 s13 s14 s15 s16 s17 s18 s19).2.2.2.2.2.2.2.2.2.2.2.1 = P17 i (ld arg5 harg5 x5)
    ∧ (Run.runA (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x3 x4 x5 s13 s14 s15 s16 s17 s18 s19).2.2.2.2.2.2.2.2.2.2.2.2.1 = [⟨Rect.unit (s := S8x128) ![0, 0] S8x128.size inb_S8x128_S8x128_0_0, k0_pay64 (k0_pay59 (vs (ld arg5 harg5 x5)))⟩] :=
  ⟨rfl, rfl, rfl, rfl, rfl, rfl⟩

/-- The codes and scales stored in the six other outputs. -/
theorem runB_codes (hc0 : ¬ Run.cond0 i) (hc1 : Run.cond1 i) :
    (Run.runB (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x3 x4 x5 s13 s14 s15 s16 s17 s18 s19).2.1 = [⟨Rect.unit (s := S1x256x128) ![0, 0, 0] S1x256x128.size inb_S1x256x128_S1x256x128_0_0_0, k0_pay48 (qc (ld arg3 harg3 x3))⟩]
    ∧ (Run.runB (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x3 x4 x5 s13 s14 s15 s16 s17 s18 s19).2.2.1 = [⟨Rect.unit (s := S1x1x1x1x256) ![0, 0, 0, 0, 0] S1x1x1x1x256.size inb_S1x1x1x1x256_S1x1x1x1x256_0_0_0_0_0, k0_pay52 (qs (ld arg3 harg3 x3))⟩]
    ∧ (Run.runB (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x3 x4 x5 s13 s14 s15 s16 s17 s18 s19).2.2.2.1 = [⟨Rect.unit (s := S1x256x128) ![0, 0, 0] S1x256x128.size inb_S1x256x128_S1x256x128_0_0_0, k0_pay49 (kc (ld arg4 harg4 x4))⟩]
    ∧ (Run.runB (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x3 x4 x5 s13 s14 s15 s16 s17 s18 s19).2.2.2.2.1 = [⟨Rect.unit (s := S1x1x1x1x256) ![0, 0, 0, 0, 0] S1x1x1x1x256.size inb_S1x1x1x1x256_S1x1x1x1x256_0_0_0_0_0, k0_pay54 (k0_pay53 (ks (ld arg4 harg4 x4)))⟩]
    ∧ (Run.runB (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x3 x4 x5 s13 s14 s15 s16 s17 s18 s19).2.2.2.2.2.1 = [⟨Rect.unit (s := S1x256x128) ![0, 0, 0] S1x256x128.size inb_S1x256x128_S1x256x128_0_0_0, k0_pay50 (k0_pay42 (ld arg5 harg5 x5)) (k0_pay45 (k0_pay43 (ld arg5 harg5 x5)) (k0_pay44 (ld arg5 harg5 x5))) 0#32⟩]
    ∧ (Run.runB (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x3 x4 x5 s13 s14 s15 s16 s17 s18 s19).2.2.2.2.2.2.1 = [⟨Rect.unit (s := S1x1x1x1x256) ![0, 0, 0, 0, 0] S1x1x1x1x256.size inb_S1x1x1x1x256_S1x1x1x1x256_0_0_0_0_0, k0_pay55 (vs (ld arg5 harg5 x5))⟩] :=
  ⟨rfl, rfl, rfl, rfl, rfl, rfl⟩

/-- What is stored in the scratch. -/
theorem runB_scratch (hc0 : ¬ Run.cond0 i) (hc1 : Run.cond1 i) :
    (Run.runB (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x3 x4 x5 s13 s14 s15 s16 s17 s18 s19).2.2.2.2.2.2.2.1 = P13 i (ld arg4 harg4 x4)
    ∧ (Run.runB (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x3 x4 x5 s13 s14 s15 s16 s17 s18 s19).2.2.2.2.2.2.2.2.1 = P14 i (ld arg5 harg5 x5)
    ∧ (Run.runB (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x3 x4 x5 s13 s14 s15 s16 s17 s18 s19).2.2.2.2.2.2.2.2.2.1 = P15 i (ld arg4 harg4 x4)
    ∧ (Run.runB (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x3 x4 x5 s13 s14 s15 s16 s17 s18 s19).2.2.2.2.2.2.2.2.2.2.1 = P16 i (ld arg5 harg5 x5)
    ∧ (Run.runB (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x3 x4 x5 s13 s14 s15 s16 s17 s18 s19).2.2.2.2.2.2.2.2.2.2.2.1 = P17 i (ld arg5 harg5 x5)
    ∧ (Run.runB (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x3 x4 x5 s13 s14 s15 s16 s17 s18 s19).2.2.2.2.2.2.2.2.2.2.2.2.1 = [⟨Rect.unit (s := S8x128) ![0, 0] S8x128.size inb_S8x128_S8x128_0_0, stB arg5 harg5 arg18 harg18 x5 s18⟩] :=
  ⟨rfl, rfl, rfl, rfl, rfl, rfl⟩

end Link

end Cert.KernelIdeal.Val
-- ==== Proof.KernelIdealInv.lean ====
module

public import proofs.«01_k».proof.Proof.KernelIdealGrid
public import proofs.«01_k».proof.Proof.KernelIdealLink

@[expose] public section
set_option maxHeartbeats 400000
set_option maxRecDepth 100000
noncomputable section
namespace Cert.KernelIdeal.Val
open Idealize.ShloMosaic Idealize.ShloMosaic.TcCoe Idealize.ShloMosaic.Pointwise
open Cert.KernelIdeal Cert.KernelIdeal.Gen Cert.KernelIdeal.Run Cert.Scales Cert.Lanes Cert.Rows

/-- Two blocks are equal when they agree at every row and column. -/
theorem ext3 {α : Type} {f g : (S1x256x128 : Shape).Idx → α} (h : ∀ r d, f (ix3 0 r d) = g (ix3 0 r d)) : f = g := funext fun y => by
  have e : y = ix3 0 (y 1) (y 2) := (eq_ix3 y).trans (by rw [show y 0 = (0 : Fin 1) from Subsingleton.elim (α := Fin 1) _ _]; rfl)
  rw [e]; exact h _ _
theorem ext5 {α : Type} {f g : (S1x1x1x1x256 : Shape).Idx → α} (h : ∀ r, f (ix5 0 0 0 0 r) = g (ix5 0 0 0 0 r)) : f = g := funext fun y => by
  have e : y = ix5 0 0 0 0 (y 4) := (eq_ix5 y).trans (by
    rw [show y 0 = (0 : Fin 1) from Subsingleton.elim (α := Fin 1) _ _, show y 1 = (0 : Fin 1) from Subsingleton.elim (α := Fin 1) _ _,
      show y 2 = (0 : Fin 1) from Subsingleton.elim (α := Fin 1) _ _, show y 3 = (0 : Fin 1) from Subsingleton.elim (α := Fin 1) _ _]; rfl)
  rw [e]; exact h _

/-! ## The stored blocks, entry by entry -/

theorem pay1_at (y : FVec Ideal S256x128 .bf16) (r : Fin 256) (d : Fin 128) : k0_pay1 (F := Ideal) y (ix3 0 r d) = y (ix2 r d) := by pointwise [k0_pay1]
theorem pay48_at (y : FVec Ideal S256x128 .fp8e4m3) (r : Fin 256) (d : Fin 128) : k0_pay48 (F := Ideal) y (ix3 0 r d) = y (ix2 r d) := by pointwise [k0_pay48]
theorem pay49_at (y : FVec Ideal S256x128 .fp8e4m3) (r : Fin 256) (d : Fin 128) : k0_pay49 (F := Ideal) y (ix3 0 r d) = y (ix2 r d) := by pointwise [k0_pay49]
theorem pay50_at (x : Vec Ideal S1x256x128 .bf16) (r : Fin 256) (d : Fin 128) :
    k0_pay50 (F := Ideal) (k0_pay42 x) (k0_pay45 (k0_pay43 x) (k0_pay44 x)) 0#32 (ix3 0 r d) = vc x (ix2 r d) := by
  have : k0_pay50 (F := Ideal) (k0_pay42 x) (k0_pay45 (k0_pay43 x) (k0_pay44 x)) 0#32
    = k0_pay48 (F := Ideal) (vc x) := rfl
  rw [this, pay48_at]
theorem pay52_at (y : FVec Ideal S256x128 .f32) (r : Fin 256) : k0_pay52 (F := Ideal) y (ix5 0 0 0 0 r) = y (ix2 r 0) := by pointwise [k0_pay52, k0_pay51]
theorem pay54_at (y : FVec Ideal S256x128 .f32) (r : Fin 256) : k0_pay54 (F := Ideal) (k0_pay53 y) (ix5 0 0 0 0 r) = y (ix2 r 0) := by pointwise [k0_pay54, k0_pay53]
theorem pay55_at (y : FVec Ideal S256x128 .f32) (r : Fin 256) : k0_pay55 (F := Ideal) y (ix5 0 0 0 0 r) = y (ix2 r 0) := by pointwise [k0_pay55]
theorem pay64_at (y : FVec Ideal S8x128 .f32) (a : Fin 8) (l : Fin 128) : k0_pay64 (F := Ideal) y (ix2 a l) = y (ix2 a l) := by pointwise [k0_pay64]
theorem pay65_at (y : FVec Ideal S8x128 .f32) (z : Vec Ideal S8x128 .f32) (a : Fin 8) (l : Fin 128) :
    k0_pay65 (F := Ideal) y z (ix2 a l) = max (z (ix2 a l)) (y (ix2 a l)) := by pointwise [k0_pay65]

/-- What the scratch holds before point `n`: everything of the earlier blocks of the same head, and their largest value exponent. -/
structure Inv (n : ℕ) (K W : Arr) (s13 : Vec Ideal S64x256x128 .fp8e4m3) (s14 : Vec Ideal S64x128x256 .fp8e4m3) (s15 : Vec Ideal S64x256x128 .f32)
    (s16 : Vec Ideal S64x256x128 .f32) (s17 : Vec Ideal S64x8x128 .f32) (s18 : Vec Ideal S8x128 .f32) : Prop where
  held : Held (n % 64) s13 s14 s15 s16 s17 (arow K (bOf n) (hOf n)) (arow W (bOf n) (hOf n)) (fun c => btop fun r => rexp (arow W (bOf n) (hOf n) c r))
  top : n % 64 ≠ 0 → ∃ T : ℤ, (∀ a l, s18 (ix2 a l) = (((2 : ℝ) ^ T : ℝ) : EReal)) ∧ (∀ c < n % 64, (btop fun r => rexp (arow W (bOf n) (hOf n) c r)) ≤ T) ∧ -58 ≤ T ∧ T ≤ 42

/-- At the start of a head nothing is asked of the scratch. -/
theorem Inv.start {n : ℕ} (h : n % 64 = 0) (K W : Arr) (s13 : Vec Ideal S64x256x128 .fp8e4m3) (s14 : Vec Ideal S64x128x256 .fp8e4m3) (s15 : Vec Ideal S64x256x128 .f32)
    (s16 : Vec Ideal S64x256x128 .f32) (s17 : Vec Ideal S64x8x128 .f32) (s18 : Vec Ideal S8x128 .f32) : Inv n K W s13 s14 s15 s16 s17 s18 := by
  refine ⟨?_, fun hn => absurd h hn⟩
  rw [h]
  constructor <;> intro c hc <;> exact absurd hc (Nat.not_lt_zero _)

/-- After a point the invariant holds of the next one. -/
theorem Inv.next {n : ℕ} {K W : Arr} {s13 : Vec Ideal S64x256x128 .fp8e4m3} {s14 : Vec Ideal S64x128x256 .fp8e4m3} {s15 : Vec Ideal S64x256x128 .f32}
    {s16 : Vec Ideal S64x256x128 .f32} {s17 : Vec Ideal S64x8x128 .f32} {s18 : Vec Ideal S8x128 .f32}
    (H : Held (n % 64 + 1) s13 s14 s15 s16 s17 (arow K (bOf n) (hOf n)) (arow W (bOf n) (hOf n)) (fun c => btop fun r => rexp (arow W (bOf n) (hOf n) c r)))
    (hT : ∃ T : ℤ, (∀ a l, s18 (ix2 a l) = (((2 : ℝ) ^ T : ℝ) : EReal)) ∧ (∀ c ≤ n % 64, (btop fun r => rexp (arow W (bOf n) (hOf n) c r)) ≤ T) ∧ -58 ≤ T ∧ T ≤ 42) :
    Inv (n + 1) K W s13 s14 s15 s16 s17 s18 := by
  by_cases h : (n + 1) % 64 = 0
  · exact .start h ..
  · have e : (n + 1) % 64 = n % 64 + 1 := by omega
    have eb : bOf (n + 1) = bOf n := Fin.ext (show (n + 1) / 512 % 4 = n / 512 % 4 by omega)
    have eh : hOf (n + 1) = hOf n := Fin.ext (show (n + 1) / 64 % 8 = n / 64 % 8 by omega)
    refine ⟨?_, fun _ => ?_⟩
    · rw [e, eb, eh]; exact H
    · obtain ⟨T, h1, h2, h3⟩ := hT
      rw [e, eb, eh]
      exact ⟨T, h1, fun c hc => h2 c (by omega), h3⟩

section Point
variable (m : (ℓ : Loc nD τ sig) → Buf (Elt Ideal) ℓ) (c : Dev nD) (t : Fin cfg0.N)
  (s13 : Vec Ideal S64x256x128 .fp8e4m3) (s14 : Vec Ideal S64x128x256 .fp8e4m3) (s15 : Vec Ideal S64x256x128 .f32)
  (s16 : Vec Ideal S64x256x128 .f32) (s17 : Vec Ideal S64x8x128 .f32) (s18 : Vec Ideal S8x128 .f32) (s19 : Vec Ideal S64x256x256 .f32)

/-- The arrays the results are blocks of. -/
def gO : Arr := outArr (aX m c) (aK m c) (aV m c)

variable (hX : AllFit (-117) 117 (aX m c)) (hK : AllFit (-117) 117 (aK m c)) (hV : AllFit (-50) 50 (aV m c))
include hX hK hV

/-- The block of results a point stores, from the exponent it holds. -/
theorem out_point (I : Inv t.val (aK m c) (aV m c) s13 s14 s15 s16 s17 s18) {top : Vec Ideal S8x128 .f32} (hT : ∃ T : ℤ, (∀ a l, top (ix2 a l) = (((2 : ℝ) ^ T : ℝ) : EReal)) ∧ (∀ k ≤ t.val % 64, (btop fun r => rexp (arow (aV m c) (bOf t.val) (hOf t.val) k r)) ≤ T) ∧ -58 ≤ T ∧ T ≤ 42)
    {L : List (View.Piece (Elt Ideal) S1x256x128 .bf16)} (hL : L = [⟨Rect.unit (s := S1x256x128) ![0, 0, 0] S1x256x128.size inb_S1x256x128_S1x256x128_0_0_0, k0_pay1 (blockOut c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) sc13 (Memref.isWhole_whole _) sc14 (Memref.isWhole_whole _) sc15 (Memref.isWhole_whole _) sc16 (Memref.isWhole_whole _) sc17 (Memref.isWhole_whole _) sc18 (Memref.isWhole_whole _) sc19 (Memref.isWhole_whole _) (ld (ms0 t) (hs0 t) (iblk m c 0 t)) (ld (ms1 t) (hs1 t) (iblk m c 1 t)) (ld (ms2 t) (hs2 t) (iblk m c 2 t)) s13 s14 s15 s16 s17 s19 top)⟩]) (f) :
    (ms3 t).view.read (Elt Ideal) ((ms3 t).view.writes (Elt Ideal) f L) = ((cfg0.win 3).blk t).view.read (Elt Ideal) (gO m c) := by
  subst hL
  obtain ⟨T, h1, h2, h3, h4⟩ := hT
  refine (View.read_writes_full _ _ _ _ _).trans (ext3 fun r d => ?_)
  refine ((pay1_at _ r d).trans (blockOut_at (T := T) (Q := arow (aX m c) (bOf t.val) (hOf t.val) (t.val % 64)) (K := arow (aK m c) (bOf t.val) (hOf t.val)) (V := arow (aV m c) (bOf t.val) (hOf t.val))
    (fun r => by rw [ld_eq]; exact brow0 m c t r) (fun r => by rw [ld_eq, co2']; exact brow1 m c t r) (fun r => by rw [ld_eq, co2']; exact brow2 m c t r)
    (fun r => hX _ _ _ r) (fun r => hK _ _ _ r) (fun c _ r => hV _ _ _ r) (by rw [co2']; exact I.held) h1 (by rw [co2']; exact h2) h3 h4 r d)).trans ?_
  rw [co2']
  exact ((rd3 t (gO m c) r d).trans (outArr_at t.val r d (aX m c) (aK m c) (aV m c))).symm

/-- The block a point stores in output 1. -/
theorem out4_point {L : List (View.Piece (Elt Ideal) S1x256x128 .fp8e4m3)} (hL : L = [⟨Rect.unit (s := S1x256x128) ![0, 0, 0] S1x256x128.size inb_S1x256x128_S1x256x128_0_0_0, k0_pay48 (qc (ld (ms0 t) (hs0 t) (iblk m c 0 t)))⟩]) (f) :
    (ms4 t).view.read (Elt Ideal) ((ms4 t).view.writes (Elt Ideal) f L) = ((cfg0.win 4).blk t).view.read (Elt Ideal) (codeArr (aX m c)) := by
  subst hL
  have hb : ∀ r, brow (ld (ms0 t) (hs0 t) (iblk m c 0 t)) r = arow (aX m c) (bOf t.val) (hOf t.val) (t.val % 64) r := fun r => by rw [ld_eq]; exact brow0 m c t r
  exact (View.read_writes_full _ _ _ _ _).trans (ext3 fun r d => ((pay48_at _ r d).trans (qc_at hb (fun r => hX _ _ _ r) r d)).trans ((rd4 t _ r d).trans (codeArr_at t.val r d (aX m c))).symm)

/-- The block a point stores in output 2. -/
theorem out5_point {L : List (View.Piece (Elt Ideal) S1x1x1x1x256 .f32)} (hL : L = [⟨Rect.unit (s := S1x1x1x1x256) ![0, 0, 0, 0, 0] S1x1x1x1x256.size inb_S1x1x1x1x256_S1x1x1x1x256_0_0_0_0_0, k0_pay52 (qs (ld (ms0 t) (hs0 t) (iblk m c 0 t)))⟩]) (f) :
    (ms5 t).view.read (Elt Ideal) ((ms5 t).view.writes (Elt Ideal) f L) = ((cfg0.win 5).blk t).view.read (Elt Ideal) (sclArr (aX m c)) := by
  subst hL
  have hb : ∀ r, brow (ld (ms0 t) (hs0 t) (iblk m c 0 t)) r = arow (aX m c) (bOf t.val) (hOf t.val) (t.val % 64) r := fun r => by rw [ld_eq]; exact brow0 m c t r
  exact (View.read_writes_full _ _ _ _ _).trans (ext5 fun r => ((pay52_at _ r).trans (qs_at hb (fun r => hX _ _ _ r) r 0)).trans (rd5 t (sclArr (aX m c)) r).symm)

/-- The block a point stores in output 3. -/
theorem out6_point {L : List (View.Piece (Elt Ideal) S1x256x128 .fp8e4m3)} (hL : L = [⟨Rect.unit (s := S1x256x128) ![0, 0, 0] S1x256x128.size inb_S1x256x128_S1x256x128_0_0_0, k0_pay49 (kc (ld (ms1 t) (hs1 t) (iblk m c 1 t)))⟩]) (f) :
    (ms6 t).view.read (Elt Ideal) ((ms6 t).view.writes (Elt Ideal) f L) = ((cfg0.win 6).blk t).view.read (Elt Ideal) (codeArr (aK m c)) := by
  subst hL
  have hb : ∀ r, brow (ld (ms1 t) (hs1 t) (iblk m c 1 t)) r = arow (aK m c) (bOf t.val) (hOf t.val) (t.val % 64) r := fun r => by rw [ld_eq]; exact brow1 m c t r
  exact (View.read_writes_full _ _ _ _ _).trans (ext3 fun r d => ((pay49_at _ r d).trans (kc_at hb (fun r => hK _ _ _ r) r d)).trans ((rd6 t _ r d).trans (codeArr_at t.val r d (aK m c))).symm)

/-- The block a point stores in output 4. -/
theorem out7_point {L : List (View.Piece (Elt Ideal) S1x1x1x1x256 .f32)} (hL : L = [⟨Rect.unit (s := S1x1x1x1x256) ![0, 0, 0, 0, 0] S1x1x1x1x256.size inb_S1x1x1x1x256_S1x1x1x1x256_0_0_0_0_0, k0_pay54 (k0_pay53 (ks (ld (ms1 t) (hs1 t) (iblk m c 1 t))))⟩]) (f) :
    (ms7 t).view.read (Elt Ideal) ((ms7 t).view.writes (Elt Ideal) f L) = ((cfg0.win 7).blk t).view.read (Elt Ideal) (sclArr (aK m c)) := by
  subst hL
  have hb : ∀ r, brow (ld (ms1 t) (hs1 t) (iblk m c 1 t)) r = arow (aK m c) (bOf t.val) (hOf t.val) (t.val % 64) r := fun r => by rw [ld_eq]; exact brow1 m c t r
  exact (View.read_writes_full _ _ _ _ _).trans (ext5 fun r => ((pay54_at _ r).trans (ks_at hb (fun r => hK _ _ _ r) r 0)).trans (rd7 t (sclArr (aK m c)) r).symm)

/-- The block a point stores in output 5. -/
theorem out8_point {L : List (View.Piece (Elt Ideal) S1x256x128 .fp8e4m3)} (hL : L = [⟨Rect.unit (s := S1x256x128) ![0, 0, 0] S1x256x128.size inb_S1x256x128_S1x256x128_0_0_0, k0_pay50 (k0_pay42 (ld (ms2 t) (hs2 t) (iblk m c 2 t))) (k0_pay45 (k0_pay43 (ld (ms2 t) (hs2 t) (iblk m c 2 t))) (k0_pay44 (ld (ms2 t) (hs2 t) (iblk m c 2 t)))) 0#32⟩]) (f) :
    (ms8 t).view.read (Elt Ideal) ((ms8 t).view.writes (Elt Ideal) f L) = ((cfg0.win 8).blk t).view.read (Elt Ideal) (codeArr (aV m c)) := by
  subst hL
  have hb : ∀ r, brow (ld (ms2 t) (hs2 t) (iblk m c 2 t)) r = arow (aV m c) (bOf t.val) (hOf t.val) (t.val % 64) r := fun r => by rw [ld_eq]; exact brow2 m c t r
  have fv : ∀ r, Fits (-117) 117 (arow (aV m c) (bOf t.val) (hOf t.val) (t.val % 64) r) := fun r => (hV _ _ _ r).mono (by norm_num) (by norm_num)
  exact (View.read_writes_full _ _ _ _ _).trans (ext3 fun r d => ((pay50_at _ r d).trans (vc_at hb fv r d)).trans ((rd8 t _ r d).trans (codeArr_at t.val r d (aV m c))).symm)

/-- The block a point stores in output 6. -/
theorem out9_point {L : List (View.Piece (Elt Ideal) S1x1x1x1x256 .f32)} (hL : L = [⟨Rect.unit (s := S1x1x1x1x256) ![0, 0, 0, 0, 0] S1x1x1x1x256.size inb_S1x1x1x1x256_S1x1x1x1x256_0_0_0_0_0, k0_pay55 (vs (ld (ms2 t) (hs2 t) (iblk m c 2 t)))⟩]) (f) :
    (ms9 t).view.read (Elt Ideal) ((ms9 t).view.writes (Elt Ideal) f L) = ((cfg0.win 9).blk t).view.read (Elt Ideal) (sclArr (aV m c)) := by
  subst hL
  have hb : ∀ r, brow (ld (ms2 t) (hs2 t) (iblk m c 2 t)) r = arow (aV m c) (bOf t.val) (hOf t.val) (t.val % 64) r := fun r => by rw [ld_eq]; exact brow2 m c t r
  have fv : ∀ r, Fits (-117) 117 (arow (aV m c) (bOf t.val) (hOf t.val) (t.val % 64) r) := fun r => (hV _ _ _ r).mono (by norm_num) (by norm_num)
  exact (View.read_writes_full _ _ _ _ _).trans (ext5 fun r => ((pay55_at _ r).trans (vs_at hb fv r 0)).trans (rd9 t (sclArr (aV m c)) r).symm)

/-- What the scratch holds after a point. -/
theorem inv_point (I : Inv t.val (aK m c) (aV m c) s13 s14 s15 s16 s17 s18) {top : Vec Ideal S8x128 .f32} (hT : ∃ T : ℤ, (∀ a l, top (ix2 a l) = (((2 : ℝ) ^ T : ℝ) : EReal)) ∧ (∀ k ≤ t.val % 64, (btop fun r => rexp (arow (aV m c) (bOf t.val) (hOf t.val) k r)) ≤ T) ∧ -58 ≤ T ∧ T ≤ 42)
    {L13 : List (View.Piece (Elt Ideal) S64x256x128 .fp8e4m3)} (e13 : L13 = P13 (grid0.coords t) (ld (ms1 t) (hs1 t) (iblk m c 1 t)))
    {L14 : List (View.Piece (Elt Ideal) S64x128x256 .fp8e4m3)} (e14 : L14 = P14 (grid0.coords t) (ld (ms2 t) (hs2 t) (iblk m c 2 t)))
    {L15 : List (View.Piece (Elt Ideal) S64x256x128 .f32)} (e15 : L15 = P15 (grid0.coords t) (ld (ms1 t) (hs1 t) (iblk m c 1 t)))
    {L16 : List (View.Piece (Elt Ideal) S64x256x128 .f32)} (e16 : L16 = P16 (grid0.coords t) (ld (ms2 t) (hs2 t) (iblk m c 2 t)))
    {L17 : List (View.Piece (Elt Ideal) S64x8x128 .f32)} (e17 : L17 = P17 (grid0.coords t) (ld (ms2 t) (hs2 t) (iblk m c 2 t)))
    {z : Vec Ideal S8x128 .f32} (hz : z = top) :
    Inv (t.val + 1) (aK m c) (aV m c) (sc13.view.read (Elt Ideal) (sc13.view.writes (Elt Ideal) ((Memref.isWhole_whole cc0_scratch0).unread s13) L13)) (sc14.view.read (Elt Ideal) (sc14.view.writes (Elt Ideal) ((Memref.isWhole_whole cc0_scratch1).unread s14) L14)) (sc15.view.read (Elt Ideal) (sc15.view.writes (Elt Ideal) ((Memref.isWhole_whole cc0_scratch2).unread s15) L15)) (sc16.view.read (Elt Ideal) (sc16.view.writes (Elt Ideal) ((Memref.isWhole_whole cc0_scratch3).unread s16) L16)) (sc17.view.read (Elt Ideal) (sc17.view.writes (Elt Ideal) ((Memref.isWhole_whole cc0_scratch4).unread s17) L17)) z := by
  subst e13 e14 e15 e16 e17 hz
  refine .next ?_ hT
  have H := Held.step (i := grid0.coords t) (sk := ld (ms1 t) (hs1 t) (iblk m c 1 t)) (sv := ld (ms2 t) (hs2 t) (iblk m c 2 t)) (K := arow (aK m c) (bOf t.val) (hOf t.val)) (V := arow (aV m c) (bOf t.val) (hOf t.val))
    (arg13 := sc13) (harg13 := Memref.isWhole_whole _) (s13 := s13) (arg14 := sc14) (harg14 := Memref.isWhole_whole _) (s14 := s14) (arg15 := sc15) (harg15 := Memref.isWhole_whole _) (s15 := s15) (arg16 := sc16) (harg16 := Memref.isWhole_whole _) (s16 := s16) (arg17 := sc17) (harg17 := Memref.isWhole_whole _) (s17 := s17)
    (fun r => by rw [ld_eq, co2']; exact brow1 m c t r) (fun r => by rw [ld_eq, co2']; exact brow2 m c t r)
    (fun r => hK _ _ _ r) (fun r => hV _ _ _ r) (by rw [co2']; exact I.held)
  rw [show (grid0.coords t 2).val + 1 = t.val % 64 + 1 by rw [co2']] at H
  exact H

end Point

end Cert.KernelIdeal.Val

end
-- ==== Proof.KernelIdealInvAt.lean ====
module

public import proofs.«01_k».proof.Proof.KernelIdealInv

@[expose] public section
set_option maxHeartbeats 400000
set_option maxRecDepth 100000
noncomputable section
namespace Cert.KernelIdeal.Val
open Idealize.ShloMosaic Idealize.ShloMosaic.TcCoe Idealize.ShloMosaic.Pointwise
open Cert.KernelIdeal Cert.KernelIdeal.Gen Cert.KernelIdeal.Run Cert.Scales Cert.Lanes Cert.Rows

/-- The exponents a point holds are those it stored. -/
theorem topA_eq {arg5 : Memref sig .tc .vmem S1x256x128 .bf16} {harg5 : arg5.IsWhole} {arg18 : Memref sig .tc .vmem S8x128 .f32} {x5 : Vec Ideal S1x256x128 .bf16} :
    topA arg5 harg5 arg18 x5 = k0_pay64 (k0_pay59 (vs (ld arg5 harg5 x5))) := by
  unfold topA
  rw [View.readCov_full]
theorem topB_eq {arg5 : Memref sig .tc .vmem S1x256x128 .bf16} {harg5 : arg5.IsWhole} {arg18 : Memref sig .tc .vmem S8x128 .f32} {harg18 : arg18.IsWhole} {x5 : Vec Ideal S1x256x128 .bf16}
    {s18 : Vec Ideal S8x128 .f32} : topB arg5 harg5 arg18 harg18 x5 s18 = stB arg5 harg5 arg18 harg18 x5 s18 := by
  unfold topB
  rw [View.readCov_full]

section Point
variable (m : (ℓ : Loc nD τ sig) → Buf (Elt Ideal) ℓ) (c : Dev nD) (t : Fin cfg0.N)
  (s13 : Vec Ideal S64x256x128 .fp8e4m3) (s14 : Vec Ideal S64x128x256 .fp8e4m3) (s15 : Vec Ideal S64x256x128 .f32)
  (s16 : Vec Ideal S64x256x128 .f32) (s17 : Vec Ideal S64x8x128 .f32) (s18 : Vec Ideal S8x128 .f32) (s19 : Vec Ideal S64x256x256 .f32)

/-- The body's run at a point whose block is the first of its head. -/
abbrev atA (h0 : t.val % 64 = 0) := runA (F := Ideal) c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) sc13 (Memref.isWhole_whole _) sc14 (Memref.isWhole_whole _) sc15 (Memref.isWhole_whole _) sc16 (Memref.isWhole_whole _) sc17 (Memref.isWhole_whole _) sc18 (Memref.isWhole_whole _) sc19 (Memref.isWhole_whole _) ((hcond0 t).mpr h0) (fun h => (hcond1 t).mp h h0) (iblk m c 0 t) (iblk m c 1 t) (iblk m c 2 t) s13 s14 s15 s16 s17 s18 s19
/-- The body's run at a point whose block is a later one of its head. -/
abbrev atB (h0 : ¬ t.val % 64 = 0) := runB (F := Ideal) c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) sc13 (Memref.isWhole_whole _) sc14 (Memref.isWhole_whole _) sc15 (Memref.isWhole_whole _) sc16 (Memref.isWhole_whole _) sc17 (Memref.isWhole_whole _) sc18 (Memref.isWhole_whole _) sc19 (Memref.isWhole_whole _) (fun h => h0 ((hcond0 t).mp h)) ((hcond1 t).mpr h0) (iblk m c 0 t) (iblk m c 1 t) (iblk m c 2 t) s13 s14 s15 s16 s17 s18 s19

variable (hX : AllFit (-117) 117 (aX m c)) (hK : AllFit (-117) 117 (aK m c)) (hV : AllFit (-50) 50 (aV m c))
include hX hK hV

/-- The exponent a first point holds after its own block. -/
theorem topA_at (h0 : t.val % 64 = 0) (I : Inv t.val (aK m c) (aV m c) s13 s14 s15 s16 s17 s18) : ∃ T : ℤ, (∀ a l, topA (ms2 t) (hs2 t) sc18 (iblk m c 2 t) (ix2 a l) = (((2 : ℝ) ^ T : ℝ) : EReal))
    ∧ (∀ k ≤ t.val % 64, (btop fun r => rexp (arow (aV m c) (bOf t.val) (hOf t.val) k r)) ≤ T) ∧ -58 ≤ T ∧ T ≤ 42 := by
  have hv : ∀ r, brow (ld (ms2 t) (hs2 t) (iblk m c 2 t)) r = arow (aV m c) (bOf t.val) (hOf t.val) (t.val % 64) r := fun r => by rw [ld_eq]; exact brow2 m c t r
  have hb := btop_bounds (R := arow (aV m c) (bOf t.val) (hOf t.val) (t.val % 64)) (fun r => hV _ _ _ r)
  refine ⟨_, fun a l => ?_, fun k hk => ?_, hb.1, hb.2⟩
  · unfold topA
    rw [View.readCov_full, pay64_at]
    exact p59_at hv (fun r => hV _ _ _ r) a l
  · rw [h0] at hk ⊢; rw [Nat.le_zero.1 hk]

/-- The block of results a first point stores. -/
theorem outA_at (h0 : t.val % 64 = 0) (I : Inv t.val (aK m c) (aV m c) s13 s14 s15 s16 s17 s18) (f) :
    (ms3 t).view.read (Elt Ideal) ((ms3 t).view.writes (Elt Ideal) f (atA m c t s13 s14 s15 s16 s17 s18 s19 h0).1) = ((cfg0.win 3).blk t).view.read (Elt Ideal) (gO m c) :=
  out_point m c t s13 s14 s15 s16 s17 s18 s19 hX hK hV I (topA_at m c t s13 s14 s15 s16 s17 s18 hX hK hV h0 I) (runA_out c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) sc13 (Memref.isWhole_whole _) sc14 (Memref.isWhole_whole _) sc15 (Memref.isWhole_whole _) sc16 (Memref.isWhole_whole _) sc17 (Memref.isWhole_whole _) sc18 (Memref.isWhole_whole _) sc19 (Memref.isWhole_whole _) (iblk m c 0 t) (iblk m c 1 t) (iblk m c 2 t) s13 s14 s15 s16 s17 s18 s19 ((hcond0 t).mpr h0) (fun h => (hcond1 t).mp h h0)) f

/-- The codes and scales a first point stores. -/
theorem codesA_at (h0 : t.val % 64 = 0) :
    (∀ f, (ms4 t).view.read (Elt Ideal) ((ms4 t).view.writes (Elt Ideal) f (atA m c t s13 s14 s15 s16 s17 s18 s19 h0).2.1) = ((cfg0.win 4).blk t).view.read (Elt Ideal) (codeArr (aX m c)))
    ∧ (∀ f, (ms5 t).view.read (Elt Ideal) ((ms5 t).view.writes (Elt Ideal) f (atA m c t s13 s14 s15 s16 s17 s18 s19 h0).2.2.1) = ((cfg0.win 5).blk t).view.read (Elt Ideal) (sclArr (aX m c)))
    ∧ (∀ f, (ms6 t).view.read (Elt Ideal) ((ms6 t).view.writes (Elt Ideal) f (atA m c t s13 s14 s15 s16 s17 s18 s19 h0).2.2.2.1) = ((cfg0.win 6).blk t).view.read (Elt Ideal) (codeArr (aK m c)))
    ∧ (∀ f, (ms7 t).view.read (Elt Ideal) ((ms7 t).view.writes (Elt Ideal) f (atA m c t s13 s14 s15 s16 s17 s18 s19 h0).2.2.2.2.1) = ((cfg0.win 7).blk t).view.read (Elt Ideal) (sclArr (aK m c)))
    ∧ (∀ f, (ms8 t).view.read (Elt Ideal) ((ms8 t).view.writes (Elt Ideal) f (atA m c t s13 s14 s15 s16 s17 s18 s19 h0).2.2.2.2.2.1) = ((cfg0.win 8).blk t).view.read (Elt Ideal) (codeArr (aV m c)))
    ∧ (∀ f, (ms9 t).view.read (Elt Ideal) ((ms9 t).view.writes (Elt Ideal) f (atA m c t s13 s14 s15 s16 s17 s18 s19 h0).2.2.2.2.2.2.1) = ((cfg0.win 9).blk t).view.read (Elt Ideal) (sclArr (aV m c))) :=
  have e := runA_codes c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) sc13 (Memref.isWhole_whole _) sc14 (Memref.isWhole_whole _) sc15 (Memref.isWhole_whole _) sc16 (Memref.isWhole_whole _) sc17 (Memref.isWhole_whole _) sc18 (Memref.isWhole_whole _) sc19 (Memref.isWhole_whole _) (iblk m c 0 t) (iblk m c 1 t) (iblk m c 2 t) s13 s14 s15 s16 s17 s18 s19 ((hcond0 t).mpr h0) (fun h => (hcond1 t).mp h h0)
  ⟨fun f => out4_point m c t hX hK hV e.1 f, fun f => out5_point m c t hX hK hV e.2.1 f, fun f => out6_point m c t hX hK hV e.2.2.1 f, fun f => out7_point m c t hX hK hV e.2.2.2.1 f, fun f => out8_point m c t hX hK hV e.2.2.2.2.1 f, fun f => out9_point m c t hX hK hV e.2.2.2.2.2 f⟩

/-- What the scratch holds after a first point. -/
theorem invA_at (h0 : t.val % 64 = 0) (I : Inv t.val (aK m c) (aV m c) s13 s14 s15 s16 s17 s18) (f) :
    Inv (t.val + 1) (aK m c) (aV m c) (sc13.view.read (Elt Ideal) (sc13.view.writes (Elt Ideal) ((Memref.isWhole_whole cc0_scratch0).unread s13) (atA m c t s13 s14 s15 s16 s17 s18 s19 h0).2.2.2.2.2.2.2.1)) (sc14.view.read (Elt Ideal) (sc14.view.writes (Elt Ideal) ((Memref.isWhole_whole cc0_scratch1).unread s14) (atA m c t s13 s14 s15 s16 s17 s18 s19 h0).2.2.2.2.2.2.2.2.1)) (sc15.view.read (Elt Ideal) (sc15.view.writes (Elt Ideal) ((Memref.isWhole_whole cc0_scratch2).unread s15) (atA m c t s13 s14 s15 s16 s17 s18 s19 h0).2.2.2.2.2.2.2.2.2.1)) (sc16.view.read (Elt Ideal) (sc16.view.writes (Elt Ideal) ((Memref.isWhole_whole cc0_scratch3).unread s16) (atA m c t s13 s14 s15 s16 s17 s18 s19 h0).2.2.2.2.2.2.2.2.2.2.1)) (sc17.view.read (Elt Ideal) (sc17.view.writes (Elt Ideal) ((Memref.isWhole_whole cc0_scratch4).unread s17) (atA m c t s13 s14 s15 s16 s17 s18 s19 h0).2.2.2.2.2.2.2.2.2.2.2.1))
      (sc18.view.read (Elt Ideal) (sc18.view.writes (Elt Ideal) f (atA m c t s13 s14 s15 s16 s17 s18 s19 h0).2.2.2.2.2.2.2.2.2.2.2.2.1)) := by
  have e := runA_scratch c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) sc13 (Memref.isWhole_whole _) sc14 (Memref.isWhole_whole _) sc15 (Memref.isWhole_whole _) sc16 (Memref.isWhole_whole _) sc17 (Memref.isWhole_whole _) sc18 (Memref.isWhole_whole _) sc19 (Memref.isWhole_whole _) (iblk m c 0 t) (iblk m c 1 t) (iblk m c 2 t) s13 s14 s15 s16 s17 s18 s19 ((hcond0 t).mpr h0) (fun h => (hcond1 t).mp h h0)
  have ht : sc18.view.read (Elt Ideal) (sc18.view.writes (Elt Ideal) f (atA m c t s13 s14 s15 s16 s17 s18 s19 h0).2.2.2.2.2.2.2.2.2.2.2.2.1) = topA (ms2 t) (hs2 t) sc18 (iblk m c 2 t) :=
    (congrArg (fun L => sc18.view.read (Elt Ideal) (sc18.view.writes (Elt Ideal) f L)) e.2.2.2.2.2).trans ((View.read_writes_full _ _ _ _ _).trans topA_eq.symm)
  exact inv_point m c t s13 s14 s15 s16 s17 s18 hX hK hV I (topA_at m c t s13 s14 s15 s16 s17 s18 hX hK hV h0 I) e.1 e.2.1 e.2.2.1 e.2.2.2.1 e.2.2.2.2.1 ht

/-- The exponent a later point holds after its own block. -/
theorem topB_at (h0 : ¬ t.val % 64 = 0) (I : Inv t.val (aK m c) (aV m c) s13 s14 s15 s16 s17 s18) : ∃ T : ℤ, (∀ a l, topB (ms2 t) (hs2 t) sc18 (Memref.isWhole_whole _) (iblk m c 2 t) s18 (ix2 a l) = (((2 : ℝ) ^ T : ℝ) : EReal))
    ∧ (∀ k ≤ t.val % 64, (btop fun r => rexp (arow (aV m c) (bOf t.val) (hOf t.val) k r)) ≤ T) ∧ -58 ≤ T ∧ T ≤ 42 := by
  have hv : ∀ r, brow (ld (ms2 t) (hs2 t) (iblk m c 2 t)) r = arow (aV m c) (bOf t.val) (hOf t.val) (t.val % 64) r := fun r => by rw [ld_eq]; exact brow2 m c t r
  have hb := btop_bounds (R := arow (aV m c) (bOf t.val) (hOf t.val) (t.val % 64)) (fun r => hV _ _ _ r)
  obtain ⟨T, h1, h2, h3, h4⟩ := I.top h0
  refine ⟨max T (btop fun r => rexp (arow (aV m c) (bOf t.val) (hOf t.val) (t.val % 64) r)), fun a l => ?_, fun k hk => ?_, by omega, by omega⟩
  · unfold topB
    rw [View.readCov_full]
    unfold stB
    rw [pay65_at, View.readAt_full, p59_at hv (fun r => hV _ _ _ r) a l, Memref.IsWhole.read_unread, h1, max_coe]
    congr 1
    rcases le_total T (btop fun r => rexp (arow (aV m c) (bOf t.val) (hOf t.val) (t.val % 64) r)) with h | h
    · rw [max_eq_right h, max_eq_right ((two_zpow_le_iff _ _).2 h)]
    · rw [max_eq_left h, max_eq_left ((two_zpow_le_iff _ _).2 h)]
  · rcases Nat.lt_or_eq_of_le hk with h | h
    · exact (h2 k h).trans (le_max_left _ _)
    · rw [h]; exact le_max_right _ _

/-- The block of results a later point stores. -/
theorem outB_at (h0 : ¬ t.val % 64 = 0) (I : Inv t.val (aK m c) (aV m c) s13 s14 s15 s16 s17 s18) (f) :
    (ms3 t).view.read (Elt Ideal) ((ms3 t).view.writes (Elt Ideal) f (atB m c t s13 s14 s15 s16 s17 s18 s19 h0).1) = ((cfg0.win 3).blk t).view.read (Elt Ideal) (gO m c) :=
  out_point m c t s13 s14 s15 s16 s17 s18 s19 hX hK hV I (topB_at m c t s13 s14 s15 s16 s17 s18 hX hK hV h0 I) (runB_out c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) sc13 (Memref.isWhole_whole _) sc14 (Memref.isWhole_whole _) sc15 (Memref.isWhole_whole _) sc16 (Memref.isWhole_whole _) sc17 (Memref.isWhole_whole _) sc18 (Memref.isWhole_whole _) sc19 (Memref.isWhole_whole _) (iblk m c 0 t) (iblk m c 1 t) (iblk m c 2 t) s13 s14 s15 s16 s17 s18 s19 (fun h => h0 ((hcond0 t).mp h)) ((hcond1 t).mpr h0)) f

/-- The codes and scales a later point stores. -/
theorem codesB_at (h0 : ¬ t.val % 64 = 0) :
    (∀ f, (ms4 t).view.read (Elt Ideal) ((ms4 t).view.writes (Elt Ideal) f (atB m c t s13 s14 s15 s16 s17 s18 s19 h0).2.1) = ((cfg0.win 4).blk t).view.read (Elt Ideal) (codeArr (aX m c)))
    ∧ (∀ f, (ms5 t).view.read (Elt Ideal) ((ms5 t).view.writes (Elt Ideal) f (atB m c t s13 s14 s15 s16 s17 s18 s19 h0).2.2.1) = ((cfg0.win 5).blk t).view.read (Elt Ideal) (sclArr (aX m c)))
    ∧ (∀ f, (ms6 t).view.read (Elt Ideal) ((ms6 t).view.writes (Elt Ideal) f (atB m c t s13 s14 s15 s16 s17 s18 s19 h0).2.2.2.1) = ((cfg0.win 6).blk t).view.read (Elt Ideal) (codeArr (aK m c)))
    ∧ (∀ f, (ms7 t).view.read (Elt Ideal) ((ms7 t).view.writes (Elt Ideal) f (atB m c t s13 s14 s15 s16 s17 s18 s19 h0).2.2.2.2.1) = ((cfg0.win 7).blk t).view.read (Elt Ideal) (sclArr (aK m c)))
    ∧ (∀ f, (ms8 t).view.read (Elt Ideal) ((ms8 t).view.writes (Elt Ideal) f (atB m c t s13 s14 s15 s16 s17 s18 s19 h0).2.2.2.2.2.1) = ((cfg0.win 8).blk t).view.read (Elt Ideal) (codeArr (aV m c)))
    ∧ (∀ f, (ms9 t).view.read (Elt Ideal) ((ms9 t).view.writes (Elt Ideal) f (atB m c t s13 s14 s15 s16 s17 s18 s19 h0).2.2.2.2.2.2.1) = ((cfg0.win 9).blk t).view.read (Elt Ideal) (sclArr (aV m c))) :=
  have e := runB_codes c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) sc13 (Memref.isWhole_whole _) sc14 (Memref.isWhole_whole _) sc15 (Memref.isWhole_whole _) sc16 (Memref.isWhole_whole _) sc17 (Memref.isWhole_whole _) sc18 (Memref.isWhole_whole _) sc19 (Memref.isWhole_whole _) (iblk m c 0 t) (iblk m c 1 t) (iblk m c 2 t) s13 s14 s15 s16 s17 s18 s19 (fun h => h0 ((hcond0 t).mp h)) ((hcond1 t).mpr h0)
  ⟨fun f => out4_point m c t hX hK hV e.1 f, fun f => out5_point m c t hX hK hV e.2.1 f, fun f => out6_point m c t hX hK hV e.2.2.1 f, fun f => out7_point m c t hX hK hV e.2.2.2.1 f, fun f => out8_point m c t hX hK hV e.2.2.2.2.1 f, fun f => out9_point m c t hX hK hV e.2.2.2.2.2 f⟩

/-- What the scratch holds after a later point. -/
theorem invB_at (h0 : ¬ t.val % 64 = 0) (I : Inv t.val (aK m c) (aV m c) s13 s14 s15 s16 s17 s18) (f) :
    Inv (t.val + 1) (aK m c) (aV m c) (sc13.view.read (Elt Ideal) (sc13.view.writes (Elt Ideal) ((Memref.isWhole_whole cc0_scratch0).unread s13) (atB m c t s13 s14 s15 s16 s17 s18 s19 h0).2.2.2.2.2.2.2.1)) (sc14.view.read (Elt Ideal) (sc14.view.writes (Elt Ideal) ((Memref.isWhole_whole cc0_scratch1).unread s14) (atB m c t s13 s14 s15 s16 s17 s18 s19 h0).2.2.2.2.2.2.2.2.1)) (sc15.view.read (Elt Ideal) (sc15.view.writes (Elt Ideal) ((Memref.isWhole_whole cc0_scratch2).unread s15) (atB m c t s13 s14 s15 s16 s17 s18 s19 h0).2.2.2.2.2.2.2.2.2.1)) (sc16.view.read (Elt Ideal) (sc16.view.writes (Elt Ideal) ((Memref.isWhole_whole cc0_scratch3).unread s16) (atB m c t s13 s14 s15 s16 s17 s18 s19 h0).2.2.2.2.2.2.2.2.2.2.1)) (sc17.view.read (Elt Ideal) (sc17.view.writes (Elt Ideal) ((Memref.isWhole_whole cc0_scratch4).unread s17) (atB m c t s13 s14 s15 s16 s17 s18 s19 h0).2.2.2.2.2.2.2.2.2.2.2.1))
      (sc18.view.read (Elt Ideal) (sc18.view.writes (Elt Ideal) f (atB m c t s13 s14 s15 s16 s17 s18 s19 h0).2.2.2.2.2.2.2.2.2.2.2.2.1)) := by
  have e := runB_scratch c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) sc13 (Memref.isWhole_whole _) sc14 (Memref.isWhole_whole _) sc15 (Memref.isWhole_whole _) sc16 (Memref.isWhole_whole _) sc17 (Memref.isWhole_whole _) sc18 (Memref.isWhole_whole _) sc19 (Memref.isWhole_whole _) (iblk m c 0 t) (iblk m c 1 t) (iblk m c 2 t) s13 s14 s15 s16 s17 s18 s19 (fun h => h0 ((hcond0 t).mp h)) ((hcond1 t).mpr h0)
  have ht : sc18.view.read (Elt Ideal) (sc18.view.writes (Elt Ideal) f (atB m c t s13 s14 s15 s16 s17 s18 s19 h0).2.2.2.2.2.2.2.2.2.2.2.2.1) = topB (ms2 t) (hs2 t) sc18 (Memref.isWhole_whole _) (iblk m c 2 t) s18 :=
    (congrArg (fun L => sc18.view.read (Elt Ideal) (sc18.view.writes (Elt Ideal) f L)) e.2.2.2.2.2).trans ((View.read_writes_full _ _ _ _ _).trans topB_eq.symm)
  exact inv_point m c t s13 s14 s15 s16 s17 s18 hX hK hV I (topB_at m c t s13 s14 s15 s16 s17 s18 hX hK hV h0 I) e.1 e.2.1 e.2.2.1 e.2.2.2.1 e.2.2.2.2.1 ht

end Point

end Cert.KernelIdeal.Val

end
-- ==== Proof.KernelIdealValue.lean ====
module

public import proofs.«01_k».proof.Proof.KernelIdealInvAt
public import Idealize.ShloMosaic.Lib.Claim

@[expose] public section

set_option maxRecDepth 16384

noncomputable section

namespace Cert.KernelIdeal.Val

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.Run Cert.Rows

local notation "𝕄" => MT nD τ sig Unit (Elt Ideal) ℕ (UR sig nD τ) ℕ

variable (m : (ℓ : Loc nD τ sig) → Buf (Elt Ideal) ℓ) (ρ : Dev nD → PrngReg)

/-- The scratch before point `n`: what the invariant says of it. The last buffer holds anything. -/
def heldAt (c : Dev nD) (n : ℕ) : sProp 𝕄 :=
  iprop((∃ s13 s14 s15 s16 s17 s18, ⌜Inv n (aK m c) (aV m c) s13 s14 s15 s16 s17 s18⌝ ∗ owns (c : Thread nD τ) sc13 fullShare s13 ∗ owns (c : Thread nD τ) sc14 fullShare s14 ∗ owns (c : Thread nD τ) sc15 fullShare s15 ∗ owns (c : Thread nD τ) sc16 fullShare s16 ∗ owns (c : Thread nD τ) sc17 fullShare s17 ∗ owns (c : Thread nD τ) sc18 fullShare s18)
    ∗ (∃ s19, owns (c : Thread nD τ) sc19 fullShare s19) ∗ (∃ r, prngReg c r))

/-- The proof data of the pipeline: each input's buffer keeps its block, each output's holds its block of the named array. -/
def datsV (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => ((cfg0.win 3).blk t).view.read (Elt Ideal) (gO m c)
    | ⟨4, _⟩ => ((cfg0.win 4).blk t).view.read (Elt Ideal) (codeArr (aX m c))
    | ⟨5, _⟩ => ((cfg0.win 5).blk t).view.read (Elt Ideal) (sclArr (aX m c))
    | ⟨6, _⟩ => ((cfg0.win 6).blk t).view.read (Elt Ideal) (codeArr (aK m c))
    | ⟨7, _⟩ => ((cfg0.win 7).blk t).view.read (Elt Ideal) (sclArr (aK m c))
    | ⟨8, _⟩ => ((cfg0.win 8).blk t).view.read (Elt Ideal) (codeArr (aV m c))
    | ⟨9, _⟩ => ((cfg0.win 9).blk t).view.read (Elt Ideal) (sclArr (aV m c))
  Φ t := heldAt m c t.val
  q _ := fullShare
  owed _ := 0

theorem A_eqV (c : Dev nD) (w : Fin cfg0.W) : (datsV m 0 c).A w = V m c (Pipeline.arrRef spec0 w) := by
  dsimp only [datsV]

theorem afterV_0 (c : Dev nD) (t : Fin cfg0.N) : (datsV m 0 c).after 0 t = iblk m c 0 t := by dsimp only [datsV]
theorem beforeV_0 (c : Dev nD) (t : Fin cfg0.N) (d) : (datsV m 0 c).before 0 t d = iblk m c 0 t :=
  before0_0_of m (datsV m 0 c) (A_eqV m c 0) (afterV_0 m c) t d
theorem afterV_1 (c : Dev nD) (t : Fin cfg0.N) : (datsV m 0 c).after 1 t = iblk m c 1 t := by dsimp only [datsV]
theorem beforeV_1 (c : Dev nD) (t : Fin cfg0.N) (d) : (datsV m 0 c).before 1 t d = iblk m c 1 t :=
  before0_1_of m (datsV m 0 c) (A_eqV m c 1) (afterV_1 m c) t d
theorem afterV_2 (c : Dev nD) (t : Fin cfg0.N) : (datsV m 0 c).after 2 t = iblk m c 2 t := by dsimp only [datsV]
theorem beforeV_2 (c : Dev nD) (t : Fin cfg0.N) (d) : (datsV m 0 c).before 2 t d = iblk m c 2 t :=
  before0_2_of m (datsV m 0 c) (A_eqV m c 2) (afterV_2 m c) t d
theorem afterV_3 (c : Dev nD) (t : Fin cfg0.N) : (datsV m 0 c).after 3 t = ((cfg0.win 3).blk t).view.read (Elt Ideal) (gO m c) := by dsimp only [datsV]
theorem afterV_4 (c : Dev nD) (t : Fin cfg0.N) : (datsV m 0 c).after 4 t = ((cfg0.win 4).blk t).view.read (Elt Ideal) (codeArr (aX m c)) := by dsimp only [datsV]
theorem afterV_5 (c : Dev nD) (t : Fin cfg0.N) : (datsV m 0 c).after 5 t = ((cfg0.win 5).blk t).view.read (Elt Ideal) (sclArr (aX m c)) := by dsimp only [datsV]
theorem afterV_6 (c : Dev nD) (t : Fin cfg0.N) : (datsV m 0 c).after 6 t = ((cfg0.win 6).blk t).view.read (Elt Ideal) (codeArr (aK m c)) := by dsimp only [datsV]
theorem afterV_7 (c : Dev nD) (t : Fin cfg0.N) : (datsV m 0 c).after 7 t = ((cfg0.win 7).blk t).view.read (Elt Ideal) (sclArr (aK m c)) := by dsimp only [datsV]
theorem afterV_8 (c : Dev nD) (t : Fin cfg0.N) : (datsV m 0 c).after 8 t = ((cfg0.win 8).blk t).view.read (Elt Ideal) (codeArr (aV m c)) := by dsimp only [datsV]
theorem afterV_9 (c : Dev nD) (t : Fin cfg0.N) : (datsV m 0 c).after 9 t = ((cfg0.win 9).blk t).view.read (Elt Ideal) (sclArr (aV m c)) := by dsimp only [datsV]

/-- What the body is called with at a point, window by window. -/
def bodyPreV (c : Dev nD) (t : Fin cfg0.N) : sProp 𝕄 :=
  iprop((datsV m 0 c).Φ t.castSucc ∗ (datsV m 0 c).owesAt () t.castSucc
    ∗ (∃ d, owns (c : Thread nD τ) (ms0 t) fullShare ((datsV m 0 c).before 0 t d)) ∗ (∃ d, owns (c : Thread nD τ) (ms1 t) fullShare ((datsV m 0 c).before 1 t d)) ∗ (∃ d, owns (c : Thread nD τ) (ms2 t) fullShare ((datsV m 0 c).before 2 t d)) ∗ (∃ d, owns (c : Thread nD τ) (ms3 t) fullShare ((datsV m 0 c).before 3 t d)) ∗ (∃ d, owns (c : Thread nD τ) (ms4 t) fullShare ((datsV m 0 c).before 4 t d)) ∗ (∃ d, owns (c : Thread nD τ) (ms5 t) fullShare ((datsV m 0 c).before 5 t d)) ∗ (∃ d, owns (c : Thread nD τ) (ms6 t) fullShare ((datsV m 0 c).before 6 t d)) ∗ (∃ d, owns (c : Thread nD τ) (ms7 t) fullShare ((datsV m 0 c).before 7 t d)) ∗ (∃ d, owns (c : Thread nD τ) (ms8 t) fullShare ((datsV m 0 c).before 8 t d)) ∗ (∃ d, owns (c : Thread nD τ) (ms9 t) fullShare ((datsV m 0 c).before 9 t d)))

/-- What the body returns at a point, window by window. -/
def bodyPostV (c : Dev nD) (t : Fin cfg0.N) : sProp 𝕄 :=
  iprop((datsV m 0 c).Φ t.succ ∗ (datsV m 0 c).owesAt () t.succ
    ∗ owns (c : Thread nD τ) (ms0 t) fullShare ((datsV m 0 c).after 0 t) ∗ owns (c : Thread nD τ) (ms1 t) fullShare ((datsV m 0 c).after 1 t) ∗ owns (c : Thread nD τ) (ms2 t) fullShare ((datsV m 0 c).after 2 t) ∗ owns (c : Thread nD τ) (ms3 t) fullShare ((datsV m 0 c).after 3 t) ∗ owns (c : Thread nD τ) (ms4 t) fullShare ((datsV m 0 c).after 4 t) ∗ owns (c : Thread nD τ) (ms5 t) fullShare ((datsV m 0 c).after 5 t) ∗ owns (c : Thread nD τ) (ms6 t) fullShare ((datsV m 0 c).after 6 t) ∗ owns (c : Thread nD τ) (ms7 t) fullShare ((datsV m 0 c).after 7 t) ∗ owns (c : Thread nD τ) (ms8 t) fullShare ((datsV m 0 c).after 8 t) ∗ owns (c : Thread nD τ) (ms9 t) fullShare ((datsV m 0 c).after 9 t))

/-- A buffer whose contents read as a value is owned at that value. -/
theorem own_stored (c : Dev nD) {s : Shape} {e : EltTy} (M : Memref sig .tc .vmem s e) (f : BufTy.Contents (Elt Ideal) M.view.ty) (d) (h : M.view.read (Elt Ideal) f = d) :
    (M.view.loc (c : Thread nD τ) ↦[M.view.set]{fullShare} f : sProp 𝕄) ⊢ owns (c : Thread nD τ) M fullShare d := by
  iintro H
  unfold owns; iexists _; isplitr
  swap; · iexact H
  ipureintro; exact h

section
variable (hX : ∀ c, AllFit (-117) 117 (aX m c)) (hK : ∀ c, AllFit (-117) 117 (aK m c)) (hV : ∀ c, AllFit (-50) 50 (aV m c))
include hX hK hV

set_option maxHeartbeats 3200000 in
/-- The body at a first point runs from what it is called with to what it returns. -/
theorem sound_bodyA (c : Dev nD) (t : Fin cfg0.N) (h0 : t.val % 64 = 0) :
    bodyPreV m c t ⊢ wp frame (wpE (defs₀ (F := Ideal)) Variants.none c none) Set.univ (bodyAt0 t) (fun _ => bodyPostV m c t) := by
  unfold bodyPreV bodyPostV bodyAt0
  simp only [beforeV_0, beforeV_1, beforeV_2]
  rw [show (datsV m 0 c).owesAt () t.succ = (datsV m 0 c).owesAt () t.castSucc from rfl, afterV_0, afterV_1, afterV_2, afterV_3, afterV_4, afterV_5, afterV_6, afterV_7, afterV_8, afterV_9,
    show (datsV m 0 c).Φ t.succ = heldAt m c (t.val + 1) from rfl, show (datsV m 0 c).Φ t.castSucc = heldAt m c t.val from rfl]
  unfold heldAt
  iintro ⟨⟨⟨%s13, %s14, %s15, %s16, %s17, %s18, %I, S13, S14, S15, S16, S17, S18⟩, ⟨%s19, S19⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  obtain ⟨e4, e5, e6, e7, e8, e9⟩ := codesA_at m c t s13 s14 s15 s16 s17 s18 s19 (hX c) (hK c) (hV c) h0
  have eO := outA_at m c t s13 s14 s15 s16 s17 s18 s19 (hX c) (hK c) (hV c) h0 I
  have eI := invA_at m c t s13 s14 s15 s16 s17 s18 s19 (hX c) (hK c) (hV c) h0 I
  iapply ((atA m c t s13 s14 s15 s16 s17 s18 s19 h0).2.2.2.2.2.2.2.2.2.2.2.2.2.2 Set.univ _)
  isplitl [H0]; · iexact H0
  isplitl [H1]; · iexact H1
  isplitl [H2]; · iexact H2
  isplitl [H3]; · iexists _; iexact H3
  isplitl [H4]; · iexists _; iexact H4
  isplitl [H5]; · iexists _; iexact H5
  isplitl [H6]; · iexists _; iexact H6
  isplitl [H7]; · iexists _; iexact H7
  isplitl [H8]; · iexists _; iexact H8
  isplitl [H9]; · iexists _; iexact H9
  isplitl [S13]; · iexact S13
  isplitl [S14]; · iexact S14
  isplitl [S15]; · iexact S15
  isplitl [S16]; · iexact S16
  isplitl [S17]; · iexact S17
  isplitl [S18]; · iexact S18
  isplitl [S19]; · iexact S19
  iintro ⟨H0, H1, H2, ⟨%f3, H3⟩, ⟨%f4, H4⟩, ⟨%f5, H5⟩, ⟨%f6, H6⟩, ⟨%f7, H7⟩, ⟨%f8, H8⟩, ⟨%f9, H9⟩, S13, S14, S15, S16, S17, ⟨%f18, S18⟩, S19⟩
  isplitl [S13 S14 S15 S16 S17 S18 S19 Hg]
  · isplitl [S13 S14 S15 S16 S17 S18]
    · iexists _; iexists _; iexists _; iexists _; iexists _; iexists _
      isplitr
      · ipureintro; exact eI f18
      isplitl [S13]; · iapply (own_stored c sc13 _ _ rfl); iexact S13
      isplitl [S14]; · iapply (own_stored c sc14 _ _ rfl); iexact S14
      isplitl [S15]; · iapply (own_stored c sc15 _ _ rfl); iexact S15
      isplitl [S16]; · iapply (own_stored c sc16 _ _ rfl); iexact S16
      isplitl [S17]; · iapply (own_stored c sc17 _ _ rfl); iexact S17
      iapply (own_stored c sc18 _ _ rfl); iexact S18
    isplitl [S19]; · iapply (own_some c sc19 _); iexact S19
    iexact Hg
  isplitl [Ho]; · iexact Ho
  isplitl [H0]; · iexact H0
  isplitl [H1]; · iexact H1
  isplitl [H2]; · iexact H2
  isplitl [H3]; · iapply (own_stored c (ms3 t) _ _ (eO f3)); iexact H3
  isplitl [H4]; · iapply (own_stored c (ms4 t) _ _ (e4 f4)); iexact H4
  isplitl [H5]; · iapply (own_stored c (ms5 t) _ _ (e5 f5)); iexact H5
  isplitl [H6]; · iapply (own_stored c (ms6 t) _ _ (e6 f6)); iexact H6
  isplitl [H7]; · iapply (own_stored c (ms7 t) _ _ (e7 f7)); iexact H7
  isplitl [H8]; · iapply (own_stored c (ms8 t) _ _ (e8 f8)); iexact H8
  iapply (own_stored c (ms9 t) _ _ (e9 f9)); iexact H9

set_option maxHeartbeats 3200000 in
/-- The body at a later point runs from what it is called with to what it returns. -/
theorem sound_bodyB (c : Dev nD) (t : Fin cfg0.N) (h0 : ¬ t.val % 64 = 0) :
    bodyPreV m c t ⊢ wp frame (wpE (defs₀ (F := Ideal)) Variants.none c none) Set.univ (bodyAt0 t) (fun _ => bodyPostV m c t) := by
  unfold bodyPreV bodyPostV bodyAt0
  simp only [beforeV_0, beforeV_1, beforeV_2]
  rw [show (datsV m 0 c).owesAt () t.succ = (datsV m 0 c).owesAt () t.castSucc from rfl, afterV_0, afterV_1, afterV_2, afterV_3, afterV_4, afterV_5, afterV_6, afterV_7, afterV_8, afterV_9,
    show (datsV m 0 c).Φ t.succ = heldAt m c (t.val + 1) from rfl, show (datsV m 0 c).Φ t.castSucc = heldAt m c t.val from rfl]
  unfold heldAt
  iintro ⟨⟨⟨%s13, %s14, %s15, %s16, %s17, %s18, %I, S13, S14, S15, S16, S17, S18⟩, ⟨%s19, S19⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  obtain ⟨e4, e5, e6, e7, e8, e9⟩ := codesB_at m c t s13 s14 s15 s16 s17 s18 s19 (hX c) (hK c) (hV c) h0
  have eO := outB_at m c t s13 s14 s15 s16 s17 s18 s19 (hX c) (hK c) (hV c) h0 I
  have eI := invB_at m c t s13 s14 s15 s16 s17 s18 s19 (hX c) (hK c) (hV c) h0 I
  iapply ((atB m c t s13 s14 s15 s16 s17 s18 s19 h0).2.2.2.2.2.2.2.2.2.2.2.2.2.2 Set.univ _)
  isplitl [H0]; · iexact H0
  isplitl [H1]; · iexact H1
  isplitl [H2]; · iexact H2
  isplitl [H3]; · iexists _; iexact H3
  isplitl [H4]; · iexists _; iexact H4
  isplitl [H5]; · iexists _; iexact H5
  isplitl [H6]; · iexists _; iexact H6
  isplitl [H7]; · iexists _; iexact H7
  isplitl [H8]; · iexists _; iexact H8
  isplitl [H9]; · iexists _; iexact H9
  isplitl [S13]; · iexact S13
  isplitl [S14]; · iexact S14
  isplitl [S15]; · iexact S15
  isplitl [S16]; · iexact S16
  isplitl [S17]; · iexact S17
  isplitl [S18]; · iexact S18
  isplitl [S19]; · iexact S19
  iintro ⟨H0, H1, H2, ⟨%f3, H3⟩, ⟨%f4, H4⟩, ⟨%f5, H5⟩, ⟨%f6, H6⟩, ⟨%f7, H7⟩, ⟨%f8, H8⟩, ⟨%f9, H9⟩, S13, S14, S15, S16, S17, ⟨%f18, S18⟩, S19⟩
  isplitl [S13 S14 S15 S16 S17 S18 S19 Hg]
  · isplitl [S13 S14 S15 S16 S17 S18]
    · iexists _; iexists _; iexists _; iexists _; iexists _; iexists _
      isplitr
      · ipureintro; exact eI f18
      isplitl [S13]; · iapply (own_stored c sc13 _ _ rfl); iexact S13
      isplitl [S14]; · iapply (own_stored c sc14 _ _ rfl); iexact S14
      isplitl [S15]; · iapply (own_stored c sc15 _ _ rfl); iexact S15
      isplitl [S16]; · iapply (own_stored c sc16 _ _ rfl); iexact S16
      isplitl [S17]; · iapply (own_stored c sc17 _ _ rfl); iexact S17
      iapply (own_stored c sc18 _ _ rfl); iexact S18
    isplitl [S19]; · iapply (own_some c sc19 _); iexact S19
    iexact Hg
  isplitl [Ho]; · iexact Ho
  isplitl [H0]; · iexact H0
  isplitl [H1]; · iexact H1
  isplitl [H2]; · iexact H2
  isplitl [H3]; · iapply (own_stored c (ms3 t) _ _ (eO f3)); iexact H3
  isplitl [H4]; · iapply (own_stored c (ms4 t) _ _ (e4 f4)); iexact H4
  isplitl [H5]; · iapply (own_stored c (ms5 t) _ _ (e5 f5)); iexact H5
  isplitl [H6]; · iapply (own_stored c (ms6 t) _ _ (e6 f6)); iexact H6
  isplitl [H7]; · iapply (own_stored c (ms7 t) _ _ (e7 f7)); iexact H7
  isplitl [H8]; · iapply (own_stored c (ms8 t) _ _ (e8 f8)); iexact H8
  iapply (own_stored c (ms9 t) _ _ (e9 f9)); iexact H9

/-- The pipeline's obligation on its body, at every point. -/
theorem body_obligationV (c : Dev nD) : BodyObligation (datsV m 0 c) (defs₀ (F := Ideal)) Variants.none () Set.univ := fun t => by
  rw [bigSep_W0, bigSep_W0, defs₀_row]
  by_cases h0 : t.val % 64 = 0
  · exact triple_restated (sound_bodyA m hX hK hV c t h0) rfl .rfl fun _ => .rfl
  · exact triple_restated (sound_bodyB m hX hK hV c t h0) rfl .rfl fun _ => .rfl

omit hX hK hV in
/-- Before the first point the invariant holds whatever the scratch holds. -/
theorem heldAt_zero (c : Dev nD) : Pipeline.ΦA spec0 c ⊢ heldAt m c 0 := by
  rw [PhiA0_eq]; unfold heldAt
  iintro ⟨⟨⟨%s13, S13⟩, ⟨%s14, S14⟩, ⟨%s15, S15⟩, ⟨%s16, S16⟩, ⟨%s17, S17⟩, ⟨%s18, S18⟩, S19⟩, Hg⟩
  isplitl [S13 S14 S15 S16 S17 S18]
  · iexists s13; iexists s14; iexists s15; iexists s16; iexists s17; iexists s18
    isplitr
    · ipureintro; exact Inv.start rfl ..
    isplitl [S13]; · iexact S13
    isplitl [S14]; · iexact S14
    isplitl [S15]; · iexact S15
    isplitl [S16]; · iexact S16
    isplitl [S17]; · iexact S17
    iexact S18
  isplitl [S19]; · iexact S19
  iexact Hg

omit hX hK hV in
/-- After the last point the scratch may be forgotten. -/
theorem heldAt_last (c : Dev nD) (n : ℕ) : heldAt m c n ⊢ Pipeline.ΦA spec0 c := by
  rw [PhiA0_eq]; unfold heldAt
  iintro ⟨⟨%s13, %s14, %s15, %s16, %s17, %s18, %I, S13, S14, S15, S16, S17, S18⟩, S19, Hg⟩
  isplitl [S13 S14 S15 S16 S17 S18 S19]
  · isplitl [S13]; · iexists _; iexact S13
    isplitl [S14]; · iexists _; iexact S14
    isplitl [S15]; · iexists _; iexact S15
    isplitl [S16]; · iexists _; iexact S16
    isplitl [S17]; · iexists _; iexact S17
    isplitl [S18]; · iexists _; iexact S18
    iexact S19
  iexact Hg

set_option backward.isDefEq.respectTransparency.types false in
/-- The whole program terminates with every array as the pipeline leaves it. -/
theorem run_mainV : θ_run defs (onTc (τ := τ) (main (F := Ideal))) (s₀ m ρ) (fun r => Pipeline.FramePost cfgs (datsV m) (0 : Fin 1) (V m) r) :=
  Pipeline.θ_run_frame_track (Q' := _) cfgs (datsV m) (0 : Fin 1) launch0 defs₀ Variants.none m ρ main
    (hbody := fun c => (body_obligationV m hX hK hV c).loose) (hshare := fun c => (datsV m 0 c).share_full fun _ => rfl)
    (howed := fun _ _ => rfl) (V := V m) (hmain := hmain m Variants.none) (hA := A_eqV m) (hin := fun c => heldAt_zero m c) (hout := fun c => heldAt_last m c _)

/-! The final contents of each output array: every block of it is written once, from the named array. -/

omit hX hK hV in
theorem final_3 (c : Dev nD) : (datsV m 0 c).arrAt 3 cfg0.N = gO m c :=
  (datsV m 0 c).arrAt_eq_of_cover 3 (gO m c) (fun t _ => by
    show (cfg0.win 3).cut (grid0.coords t) ((datsV m 0 c).after 3 t) = _
    rw [afterV_3]) cover3

omit hX hK hV in
theorem final_4 (c : Dev nD) : (datsV m 0 c).arrAt 4 cfg0.N = codeArr (aX m c) :=
  (datsV m 0 c).arrAt_eq_of_cover 4 (codeArr (aX m c)) (fun t _ => by
    show (cfg0.win 4).cut (grid0.coords t) ((datsV m 0 c).after 4 t) = _
    rw [afterV_4]) cover4

omit hX hK hV in
theorem final_5 (c : Dev nD) : (datsV m 0 c).arrAt 5 cfg0.N = sclArr (aX m c) :=
  (datsV m 0 c).arrAt_eq_of_cover 5 (sclArr (aX m c)) (fun t _ => by
    show (cfg0.win 5).cut (grid0.coords t) ((datsV m 0 c).after 5 t) = _
    rw [afterV_5]) cover5

omit hX hK hV in
theorem final_6 (c : Dev nD) : (datsV m 0 c).arrAt 6 cfg0.N = codeArr (aK m c) :=
  (datsV m 0 c).arrAt_eq_of_cover 6 (codeArr (aK m c)) (fun t _ => by
    show (cfg0.win 6).cut (grid0.coords t) ((datsV m 0 c).after 6 t) = _
    rw [afterV_6]) cover6

omit hX hK hV in
theorem final_7 (c : Dev nD) : (datsV m 0 c).arrAt 7 cfg0.N = sclArr (aK m c) :=
  (datsV m 0 c).arrAt_eq_of_cover 7 (sclArr (aK m c)) (fun t _ => by
    show (cfg0.win 7).cut (grid0.coords t) ((datsV m 0 c).after 7 t) = _
    rw [afterV_7]) cover7

omit hX hK hV in
theorem final_8 (c : Dev nD) : (datsV m 0 c).arrAt 8 cfg0.N = codeArr (aV m c) :=
  (datsV m 0 c).arrAt_eq_of_cover 8 (codeArr (aV m c)) (fun t _ => by
    show (cfg0.win 8).cut (grid0.coords t) ((datsV m 0 c).after 8 t) = _
    rw [afterV_8]) cover8

omit hX hK hV in
theorem final_9 (c : Dev nD) : (datsV m 0 c).arrAt 9 cfg0.N = sclArr (aV m c) :=
  (datsV m 0 c).arrAt_eq_of_cover 9 (sclArr (aV m c)) (fun t _ => by
    show (cfg0.win 9).cut (grid0.coords t) ((datsV m 0 c).after 9 t) = _
    rw [afterV_9]) cover9

/-- What the whole program leaves: the seven results as the named arrays, the arguments as they were. -/
theorem run_value : θ_run defs (onTc (τ := τ) (main (F := Ideal))) ⟨m, fun _ => 0, ρ⟩ (fun r => ∀ c : Dev nD,
      r.2.mem ((c.tc : Thread nD τ).loc main_v0_0) = gO m c
      ∧ r.2.mem ((c.tc : Thread nD τ).loc main_v0_1) = codeArr (aX m c)
      ∧ r.2.mem ((c.tc : Thread nD τ).loc main_v0_2) = sclArr (aX m c)
      ∧ r.2.mem ((c.tc : Thread nD τ).loc main_v0_3) = codeArr (aK m c)
      ∧ r.2.mem ((c.tc : Thread nD τ).loc main_v0_4) = sclArr (aK m c)
      ∧ r.2.mem ((c.tc : Thread nD τ).loc main_v0_5) = codeArr (aV m c)
      ∧ r.2.mem ((c.tc : Thread nD τ).loc main_v0_6) = sclArr (aV m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).1 3).trans (final_3 m c), ((h c).1 4).trans (final_4 m c), ((h c).1 5).trans (final_5 m c), ((h c).1 6).trans (final_6 m c), ((h c).1 7).trans (final_7 m c), ((h c).1 8).trans (final_8 m c), ((h c).1 9).trans (final_9 m c),
      ((h c).1 0).trans (((datsV m 0 c).arrAt_in 0 rfl _).trans ((A_eqV m c 0).trans (V_main_arg0 m c))), ((h c).1 1).trans (((datsV m 0 c).arrAt_in 1 rfl _).trans ((A_eqV m c 1).trans (V_main_arg1 m c))), ((h c).1 2).trans (((datsV m 0 c).arrAt_in 2 rfl _).trans ((A_eqV m c 2).trans (V_main_arg2 m c)))⟩) (run_mainV m ρ hX hK hV)

end

end Cert.KernelIdeal.Val

end
-- ==== Proof.RefValue.lean ====
module

public import proofs.«01_k».proof.Proof.Gen.ReferenceIdeal.Run
public import proofs.«01_k».proof.Proof.Gen.ReferenceIdeal.Read

@[expose] public section
-- ==== Proof.RefQuant.lean ====
module

public import proofs.«01_k».proof.Proof.RefValue
public import proofs.«01_k».proof.Proof.Rows

@[expose] public section
set_option maxHeartbeats 1000000
set_option maxRecDepth 100000
noncomputable section
namespace Cert.RefVal
open Idealize.ShloMosaic Cert.KernelIdeal.Val Cert.Scales Cert.Lanes Cert.Rows
open Cert.ReferenceIdeal Cert.ReferenceIdeal.Gen Cert.ReferenceIdeal.Read

/-- Row `n` of head `h` in batch `b`. -/
def lrow (A : Arr) (b : Fin 4) (h : Fin 8) (n : Fin 16384) : Fin 128 → EReal :=
  fun d => A (ix3 b n ⟨h.val * 128 + d.val, by omega⟩)

/-- A row by its number is the row by its block and place. -/
theorem lrow_eq (A : Arr) (b : Fin 4) (h : Fin 8) (n : Fin 16384) (k : ℕ) (r : Fin 256) (e : k * 256 + r.val = n.val) : lrow A b h n = arow A b h k r := by
  have : (⟨(k * 256 + r.val) % 16384, Nat.mod_lt _ (by norm_num)⟩ : Fin 16384) = n := Fin.ext (by show (k * 256 + r.val) % 16384 = n.val; omega)
  unfold lrow arow
  rw [this]

theorem AllFit.row {lo hi : ℤ} {A : Arr} (H : AllFit lo hi A) (b : Fin 4) (h : Fin 8) (n : Fin 16384) : Fits lo hi (lrow A b h n) := by
  rw [lrow_eq A b h n (n.val / 256) ⟨n.val % 256, Nat.mod_lt _ (by norm_num)⟩ (by show n.val / 256 * 256 + n.val % 256 = n.val; omega)]
  exact H _ _ _ _

theorem v1_at (x : Arr) (b : Fin 4) (n : Fin 16384) (h : Fin 8) (d : Fin 128) : val_main_v1 (F := Ideal) x (ix4 b n h d) = lrow x b h n d := by
  rw [val_main_v1_apply, val_main_v0_apply]
  show x (idx_main_v1 (ix4 b n h d)) = x (ix3 b n ⟨h.val * 128 + d.val, _⟩)
  refine congrArg x (funext fun a => match a with
    | ⟨0, _⟩ => Fin.ext (show (((b.val * 16384 + n.val) * 8 + h.val) * 128 + d.val) / 16777216 = b.val by omega)
    | ⟨1, _⟩ => Fin.ext (show (((b.val * 16384 + n.val) * 8 + h.val) * 128 + d.val) / 1024 % 16384 = n.val by omega)
    | ⟨2, _⟩ => Fin.ext (show (((b.val * 16384 + n.val) * 8 + h.val) * 128 + d.val) % 1024 = h.val * 128 + d.val by omega))

theorem hred : S4x16384x8x128.Reduces [3] S4x16384x8 := by decide

/-- The row maximum the reference takes. -/
theorem v3_at (x : Arr) (b : Fin 4) (n : Fin 16384) (h : Fin 8) : val_main_v3 (F := Ideal) x (ix3 b n h) = amax (lrow x b h n) := by
  unfold val_main_v3
  refine (Host.reduce_eq_fold_single (FloatOps.maximumf (F := Ideal) (φ := .f32)) _ _ _ hred _ _).trans ?_
  have e : (val_main_v2 (F := Ideal) x ∘ hred.lift (ix3 b n h)) = fun d : Fin 128 => max (lrow x b h n d) (-(lrow x b h n d)) := funext fun d => by
    have e1 : hred.lift (ix3 b n h) d = ix4 b n h d := funext fun a => match a with
      | ⟨0, _⟩ => rfl | ⟨1, _⟩ => rfl | ⟨2, _⟩ => rfl | ⟨3, _⟩ => rfl
    refine (congrArg (val_main_v2 (F := Ideal) x) e1).trans ((val_main_v2_apply (F := Ideal) x (ix4 b n h (d : Fin 128))).trans ?_)
    exact congrArg (fun z : EReal => max z (-z)) (v1_at x b n h d)
  rw [e, val_main_cst_apply, show FloatOps.ofBits (F := Ideal) .f32 0xFF800000#32 = (⊥ : EReal) from ofBits_ninf]
  rfl

section Row
variable {lo hi : ℤ} {x : Arr} {b : Fin 4} {n : Fin 16384} {h : Fin 8}

theorem amax_nonneg (hf : Fits lo hi (lrow x b h n)) : 0 ≤ (amax (lrow x b h n)).toReal := by
  obtain ⟨-, e | ⟨e, -⟩⟩ := hf.real
  · exact e.ge
  · exact le_trans (by positivity) e

/-- The exponent the reference finds. -/
theorem v16_at (hf : Fits lo hi (lrow x b h n)) : val_main_v16 (F := Ideal) x (ix4 b n h (0 : Fin 1)) = ((rexp (lrow x b h n) : ℝ) : EReal) := by
  have e4 : val_main_v4 (F := Ideal) x (ix4 b n h (0 : Fin 1)) = (((amax (lrow x b h n)).toReal : ℝ) : EReal) := by
    rw [val_main_v4_apply, hf.real.1, ← v3_at]
    exact congrArg _ (funext fun a => match a with | ⟨0, _⟩ => rfl | ⟨1, _⟩ => rfl | ⟨2, _⟩ => rfl)
  rw [val_main_v16_apply, val_main_v8_apply, val_main_call0_v1_apply, val_main_call0_v0_apply, val_main_v15_apply, val_main_v13_apply, val_main_v12_apply,
    val_main_v9_apply, val_main_v6_apply, e4, val_main_v7_apply, val_main_v14_apply, val_main_v11_apply, val_main_v10_apply, val_main_v5_apply,
    val_main_cst_0_apply, val_main_cst_1_apply, val_main_cst_2_apply, val_main_cst_3_apply, val_main_cst_4_apply]
  simp only [Ideal.ofBits_def, Ideal.hostUnary_floor_def, Ideal.hostUnary_log_def, Ideal.hostDivf_def, Ideal.addf_def, Ideal.mulf_def, Ideal.cmpf_def, ofBits_c0, ofBits_two, ofBits_one]
  rw [Ideal.ofBits_zero]
  exact hexp_eq (amax_nonneg hf)

/-- The code the reference stores. -/
theorem v22_at (hf : Fits lo hi (lrow x b h n)) (d : Fin 128) : val_main_v22 (F := Ideal) x (ix4 b n h d) = rcode (lrow x b h n) d := by
  obtain ⟨ex, hx⟩ := hf.elt d
  have e19 : val_main_v20 (F := Ideal) x (ix4 b n h d) = (((2 : ℝ) ^ (-rexp (lrow x b h n)) : ℝ) : EReal) := by
    rw [val_main_v20_apply, show idx_main_v20 (ix4 b n h d) = ix4 b n h (0 : Fin 1) from funext fun a => match a with | ⟨0, _⟩ => rfl | ⟨1, _⟩ => rfl | ⟨2, _⟩ => rfl | ⟨3, _⟩ => rfl,
      val_main_v19_apply, val_main_v18_apply, val_main_v17_apply, val_main_cst_5_apply, v16_at hf]
    show Ideal.pow (Ideal.ofBits .f32 0x40000000#32) (-((rexp (lrow x b h n) : ℝ) : EReal)) = _
    rw [ofBits_two, ← pow2_eq, ← EReal.coe_neg]
    push_cast; rfl
  rw [val_main_v22_apply, val_main_call1_v4_apply, val_main_call1_v3_apply, val_main_call1_v2_apply, val_main_call1_v1_apply, val_main_call1_v0_apply,
    val_main_cst_6_apply, val_main_cst_7_apply, val_main_v21_apply, v1_at, e19]
  show min (Ideal.ofBits .f32 0x43E00000#32) (max (Ideal.ofBits .f32 0xC3E00000#32) (lrow x b h n d * _)) = _
  rw [ofBits_448, ofBits_neg448]
  conv_lhs => rw [← ex]
  rw [← EReal.coe_mul]
  exact clip_id (code_le hx)

/-- The scale the reference stores. -/
theorem v25_at (hf : Fits lo hi (lrow x b h n)) : val_main_v25 (F := Ideal) x (ix3 b n h) = rscale (lrow x b h n) := by
  rw [val_main_v25_apply, show idx_main_v25 (ix3 b n h) = ix4 b n h (0 : Fin 1) from funext fun a => match a with
    | ⟨0, _⟩ => Fin.ext (show ((b.val * 16384 + n.val) * 8 + h.val) / 131072 = b.val by omega)
    | ⟨1, _⟩ => Fin.ext (show ((b.val * 16384 + n.val) * 8 + h.val) / 8 % 16384 = n.val by omega)
    | ⟨2, _⟩ => Fin.ext (show ((b.val * 16384 + n.val) * 8 + h.val) / 1 % 8 = h.val by omega)
    | ⟨3, _⟩ => rfl,
    val_main_v24_apply, val_main_v23_apply, val_main_cst_8_apply, v16_at hf]
  show Ideal.pow (Ideal.ofBits .f32 0x40000000#32) _ = _
  rw [ofBits_two, pow2_eq]
  rfl

end Row

/-! The keys and the values go through the same operations. -/
theorem v48_eq (x : Arr) : val_main_v48 (F := Ideal) x = val_main_v22 (F := Ideal) x := rfl
theorem v51_eq (x : Arr) : val_main_v51 (F := Ideal) x = val_main_v25 (F := Ideal) x := rfl
theorem v74_eq (x : Arr) : val_main_v74 (F := Ideal) x = val_main_v22 (F := Ideal) x := rfl
theorem v77_eq (x : Arr) : val_main_v77 (F := Ideal) x = val_main_v25 (F := Ideal) x := rfl

/-- The reference's array of codes. -/
theorem v149_arr {lo hi : ℤ} {x : Arr} (H : AllFit lo hi x) : val_main_v149 (F := Ideal) x = codeArr x := funext fun i => by
  have h0 : (i 0).val < 4 := (i 0).isLt
  have h1 : (i 1).val < 16384 := (i 1).isLt
  have h2 : (i 2).val < 1024 := (i 2).isLt
  rw [val_main_v149_apply, val_main_v148_apply, show idx_main_v148 i = ix4 (i 0) (i 1) (hd i) (hc i) from funext fun a => match a with
    | ⟨0, _⟩ => Fin.ext (show (((i 0).val * 16384 + (i 1).val) * 1024 + (i 2).val) / 16777216 = (i 0).val by omega)
    | ⟨1, _⟩ => Fin.ext (show (((i 0).val * 16384 + (i 1).val) * 1024 + (i 2).val) / 1024 % 16384 = (i 1).val by omega)
    | ⟨2, _⟩ => Fin.ext (show (((i 0).val * 16384 + (i 1).val) * 1024 + (i 2).val) / 128 % 8 = (i 2).val / 128 by omega)
    | ⟨3, _⟩ => Fin.ext (show (((i 0).val * 16384 + (i 1).val) * 1024 + (i 2).val) % 128 = (i 2).val % 128 by omega)]
  refine (v22_at (AllFit.row H _ _ _) _).trans ?_
  rw [lrow_eq x (i 0) (hd i) (i 1) (rb i) (rr i) (by show (i 1).val / 256 * 256 + (i 1).val % 256 = (i 1).val; omega)]
  rfl

/-- The reference's array of scales. -/
theorem v151_arr {lo hi : ℤ} {x : Arr} (H : AllFit lo hi x) : val_main_v151 (F := Ideal) x = sclArr x := funext fun i => by
  have h0 : (i 0).val < 4 := (i 0).isLt
  have h1 : (i 1).val < 8 := (i 1).isLt
  have h2 : (i 2).val < 64 := (i 2).isLt
  have h3 : (i 3).val < 1 := (i 3).isLt
  have h4 : (i 4).val < 256 := (i 4).isLt
  have hn : (i 2).val * 256 + (i 4).val < 16384 := by omega
  rw [val_main_v151_apply, val_main_v150_apply, show idx_main_v150 (idx_main_v151 i) = ix3 (i 0) (⟨(i 2).val * 256 + (i 4).val, hn⟩ : Fin 16384) (i 1) from funext fun a => match a with
    | ⟨0, _⟩ => Fin.ext (show (((((i 0).val * 8 + (i 1).val) * 64 + (i 2).val) * 1 + (i 3).val) * 256 + (i 4).val) / 131072 = (i 0).val by omega)
    | ⟨1, _⟩ => Fin.ext (show (((((i 0).val * 8 + (i 1).val) * 64 + (i 2).val) * 1 + (i 3).val) * 256 + (i 4).val) % 16384 = (i 2).val * 256 + (i 4).val by omega)
    | ⟨2, _⟩ => Fin.ext (show (((((i 0).val * 8 + (i 1).val) * 64 + (i 2).val) * 1 + (i 3).val) * 256 + (i 4).val) / 16384 % 8 = (i 1).val by omega)]
  refine (v25_at (AllFit.row H _ _ _)).trans ?_
  rw [lrow_eq x (i 0) (i 1) (⟨(i 2).val * 256 + (i 4).val, hn⟩ : Fin 16384) (i 2).val (i 4) rfl]
  rfl

end Cert.RefVal

end
-- ==== Proof.RefAttn.lean ====
module

public import proofs.«01_k».proof.Proof.RefQuant

@[expose] public section
set_option maxHeartbeats 1000000
set_option maxRecDepth 100000
noncomputable section
namespace Cert.RefVal
open Idealize.ShloMosaic Cert.KernelIdeal.Val Cert.Scales Cert.Lanes Cert.Rows
open Cert.ReferenceIdeal Cert.ReferenceIdeal.Gen Cert.ReferenceIdeal.Read

theorem ofBits_128 : Ideal.ofBits .f32 0x43000000#32 = ((128 : ℝ) : EReal) := by
  rw [ofBits_fields 0x43000000#32 false 134 0 (by decide) (by decide) (by decide) (by decide) (by decide)]
  congr 1
  norm_num

theorem ofBits_50 : Ideal.ofBits .f32 0x42480000#32 = ((50 : ℝ) : EReal) := by
  rw [ofBits_fields 0x42480000#32 false 132 4718592 (by decide) (by decide) (by decide) (by decide) (by decide)]
  congr 1
  norm_num

/-- The largest of finitely many values is a real when none is `⊤` and one is not `⊥`. -/
theorem fold_real {ι : Type*} (s : Finset ι) (f : ι → EReal) (h1 : ∀ i ∈ s, f i ≠ ⊤) {i : ι} (hi : i ∈ s) (h2 : f i ≠ ⊥) : ∃ M : ℝ, s.fold max ⊥ f = (M : EReal) := by
  have ht : s.fold max ⊥ f ≠ ⊤ := ne_of_lt (Finset.fold_max_lt _ |>.2 ⟨bot_lt_top, fun i hi => lt_top_iff_ne_top.2 (h1 i hi)⟩)
  have hb : s.fold max ⊥ f ≠ ⊥ := fun e => h2 (le_bot_iff.1 (e ▸ (Finset.le_fold_max _).2 (.inr ⟨i, hi, le_rfl⟩)))
  exact ⟨_, (EReal.coe_toReal ht hb).symm⟩

/-- A sum that ends with block `nb` is the sum of its blocks. -/
theorem sum_blocks (nb : ℕ) (h : (nb + 1) * 256 ≤ 16384) (F : ℕ → ℝ) (hF : ∀ j, (nb + 1) * 256 ≤ j → F j = 0) :
    ∑ j : Fin 16384, F j.val = ∑ c ∈ Finset.range (nb + 1), ∑ r : Fin 256, F (c * 256 + r.val) := by
  have key : ∀ m, ∑ j ∈ Finset.range (m * 256), F j = ∑ c ∈ Finset.range m, ∑ r : Fin 256, F (c * 256 + r.val) := fun m => by
    induction m with
    | zero => simp
    | succ m ih => rw [Finset.sum_range_succ, Nat.add_mul, one_mul, Finset.sum_range_add, ih, Fin.sum_univ_eq_sum_range (fun r => F (m * 256 + r))]
  rw [← key, Fin.sum_univ_eq_sum_range F]
  exact (Finset.sum_subset (Finset.range_subset_range.2 h) fun j _ hj => hF j (by simpa using hj)).symm

section At
variable {x k v : Arr} (hX : AllFit (-117) 117 x) (hK : AllFit (-117) 117 k) (hV : AllFit (-50) 50 v) (b : Fin 4) (h : Fin 8) (n : Fin 16384)

/-- The capped score of key `j` for query `n`. -/
def sc (x k : Arr) (b : Fin 4) (h : Fin 8) (n j : Fin 16384) : ℝ := 50 * Real.tanh (score (lrow x b h n) (lrow k b h j))

include hX hK in
theorem v86_at (j : Fin 16384) : val_main_v86 (F := Ideal) x k (ix4 b h n j)
    = ((∑ d, (lrow x b h n d).toReal * (lrow k b h j d).toReal : ℝ) : EReal) := by
  have e78 : val_main_v78 (F := Ideal) x k (ix4 b h n j)
      = ((∑ d, ((lrow x b h n d).toReal * (2 : ℝ) ^ (-rexp (lrow x b h n))) * ((lrow k b h j d).toReal * (2 : ℝ) ^ (-rexp (lrow k b h j))) : ℝ) : EReal) := by
    rw [val_main_v78_apply, ← sum_coe]
    refine Finset.sum_congr rfl fun d _ => ?_
    have e1 : lidx_main_v78 (ix4 b h n j) d = ix4 b n h d := funext fun a => match a with | ⟨0, _⟩ => rfl | ⟨1, _⟩ => rfl | ⟨2, _⟩ => rfl | ⟨3, _⟩ => rfl
    have e2 : ridx_main_v78 (ix4 b h n j) d = ix4 b j h d := funext fun a => match a with | ⟨0, _⟩ => rfl | ⟨1, _⟩ => rfl | ⟨2, _⟩ => rfl | ⟨3, _⟩ => rfl
    rw [e1, e2, v48_eq, v22_at (AllFit.row hX b h n), v22_at (AllFit.row hK b h j), EReal.coe_mul]
    rfl
  have e81 : val_main_v81 (F := Ideal) x (ix4 b h n j) = rscale (lrow x b h n) := by
    rw [val_main_v81_apply, val_main_v80_apply, val_main_v79_apply, show idx_main_v79 (idx_main_v80 (idx_main_v81 (ix4 b h n j))) = ix3 b n h from funext fun a => match a with | ⟨0, _⟩ => rfl | ⟨1, _⟩ => rfl | ⟨2, _⟩ => rfl]
    exact v25_at (AllFit.row hX b h n)
  have e85 : val_main_v85 (F := Ideal) k (ix4 b h n j) = rscale (lrow k b h j) := by
    rw [val_main_v85_apply, val_main_v84_apply, val_main_v83_apply, show idx_main_v83 (idx_main_v84 (idx_main_v85 (ix4 b h n j))) = ix3 b j h from funext fun a => match a with | ⟨0, _⟩ => rfl | ⟨1, _⟩ => rfl | ⟨2, _⟩ => rfl, v51_eq]
    exact v25_at (AllFit.row hK b h j)
  rw [val_main_v86_apply, val_main_v82_apply, e78, e81, e85]
  simp only [Ideal.mulf_def]
  unfold rscale
  rw [← EReal.coe_mul, ← EReal.coe_mul, Finset.sum_mul, Finset.sum_mul]
  refine congrArg (fun z : ℝ => (z : EReal)) (Finset.sum_congr rfl fun d _ => ?_)
  rw [zpow_neg, zpow_neg]
  have h1 : (2 : ℝ) ^ rexp (lrow x b h n) ≠ 0 := by positivity
  have h2 : (2 : ℝ) ^ rexp (lrow k b h j) ≠ 0 := by positivity
  field_simp

include hX hK in
theorem v94_at (j : Fin 16384) : val_main_v94 (F := Ideal) x k (ix4 b h n j) = ((sc x k b h n j : ℝ) : EReal) := by
  rw [val_main_v94_apply, val_main_v93_apply, val_main_v92_apply, val_main_v91_apply, val_main_v90_apply, val_main_v89_apply, val_main_v88_apply, val_main_v87_apply,
    v86_at hX hK, val_main_cst_29_apply, val_main_cst_30_apply, val_main_cst_31_apply]
  simp only [Ideal.ofBits_def, Ideal.hostUnary_tanh_def, Ideal.hostUnary_sqrt_def, Ideal.hostDivf_def, Ideal.mulf_def, ofBits_128, ofBits_50]
  rw [Ideal.sqrt_coe, if_neg (by norm_num), Ideal.div_coe (Real.sqrt_pos.2 (by norm_num)).ne', Ideal.div_coe (by norm_num), ← EReal.coe_mul, ← EReal.coe_mul, Ideal.tanh_coe, ← EReal.coe_mul]
  unfold sc score
  rw [one_div (Real.sqrt 128), mul_assoc]

/-- The mask keeps the keys up to the query. -/
theorem v103_at (j : Fin 16384) : val_main_v103 (F := Ideal) x k (ix4 b h n j) = if j.val ≤ n.val then val_main_v94 (F := Ideal) x k (ix4 b h n j) else ⊥ := by
  rw [val_main_v103_apply, val_main_call6_v1_apply, val_main_v102_apply, val_main_v101_apply, val_main_v99_apply, val_main_v100_apply, val_main_v96_apply, val_main_v98_apply,
    val_main_v95_apply, val_main_v97_apply, val_main_call6_v2_apply, val_main_call6_v0_apply, val_main_cst_32_apply, Ideal.ofBits_def, ofBits_ninf]
  have e : IntOp.cmpi .sle (BitVec.ofNat 32 j.val) (BitVec.ofNat 32 n.val) = BitVec.ofBool (decide (j.val ≤ n.val)) :=
    WordCmp.cmpi_sle_ofNat (by norm_num; omega) (by norm_num; omega)
  refine (congrArg (fun w => Scalar.select w (val_main_v94 (F := Ideal) x k (ix4 b h n j)) (⊥ : EReal)) e).trans ?_
  by_cases hj : j.val ≤ n.val <;> simp [hj, Scalar.select]

theorem hred4 : S4x8x16384x16384.Reduces [3] S4x8x16384 := by decide

theorem lift4 (j : Fin 16384) : hred4.lift (ix3 b h n) j = ix4 b h n j := funext fun a => match a with
  | ⟨0, _⟩ => rfl | ⟨1, _⟩ => rfl | ⟨2, _⟩ => rfl | ⟨3, _⟩ => rfl

include hX hK in
/-- The largest score is a real. -/
theorem v104_at : ∃ M : ℝ, val_main_v104 (F := Ideal) x k (ix3 b h n) = (M : EReal) := by
  have e : val_main_v104 (F := Ideal) x k (ix3 b h n) = Finset.univ.fold max ⊥ fun j : Fin 16384 => val_main_v103 (F := Ideal) x k (ix4 b h n j) := by
    unfold val_main_v104
    refine (Host.reduce_eq_fold_single (FloatOps.maximumf (F := Ideal) (φ := .f32)) _ _ _ hred4 _ _).trans ?_
    have e1 : (val_main_v103 (F := Ideal) x k ∘ hred4.lift (ix3 b h n)) = fun j : Fin 16384 => val_main_v103 (F := Ideal) x k (ix4 b h n j) :=
      funext fun j => congrArg (val_main_v103 (F := Ideal) x k) (lift4 b h n j)
    rw [e1, val_main_cst_33_apply, show FloatOps.ofBits (F := Ideal) .f32 0xFF800000#32 = (⊥ : EReal) from ofBits_ninf]
    rfl
  rw [e]
  refine fold_real _ _ (fun j _ => ?_) (Finset.mem_univ n) ?_
  · rw [v103_at, v94_at hX hK]
    split
    · exact EReal.coe_ne_top _
    · exact bot_ne_top
  · rw [v103_at, v94_at hX hK, if_pos le_rfl]
    exact EReal.coe_ne_bot _

/-- The weight of key `j` for query `n`, before the division. -/
def pj (x k : Arr) (b : Fin 4) (h : Fin 8) (n : Fin 16384) (M : ℝ) (j : Fin 16384) : ℝ := if j.val ≤ n.val then Real.exp (sc x k b h n j - M) else 0

theorem pj_nonneg (M : ℝ) (j : Fin 16384) : 0 ≤ pj x k b h n M j := by
  unfold pj; split
  · exact (Real.exp_pos _).le
  · exact le_rfl

variable {M : ℝ} (hM : val_main_v104 (F := Ideal) x k (ix3 b h n) = (M : EReal))
include hX hK hM

theorem v108_at (j : Fin 16384) : val_main_v108 (F := Ideal) x k (ix4 b h n j) = ((pj x k b h n M j : ℝ) : EReal) := by
  rw [val_main_v108_apply, val_main_v107_apply, val_main_v106_apply, val_main_v105_apply,
    show idx_main_v105 (idx_main_v106 (ix4 b h n j)) = ix3 b h n from funext fun a => match a with | ⟨0, _⟩ => rfl | ⟨1, _⟩ => rfl | ⟨2, _⟩ => rfl,
    hM, v103_at, v94_at hX hK]
  simp only [Ideal.hostUnary_exp_def, Ideal.subf_def]
  unfold pj
  by_cases hj : j.val ≤ n.val
  · rw [if_pos hj, if_pos hj, ← EReal.coe_sub, Ideal.exp_coe]
  · rw [if_neg hj, if_neg hj, sub_eq_add_neg, EReal.bot_add, Ideal.exp_bot, EReal.coe_zero]

theorem v109_at : val_main_v109 (F := Ideal) x k (ix3 b h n) = ((∑ j, pj x k b h n M j : ℝ) : EReal) := by
  rw [val_main_v109_apply, val_main_cst_34_apply, Ideal.ofBits_def, Ideal.ofBits_zero, zero_add, ← sum_coe]
  refine Finset.sum_congr rfl fun j _ => ?_
  rw [show idx_main_v109 (ix3 b h n) j = ix4 b h n j from funext fun a => match a with | ⟨0, _⟩ => rfl | ⟨1, _⟩ => rfl | ⟨2, _⟩ => rfl | ⟨3, _⟩ => rfl]
  exact v108_at hX hK b h n hM j

include hV

/-- The weights times the scales of the values. -/
theorem v113_at (j : Fin 16384) : val_main_v113 (F := Ideal) x k v (ix4 b h n j) = ((pj x k b h n M j * (2 : ℝ) ^ rexp (lrow v b h j) : ℝ) : EReal) := by
  rw [val_main_v113_apply, val_main_v112_apply, val_main_v111_apply, val_main_v110_apply,
    show idx_main_v110 (idx_main_v111 (idx_main_v112 (ix4 b h n j))) = ix3 b j h from funext fun a => match a with | ⟨0, _⟩ => rfl | ⟨1, _⟩ => rfl | ⟨2, _⟩ => rfl,
    v77_eq, v25_at (AllFit.row hV b h j), v108_at hX hK b h n hM, EReal.coe_mul]
  rfl

/-- The largest of them bounds each. -/
theorem v115_at : ∃ A : ℝ, val_main_v115 (F := Ideal) x k v (ix3 b h n) = (A : EReal) ∧ ∀ j, |pj x k b h n M j * (2 : ℝ) ^ rexp (lrow v b h j)| ≤ A := by
  have e : val_main_v115 (F := Ideal) x k v (ix3 b h n) = Finset.univ.fold max ⊥ fun j : Fin 16384 => ((|pj x k b h n M j * (2 : ℝ) ^ rexp (lrow v b h j)| : ℝ) : EReal) := by
    unfold val_main_v115
    refine (Host.reduce_eq_fold_single (FloatOps.maximumf (F := Ideal) (φ := .f32)) _ _ _ hred4 _ _).trans ?_
    have e1 : (val_main_v114 (F := Ideal) x k v ∘ hred4.lift (ix3 b h n)) = fun j : Fin 16384 => ((|pj x k b h n M j * (2 : ℝ) ^ rexp (lrow v b h j)| : ℝ) : EReal) :=
      funext fun j => by
        refine (congrArg (val_main_v114 (F := Ideal) x k v) (lift4 b h n j)).trans ((val_main_v114_apply (F := Ideal) x k v (ix4 b h n (j : Fin 16384))).trans ?_)
        refine (congrArg (fun z : EReal => max z (-z)) (v113_at hX hK hV b h n hM j)).trans ?_
        rw [← EReal.coe_neg, max_coe]
        rfl
    rw [e1, val_main_cst_35_apply, show FloatOps.ofBits (F := Ideal) .f32 0xFF800000#32 = (⊥ : EReal) from ofBits_ninf]
    rfl
  rw [e, fold_max_coe _ ⟨n, Finset.mem_univ n⟩]
  exact ⟨_, rfl, fun j => Finset.le_sup' (fun j => |pj x k b h n M j * (2 : ℝ) ^ rexp (lrow v b h j)|) (Finset.mem_univ j)⟩

variable {A : ℝ} (hA : val_main_v115 (F := Ideal) x k v (ix3 b h n) = (A : EReal)) (hb : ∀ j, |pj x k b h n M j * (2 : ℝ) ^ rexp (lrow v b h j)| ≤ A)
include hA hb

theorem v128_at : val_main_v128 (F := Ideal) x k v (ix4 b h n (0 : Fin 1)) = ((expo A : ℝ) : EReal) := by
  have e116 : val_main_v116 (F := Ideal) x k v (ix4 b h n (0 : Fin 1)) = (A : EReal) := by
    rw [val_main_v116_apply, ← hA]
    exact congrArg _ (funext fun a => match a with | ⟨0, _⟩ => rfl | ⟨1, _⟩ => rfl | ⟨2, _⟩ => rfl)
  rw [val_main_v128_apply, val_main_call7_v1_apply, val_main_call7_v0_apply, val_main_v127_apply, val_main_v125_apply, val_main_v124_apply, val_main_v121_apply,
    val_main_v120_apply, val_main_v118_apply, e116, val_main_v119_apply, val_main_v126_apply, val_main_v123_apply, val_main_v122_apply, val_main_v117_apply,
    val_main_cst_36_apply, val_main_cst_37_apply, val_main_cst_38_apply, val_main_cst_39_apply, val_main_cst_40_apply]
  simp only [Ideal.ofBits_def, Ideal.hostUnary_floor_def, Ideal.hostUnary_log_def, Ideal.hostDivf_def, Ideal.addf_def, Ideal.mulf_def, Ideal.cmpf_def, ofBits_c0, ofBits_two, ofBits_one]
  rw [Ideal.ofBits_zero]
  exact hexp_eq ((abs_nonneg _).trans (hb n))

theorem v134_at (j : Fin 16384) : val_main_v134 (F := Ideal) x k v (ix4 b h n j) = ((pj x k b h n M j * (2 : ℝ) ^ rexp (lrow v b h j) * (2 : ℝ) ^ (-expo A) : ℝ) : EReal) := by
  have e132 : val_main_v132 (F := Ideal) x k v (ix4 b h n j) = (((2 : ℝ) ^ (-expo A) : ℝ) : EReal) := by
    rw [val_main_v132_apply, show idx_main_v132 (ix4 b h n j) = ix4 b h n (0 : Fin 1) from funext fun a => match a with | ⟨0, _⟩ => rfl | ⟨1, _⟩ => rfl | ⟨2, _⟩ => rfl | ⟨3, _⟩ => rfl,
      val_main_v131_apply, val_main_v130_apply, val_main_v129_apply, val_main_cst_41_apply, v128_at hX hK hV b h n hM hA hb]
    show Ideal.pow (Ideal.ofBits .f32 0x40000000#32) (-((expo A : ℝ) : EReal)) = _
    rw [ofBits_two, ← pow2_eq, ← EReal.coe_neg]
    push_cast; rfl
  rw [val_main_v134_apply, val_main_call8_v4_apply, val_main_call8_v3_apply, val_main_call8_v2_apply, val_main_call8_v1_apply, val_main_call8_v0_apply,
    val_main_cst_42_apply, val_main_cst_43_apply, val_main_v133_apply, v113_at hX hK hV b h n hM, e132]
  show min (Ideal.ofBits .f32 0x43E00000#32) (max (Ideal.ofBits .f32 0xC3E00000#32) (_ * _)) = _
  rw [ofBits_448, ofBits_neg448, ← EReal.coe_mul]
  exact clip_id (code_le (hb j))

theorem v144_at (d : Fin 128) : val_main_v144 (F := Ideal) x k v (ix4 b h n d)
    = (((∑ j, pj x k b h n M j * (lrow v b h j d).toReal) / ∑ j, pj x k b h n M j : ℝ) : EReal) := by
  have e138 : val_main_v138 (F := Ideal) x k v (ix4 b h n d)
      = ((∑ j, (pj x k b h n M j * (2 : ℝ) ^ rexp (lrow v b h j) * (2 : ℝ) ^ (-expo A)) * ((lrow v b h j d).toReal * (2 : ℝ) ^ (-rexp (lrow v b h j))) : ℝ) : EReal) := by
    rw [val_main_v138_apply, ← sum_coe]
    refine Finset.sum_congr rfl fun j _ => ?_
    have e1 : lidx_main_v138 (ix4 b h n d) j = ix4 b h n j := funext fun a => match a with | ⟨0, _⟩ => rfl | ⟨1, _⟩ => rfl | ⟨2, _⟩ => rfl | ⟨3, _⟩ => rfl
    have e2 : ridx_main_v138 (ix4 b h n d) j = ix4 b j h d := funext fun a => match a with | ⟨0, _⟩ => rfl | ⟨1, _⟩ => rfl | ⟨2, _⟩ => rfl | ⟨3, _⟩ => rfl
    rw [e1, e2, v74_eq, v22_at (AllFit.row hV b h j), v134_at hX hK hV b h n hM hA hb, EReal.coe_mul (_ * _ * _)]
    rfl
  have e140 : val_main_v140 (F := Ideal) x k v (ix4 b h n d) = (((2 : ℝ) ^ expo A : ℝ) : EReal) := by
    rw [val_main_v140_apply, val_main_v139_apply, val_main_v137_apply,
      show idx_main_v137 (idx_main_v139 (idx_main_v140 (ix4 b h n d))) = ix4 b h n (0 : Fin 1) from funext fun a => match a with
        | ⟨0, _⟩ => Fin.ext (show ((b.val * 8 + h.val) * 16384 + n.val) / 131072 = b.val by omega)
        | ⟨1, _⟩ => Fin.ext (show ((b.val * 8 + h.val) * 16384 + n.val) / 16384 % 8 = h.val by omega)
        | ⟨2, _⟩ => Fin.ext (show ((b.val * 8 + h.val) * 16384 + n.val) / 1 % 16384 = n.val by omega)
        | ⟨3, _⟩ => rfl,
      val_main_v136_apply, val_main_v135_apply, val_main_cst_44_apply, v128_at hX hK hV b h n hM hA hb]
    show Ideal.pow (Ideal.ofBits .f32 0x40000000#32) _ = _
    rw [ofBits_two, pow2_eq]
  have e143 : val_main_v143 (F := Ideal) x k (ix4 b h n d) = ((∑ j, pj x k b h n M j : ℝ) : EReal) := by
    rw [val_main_v143_apply, val_main_v142_apply, show idx_main_v142 (idx_main_v143 (ix4 b h n d)) = ix3 b h n from funext fun a => match a with | ⟨0, _⟩ => rfl | ⟨1, _⟩ => rfl | ⟨2, _⟩ => rfl]
    exact v109_at hX hK b h n hM
  have hpos : 0 < ∑ j, pj x k b h n M j :=
    Finset.sum_pos' (fun j _ => pj_nonneg b h n M j) ⟨n, Finset.mem_univ n, by unfold pj; rw [if_pos le_rfl]; exact Real.exp_pos _⟩
  rw [val_main_v144_apply, val_main_v141_apply, e138, e140, e143]
  simp only [Ideal.hostDivf_def, Ideal.mulf_def]
  rw [Ideal.div_coe hpos.ne', ← EReal.coe_mul, ← EReal.coe_mul, mul_one_div, Finset.sum_mul]
  refine congrArg (fun z : ℝ => (((z / ∑ j, pj x k b h n M j : ℝ)) : EReal)) (Finset.sum_congr rfl fun j _ => ?_)
  rw [zpow_neg, zpow_neg]
  have h1 : (2 : ℝ) ^ rexp (lrow v b h j) ≠ 0 := by positivity
  have h2 : (2 : ℝ) ^ expo A ≠ 0 := by positivity
  field_simp

end At

/-- The weighted sum over all keys is the sum over the blocks up to the query's. -/
theorem weights_sum (x k : Arr) (b : Fin 4) (h : Fin 8) (n : Fin 16384) (nb : ℕ) (r0 : Fin 256) (hn : nb * 256 + r0.val = n.val) (M : ℝ) (g : Fin 16384 → ℝ) :
    ∑ j, pj x k b h n M j * g j = (∑ c ∈ Finset.range (nb + 1), ∑ r : Fin 256, Pw (arow x b h nb) (arow k b h) nb r0 c r * g ⟨(c * 256 + r.val) % 16384, Nat.mod_lt _ (by norm_num)⟩) * Real.exp (-M) := by
  have hl : (nb + 1) * 256 ≤ 16384 := by have := n.isLt; omega
  have hq : lrow x b h n = arow x b h nb r0 := lrow_eq x b h n nb r0 hn
  refine (Finset.sum_congr rfl fun j _ => ?_).trans ((sum_blocks nb hl (fun j => pj x k b h n M ⟨j % 16384, Nat.mod_lt _ (by norm_num)⟩ * (if j < 16384 then g ⟨j % 16384, Nat.mod_lt _ (by norm_num)⟩ else 0)) fun j hj => ?_).trans ?_)
  · have : (⟨j.val % 16384, Nat.mod_lt _ (by norm_num)⟩ : Fin 16384) = j := Fin.ext (Nat.mod_eq_of_lt j.isLt)
    simp only [this, j.isLt, if_true]
  · by_cases h1 : j < 16384
    · have : ¬ j % 16384 ≤ n.val := by rw [Nat.mod_eq_of_lt h1]; have := r0.isLt; omega
      unfold pj
      simp [this]
    · simp [h1]
  · rw [Finset.sum_mul]
    refine Finset.sum_congr rfl fun c hc => ?_
    rw [Finset.sum_mul]
    refine Finset.sum_congr rfl fun r _ => ?_
    have hc' : c < nb + 1 := Finset.mem_range.1 hc
    have hlt : c * 256 + r.val < 16384 := by have := r.isLt; omega
    have hr0 := r0.isLt
    have hr := r.isLt
    rw [if_pos hlt]
    unfold pj Pw mwt wt sc
    rw [show lrow k b h ⟨(c * 256 + r.val) % 16384, Nat.mod_lt _ (by norm_num)⟩ = arow k b h c r from rfl, hq, sub_eq_add_neg, Real.exp_add]
    have e1 : (c * 256 + r.val) % 16384 = c * 256 + r.val := Nat.mod_eq_of_lt hlt
    by_cases h1 : c < nb
    · have : c * 256 + r.val ≤ n.val := by omega
      simp only [e1, this, h1, if_true]
      ring
    · have hcn : c = nb := by omega
      subst hcn
      by_cases h2 : r.val ≤ r0.val
      · have : c * 256 + r.val ≤ n.val := by omega
        simp only [e1, this, h1, h2, if_true, if_false]
        ring
      · have : ¬ c * 256 + r.val ≤ n.val := by omega
        simp only [e1, this, h1, h2, if_false]
        ring

/-- The reference's attention. -/
theorem v147_arr {x k v : Arr} (hX : AllFit (-117) 117 x) (hK : AllFit (-117) 117 k) (hV : AllFit (-50) 50 v) : val_main_v147 (F := Ideal) x k v = outArr x k v := funext fun i => by
  have h0 : (i 0).val < 4 := (i 0).isLt
  have h1 : (i 1).val < 16384 := (i 1).isLt
  have h2 : (i 2).val < 1024 := (i 2).isLt
  rw [val_main_v147_apply, val_main_v146_apply, val_main_v145_apply, show idx_main_v145 (idx_main_v146 i) = ix4 (i 0) (hd i) (i 1) (hc i) from funext fun a => match a with
    | ⟨0, _⟩ => Fin.ext (show (((i 0).val * 16384 + (i 1).val) * 1024 + (i 2).val) / 16777216 = (i 0).val by omega)
    | ⟨1, _⟩ => Fin.ext (show (((i 0).val * 16384 + (i 1).val) * 1024 + (i 2).val) / 128 % 8 = (i 2).val / 128 by omega)
    | ⟨2, _⟩ => Fin.ext (show (((i 0).val * 16384 + (i 1).val) * 1024 + (i 2).val) / 1024 % 16384 = (i 1).val by omega)
    | ⟨3, _⟩ => Fin.ext (show (((i 0).val * 16384 + (i 1).val) * 1024 + (i 2).val) % 128 = (i 2).val % 128 by omega)]
  obtain ⟨M, hM⟩ := v104_at hX hK (i 0) (hd i) (i 1)
  obtain ⟨A, hA, hb⟩ := v115_at hX hK hV (i 0) (hd i) (i 1) hM
  refine (v144_at hX hK hV (i 0) (hd i) (i 1) hM hA hb (hc i)).trans ?_
  have hn : rb i * 256 + (rr i).val = (i 1).val := by show (i 1).val / 256 * 256 + (i 1).val % 256 = (i 1).val; omega
  have e1 := weights_sum x k (i 0) (hd i) (i 1) (rb i) (rr i) hn M (fun j => (lrow v (i 0) (hd i) j (hc i)).toReal)
  have e2 := weights_sum x k (i 0) (hd i) (i 1) (rb i) (rr i) hn M (fun _ => 1)
  simp only [mul_one] at e2
  rw [e1, e2, mul_div_mul_right _ _ (Real.exp_pos _).ne']
  rfl

/-- The three arrays of codes and scales the reference returns beside the attention: those of the keys and of the values are computed as those of the queries. -/
theorem v153_arr {x : Arr} (H : AllFit (-117) 117 x) : val_main_v153 (F := Ideal) x = codeArr x := (show val_main_v153 (F := Ideal) x = val_main_v149 (F := Ideal) x from rfl).trans (v149_arr H)
theorem v155_arr {x : Arr} (H : AllFit (-117) 117 x) : val_main_v155 (F := Ideal) x = sclArr x := (show val_main_v155 (F := Ideal) x = val_main_v151 (F := Ideal) x from rfl).trans (v151_arr H)
theorem v157_arr {x : Arr} (H : AllFit (-50) 50 x) : val_main_v157 (F := Ideal) x = codeArr x := (show val_main_v157 (F := Ideal) x = val_main_v149 (F := Ideal) x from rfl).trans (v149_arr H)
theorem v159_arr {x : Arr} (H : AllFit (-50) 50 x) : val_main_v159 (F := Ideal) x = sclArr x := (show val_main_v159 (F := Ideal) x = val_main_v151 (F := Ideal) x from rfl).trans (v151_arr H)

end Cert.RefVal

end
-- ==== Proof.PreFit.lean ====
module

public import proofs.«01_k».proof.Proof.RefQuant
public import proofs.«01_k».proof.Proof.Gen.Pre_scales_fit

@[expose] public section
set_option maxHeartbeats 1000000
set_option maxRecDepth 100000
noncomputable section
namespace Cert.PreFit
open Idealize.ShloMosaic Cert.Scales Cert.Rows Cert.RefVal
open Cert.ReferenceIdeal.Read

theorem ofBits_lo110 : Ideal.ofBits .f32 0x08800000#32 = (((2 : ℝ) ^ (-110 : ℤ) : ℝ) : EReal) := by
  rw [ofBits_fields 0x08800000#32 false 17 0 (by decide) (by decide) (by decide) (by decide) (by decide)]
  congr 1
  norm_num
theorem ofBits_hi110 : Ideal.ofBits .f32 0x76800000#32 = (((2 : ℝ) ^ (110 : ℤ) : ℝ) : EReal) := by
  rw [ofBits_fields 0x76800000#32 false 237 0 (by decide) (by decide) (by decide) (by decide) (by decide)]
  congr 1
  norm_num
theorem ofBits_lo50 : Ideal.ofBits .f32 0x26800000#32 = (((2 : ℝ) ^ (-50 : ℤ) : ℝ) : EReal) := by
  rw [ofBits_fields 0x26800000#32 false 77 0 (by decide) (by decide) (by decide) (by decide) (by decide)]
  congr 1
  norm_num
theorem ofBits_hi50 : Ideal.ofBits .f32 0x58800000#32 = (((2 : ℝ) ^ (50 : ℤ) : ℝ) : EReal) := by
  rw [ofBits_fields 0x58800000#32 false 177 0 (by decide) (by decide) (by decide) (by decide) (by decide)]
  congr 1
  norm_num

/-- The word the precondition computes of a maximum is one only when the maximum is zero or between the two bounds. -/
theorem word_fits {a l u : EReal} (H : IntOp.ori (Ideal.cmp .oeq a 0) (IntOp.andi (Ideal.cmp .oge a l) (Ideal.cmp .ole a u)) = 1#1) : a = 0 ∨ l ≤ a ∧ a ≤ u := by
  by_cases h0 : a = 0
  · exact .inl h0
  · by_cases h1 : l ≤ a <;> by_cases h2 : a ≤ u
    · exact .inr ⟨h1, h2⟩
    all_goals exact absurd H (by simp [Ideal.cmp, IntOp.ori, IntOp.andi, h0, h1, h2])

theorem allFit_of_max {x : Arr} {lo hi : ℤ} {l u : EReal} (hl : l = (((2 : ℝ) ^ lo : ℝ) : EReal)) (hu : u = (((2 : ℝ) ^ hi : ℝ) : EReal))
    (H : ∀ (b : Fin 4) (n : Fin 16384) (h : Fin 8), IntOp.ori (Ideal.cmp .oeq (val_main_v3 (F := Ideal) x (ix3 b n h)) (Ideal.ofBits .f32 0x00000000#32))
      (IntOp.andi (Ideal.cmp .oge (val_main_v3 (F := Ideal) x (ix3 b n h)) l) (Ideal.cmp .ole (val_main_v3 (F := Ideal) x (ix3 b n h)) u)) = 1#1) : AllFit lo hi x := by
  intro b h c r
  have e := H b ⟨(c * 256 + r.val) % 16384, Nat.mod_lt _ (by norm_num)⟩ h
  rw [Ideal.ofBits_zero, v3_at] at e
  have := word_fits e
  rw [hl, hu] at this
  exact this

/-- The row maxima the precondition takes. -/
def pmax (x : Arr) : FVec Ideal Cert.Pre_scales_fit.S4x16384x8 .f32 :=
  Host.reduce FloatOps.maximumf (Host.absf (shapeCast Cert.Pre_scales_fit.S4x16384x8x128 (extf (F := Ideal) .f32 x Cert.Pre_scales_fit.Gen.bitsLt_bf16_f32) Cert.Pre_scales_fit.Gen.shapeCasts_S4x16384x1024_S4x16384x8x128))
    (constant (F := Ideal) Cert.Pre_scales_fit.S_ .f32 0xFF800000#32) Cert.Pre_scales_fit.Gen.reducesTo_S4x16384x8x128_S4x16384x8_d3 Cert.Pre_scales_fit.Gen.h_S_

/-- They are the maxima the reference takes. -/
theorem pmax_eq (x : Arr) : pmax x = val_main_v3 (F := Ideal) x := rfl

/-- The words the precondition computes of a maximum. -/
def pword (a : FVec Ideal Cert.Pre_scales_fit.S4x16384x8 .f32) (l u : BitVec 32) : IVec Cert.Pre_scales_fit.S4x16384x8 1 :=
  ori (cmpf .oeq a (broadcastInDim Cert.Pre_scales_fit.S4x16384x8 ![] Cert.Pre_scales_fit.Gen.bcast_S_S4x16384x8 (constant (F := Ideal) Cert.Pre_scales_fit.S_ .f32 0x00000000#32)))
    (andi (cmpf .oge a (broadcastInDim Cert.Pre_scales_fit.S4x16384x8 ![] Cert.Pre_scales_fit.Gen.bcast_S_S4x16384x8 (constant (F := Ideal) Cert.Pre_scales_fit.S_ .f32 l)))
      (cmpf .ole a (broadcastInDim Cert.Pre_scales_fit.S4x16384x8 ![] Cert.Pre_scales_fit.Gen.bcast_S_S4x16384x8 (constant (F := Ideal) Cert.Pre_scales_fit.S_ .f32 u))))

theorem pword_at (a : FVec Ideal Cert.Pre_scales_fit.S4x16384x8 .f32) (l u : BitVec 32) (i) :
    pword a l u i = IntOp.ori (Ideal.cmp .oeq (a i) (Ideal.ofBits .f32 0x00000000#32)) (IntOp.andi (Ideal.cmp .oge (a i) (Ideal.ofBits .f32 l)) (Ideal.cmp .ole (a i) (Ideal.ofBits .f32 u))) := rfl

theorem fn_eq (x k v : Arr) : Cert.Pre_scales_fit.fn (F := Ideal) x k v
    = (pword (pmax x) 0x08800000#32 0x76800000#32, pword (pmax k) 0x08800000#32 0x76800000#32, pword (pmax v) 0x26800000#32 0x58800000#32) := by
  unfold Cert.Pre_scales_fit.fn Cert.Pre_scales_fit.fn_part1 pword pmax
  rfl

theorem word_at {x : Arr} {l u : BitVec 32} (H : pword (pmax x) l u = fun _ => 1#1) (b : Fin 4) (n : Fin 16384) (h : Fin 8) :
    IntOp.ori (Ideal.cmp .oeq (val_main_v3 (F := Ideal) x (ix3 b n h)) (Ideal.ofBits .f32 0x00000000#32))
      (IntOp.andi (Ideal.cmp .oge (val_main_v3 (F := Ideal) x (ix3 b n h)) (Ideal.ofBits .f32 l)) (Ideal.cmp .ole (val_main_v3 (F := Ideal) x (ix3 b n h)) (Ideal.ofBits .f32 u))) = 1#1 := by
  rw [pmax_eq] at H
  exact (pword_at _ l u (ix3 b n h)).symm.trans (congrFun H (ix3 b n h))

/-- Inputs that pass the precondition have every row's scale in range. -/
theorem fits {x k v : Arr} (h1 : (Cert.Pre_scales_fit.fn (F := Ideal) x k v).1 = fun _ => 1#1) (h2 : (Cert.Pre_scales_fit.fn (F := Ideal) x k v).2.1 = fun _ => 1#1)
    (h3 : (Cert.Pre_scales_fit.fn (F := Ideal) x k v).2.2 = fun _ => 1#1) : AllFit (-110) 110 x ∧ AllFit (-110) 110 k ∧ AllFit (-50) 50 v := by
  rw [fn_eq] at h1 h2 h3
  exact ⟨allFit_of_max ofBits_lo110 ofBits_hi110 (word_at h1), allFit_of_max ofBits_lo110 ofBits_hi110 (word_at h2), allFit_of_max ofBits_lo50 ofBits_hi50 (word_at h3)⟩

end Cert.PreFit

end
-- ==== Proof.KernelRunA.lean ====
module

public import proofs.«01_k».proof.Proof.Gen.Kernel.Skeleton
public import proofs.«01_k».proof.Proof.Gen.Kernel.Loops
public import proofs.«01_k».proof.Proof.Gen.Kernel.Frame

@[expose] public section

set_option maxRecDepth 16384

noncomputable section

namespace Cert.Kernel.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The first key block of a head: the grid's last coordinate is zero. -/
abbrev cond0 (i : grid0.Coords) : Prop := (Scalar.cmpi .ne (Scalar.extui (Scalar.cmpi .eq (BitVec.ofNat 32 (i 2).val) 0#32)) 0#32) = 1#1

/-- A later key block: the grid's last coordinate is positive. -/
abbrev cond1 (i : grid0.Coords) : Prop := (Scalar.cmpi .ne (Scalar.extui (Scalar.cmpi .sgt (BitVec.ofNat 32 (i 2).val) 0#32)) 0#32) = 1#1

set_option maxHeartbeats 2000000 in
/-- The whole body at a grid point whose key block index is zero: from the three input blocks and whatever the scratch
    holds, it runs to its end; the lists are the blocks it stores, last first, into each output and each scratch buffer. -/
noncomputable def runA (c : Dev nD) (i : grid0.Coords) (arg3 : Memref sig .tc .vmem S1x256x128 .bf16) (harg3 : arg3.IsWhole) (arg4 : Memref sig .tc .vmem S1x256x128 .bf16) (harg4 : arg4.IsWhole) (arg5 : Memref sig .tc .vmem S1x256x128 .bf16) (harg5 : arg5.IsWhole) (arg6 : Memref sig .tc .vmem S1x256x128 .bf16) (harg6 : arg6.IsWhole) (arg7 : Memref sig .tc .vmem S1x256x128 .fp8e4m3) (harg7 : arg7.IsWhole) (arg8 : Memref sig .tc .vmem S1x1x1x1x256 .f32) (harg8 : arg8.IsWhole) (arg9 : Memref sig .tc .vmem S1x256x128 .fp8e4m3) (harg9 : arg9.IsWhole) (arg10 : Memref sig .tc .vmem S1x1x1x1x256 .f32) (harg10 : arg10.IsWhole) (arg11 : Memref sig .tc .vmem S1x256x128 .fp8e4m3) (harg11 : arg11.IsWhole) (arg12 : Memref sig .tc .vmem S1x1x1x1x256 .f32) (harg12 : arg12.IsWhole) (arg13 : Memref sig .tc .vmem S64x256x128 .fp8e4m3) (harg13 : arg13.IsWhole) (arg14 : Memref sig .tc .vmem S64x128x256 .fp8e4m3) (harg14 : arg14.IsWhole) (arg15 : Memref sig .tc .vmem S64x256x128 .f32) (harg15 : arg15.IsWhole) (arg16 : Memref sig .tc .vmem S64x256x128 .f32) (harg16 : arg16.IsWhole) (arg17 : Memref sig .tc .vmem S64x8x128 .f32) (harg17 : arg17.IsWhole) (arg18 : Memref sig .tc .vmem S8x128 .f32) (harg18 : arg18.IsWhole) (arg19 : Memref sig .tc .vmem S64x256x256 .f32) (harg19 : arg19.IsWhole) (hc0 : cond0 i) (hc1 : ¬cond1 i)
    (x3 : Vec F S1x256x128 .bf16) (x4 : Vec F S1x256x128 .bf16) (x5 : Vec F S1x256x128 .bf16) (s13 : Vec F S64x256x128 .fp8e4m3) (s14 : Vec F S64x128x256 .fp8e4m3) (s15 : Vec F S64x256x128 .f32) (s16 : Vec F S64x256x128 .f32) (s17 : Vec F S64x8x128 .f32) (s18 : Vec F S8x128 .f32) (s19 : Vec F S64x256x256 .f32) :
    Σ' (L6 : List (View.Piece (Elt F) S1x256x128 .bf16)) (L7 : List (View.Piece (Elt F) S1x256x128 .fp8e4m3)) (L8 : List (View.Piece (Elt F) S1x1x1x1x256 .f32)) (L9 : List (View.Piece (Elt F) S1x256x128 .fp8e4m3)) (L10 : List (View.Piece (Elt F) S1x1x1x1x256 .f32)) (L11 : List (View.Piece (Elt F) S1x256x128 .fp8e4m3)) (L12 : List (View.Piece (Elt F) S1x1x1x1x256 .f32)) (L13 : List (View.Piece (Elt F) S64x256x128 .fp8e4m3)) (L14 : List (View.Piece (Elt F) S64x128x256 .fp8e4m3)) (L15 : List (View.Piece (Elt F) S64x256x128 .f32)) (L16 : List (View.Piece (Elt F) S64x256x128 .f32)) (L17 : List (View.Piece (Elt F) S64x8x128 .f32)) (L18 : List (View.Piece (Elt F) S8x128 .f32)),
    { L19 : List (View.Piece (Elt F) S64x256x256 .f32) //
      ∀ (E : Set ℕ) (K : PUnit → sProp 𝕄),
        iprop(owns (c : Thread nD τ) arg3 fullShare x3 ∗ owns (c : Thread nD τ) arg4 fullShare x4 ∗ owns (c : Thread nD τ) arg5 fullShare x5 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ owns (c : Thread nD τ) arg13 fullShare s13 ∗ owns (c : Thread nD τ) arg14 fullShare s14 ∗ owns (c : Thread nD τ) arg15 fullShare s15 ∗ owns (c : Thread nD τ) arg16 fullShare s16 ∗ owns (c : Thread nD τ) arg17 fullShare s17 ∗ owns (c : Thread nD τ) arg18 fullShare s18 ∗ owns (c : Thread nD τ) arg19 fullShare s19
            ∗ (iprop(owns (c : Thread nD τ) arg3 fullShare x3 ∗ owns (c : Thread nD τ) arg4 fullShare x4 ∗ owns (c : Thread nD τ) arg5 fullShare x5 ∗ (∃ f, arg6.view.loc (c : Thread nD τ) ↦[arg6.view.set]{fullShare} arg6.view.writes (Elt F) f L6) ∗ (∃ f, arg7.view.loc (c : Thread nD τ) ↦[arg7.view.set]{fullShare} arg7.view.writes (Elt F) f L7) ∗ (∃ f, arg8.view.loc (c : Thread nD τ) ↦[arg8.view.set]{fullShare} arg8.view.writes (Elt F) f L8) ∗ (∃ f, arg9.view.loc (c : Thread nD τ) ↦[arg9.view.set]{fullShare} arg9.view.writes (Elt F) f L9) ∗ (∃ f, arg10.view.loc (c : Thread nD τ) ↦[arg10.view.set]{fullShare} arg10.view.writes (Elt F) f L10) ∗ (∃ f, arg11.view.loc (c : Thread nD τ) ↦[arg11.view.set]{fullShare} arg11.view.writes (Elt F) f L11) ∗ (∃ f, arg12.view.loc (c : Thread nD τ) ↦[arg12.view.set]{fullShare} arg12.view.writes (Elt F) f L12) ∗ (arg13.view.loc (c : Thread nD τ) ↦[arg13.view.set]{fullShare} arg13.view.writes (Elt F) (harg13.unread s13) L13) ∗ (arg14.view.loc (c : Thread nD τ) ↦[arg14.view.set]{fullShare} arg14.view.writes (Elt F) (harg14.unread s14) L14) ∗ (arg15.view.loc (c : Thread nD τ) ↦[arg15.view.set]{fullShare} arg15.view.writes (Elt F) (harg15.unread s15) L15) ∗ (arg16.view.loc (c : Thread nD τ) ↦[arg16.view.set]{fullShare} arg16.view.writes (Elt F) (harg16.unread s16) L16) ∗ (arg17.view.loc (c : Thread nD τ) ↦[arg17.view.set]{fullShare} arg17.view.writes (Elt F) (harg17.unread s17) L17) ∗ (∃ f, arg18.view.loc (c : Thread nD τ) ↦[arg18.view.set]{fullShare} arg18.view.writes (Elt F) f L18) ∗ (arg19.view.loc (c : Thread nD τ) ↦[arg19.view.set]{fullShare} arg19.view.writes (Elt F) (harg19.unread s19) L19)) -∗ K ⟨⟩))
          ⊢ wp frame (wpE (defs₀ (F := F)) Variants.none c none) E (cc0_softcap_attention i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K } := by
  refine ⟨?_, ?_, ?_, ?_, ?_, ?_, ?_, ?_, ?_, ?_, ?_, ?_, ?_, ?_, fun E K => ?run⟩
  case run =>
    simp only [cc0_softcap_attention_eq_skeleton]; unfold cc0_softcap_attention_skel
    unfold owns
    iintro ⟨⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, Hk⟩
    obtain rfl := harg3.eq_unread hf3
    obtain rfl := harg4.eq_unread hf4
    obtain rfl := harg5.eq_unread hf5
    obtain rfl := harg13.eq_unread hf13
    obtain rfl := harg14.eq_unread hf14
    obtain rfl := harg15.eq_unread hf15
    obtain rfl := harg16.eq_unread hf16
    obtain rfl := harg17.eq_unread hf17
    obtain rfl := harg18.eq_unread hf18
    obtain rfl := harg19.eq_unread hf19
    sl_exec (disch := first | sl_exact hc0 | sl_exact hc1)
    sl_step
    iapply Hk
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]; · iexists _; iexact H6
    isplitl [H7]; · iexists _; iexact H7
    isplitl [H8]; · iexists _; iexact H8
    isplitl [H9]; · iexists _; iexact H9
    isplitl [H10]; · iexists _; iexact H10
    isplitl [H11]; · iexists _; iexact H11
    isplitl [H12]; · iexists _; iexact H12
    isplitl [H13]; · iexact H13
    isplitl [H14]; · iexact H14
    isplitl [H15]; · iexact H15
    isplitl [H16]; · iexact H16
    isplitl [H17]; · iexact H17
    isplitl [H18]; · iexists _; iexact H18
    iexact H19

end Cert.Kernel.Run

end
-- ==== Proof.KernelRunB.lean ====
module

public import proofs.«01_k».proof.Proof.KernelRunA

@[expose] public section

set_option maxRecDepth 16384

noncomputable section

namespace Cert.Kernel.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 2000000 in
/-- The whole body at a grid point whose key block index is positive: from the three input blocks and whatever the scratch
    holds, it runs to its end; the lists are the blocks it stores, last first, into each output and each scratch buffer. -/
noncomputable def runB (c : Dev nD) (i : grid0.Coords) (arg3 : Memref sig .tc .vmem S1x256x128 .bf16) (harg3 : arg3.IsWhole) (arg4 : Memref sig .tc .vmem S1x256x128 .bf16) (harg4 : arg4.IsWhole) (arg5 : Memref sig .tc .vmem S1x256x128 .bf16) (harg5 : arg5.IsWhole) (arg6 : Memref sig .tc .vmem S1x256x128 .bf16) (harg6 : arg6.IsWhole) (arg7 : Memref sig .tc .vmem S1x256x128 .fp8e4m3) (harg7 : arg7.IsWhole) (arg8 : Memref sig .tc .vmem S1x1x1x1x256 .f32) (harg8 : arg8.IsWhole) (arg9 : Memref sig .tc .vmem S1x256x128 .fp8e4m3) (harg9 : arg9.IsWhole) (arg10 : Memref sig .tc .vmem S1x1x1x1x256 .f32) (harg10 : arg10.IsWhole) (arg11 : Memref sig .tc .vmem S1x256x128 .fp8e4m3) (harg11 : arg11.IsWhole) (arg12 : Memref sig .tc .vmem S1x1x1x1x256 .f32) (harg12 : arg12.IsWhole) (arg13 : Memref sig .tc .vmem S64x256x128 .fp8e4m3) (harg13 : arg13.IsWhole) (arg14 : Memref sig .tc .vmem S64x128x256 .fp8e4m3) (harg14 : arg14.IsWhole) (arg15 : Memref sig .tc .vmem S64x256x128 .f32) (harg15 : arg15.IsWhole) (arg16 : Memref sig .tc .vmem S64x256x128 .f32) (harg16 : arg16.IsWhole) (arg17 : Memref sig .tc .vmem S64x8x128 .f32) (harg17 : arg17.IsWhole) (arg18 : Memref sig .tc .vmem S8x128 .f32) (harg18 : arg18.IsWhole) (arg19 : Memref sig .tc .vmem S64x256x256 .f32) (harg19 : arg19.IsWhole) (hc0 : ¬cond0 i) (hc1 : cond1 i)
    (x3 : Vec F S1x256x128 .bf16) (x4 : Vec F S1x256x128 .bf16) (x5 : Vec F S1x256x128 .bf16) (s13 : Vec F S64x256x128 .fp8e4m3) (s14 : Vec F S64x128x256 .fp8e4m3) (s15 : Vec F S64x256x128 .f32) (s16 : Vec F S64x256x128 .f32) (s17 : Vec F S64x8x128 .f32) (s18 : Vec F S8x128 .f32) (s19 : Vec F S64x256x256 .f32) :
    Σ' (L6 : List (View.Piece (Elt F) S1x256x128 .bf16)) (L7 : List (View.Piece (Elt F) S1x256x128 .fp8e4m3)) (L8 : List (View.Piece (Elt F) S1x1x1x1x256 .f32)) (L9 : List (View.Piece (Elt F) S1x256x128 .fp8e4m3)) (L10 : List (View.Piece (Elt F) S1x1x1x1x256 .f32)) (L11 : List (View.Piece (Elt F) S1x256x128 .fp8e4m3)) (L12 : List (View.Piece (Elt F) S1x1x1x1x256 .f32)) (L13 : List (View.Piece (Elt F) S64x256x128 .fp8e4m3)) (L14 : List (View.Piece (Elt F) S64x128x256 .fp8e4m3)) (L15 : List (View.Piece (Elt F) S64x256x128 .f32)) (L16 : List (View.Piece (Elt F) S64x256x128 .f32)) (L17 : List (View.Piece (Elt F) S64x8x128 .f32)) (L18 : List (View.Piece (Elt F) S8x128 .f32)),
    { L19 : List (View.Piece (Elt F) S64x256x256 .f32) //
      ∀ (E : Set ℕ) (K : PUnit → sProp 𝕄),
        iprop(owns (c : Thread nD τ) arg3 fullShare x3 ∗ owns (c : Thread nD τ) arg4 fullShare x4 ∗ owns (c : Thread nD τ) arg5 fullShare x5 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ owns (c : Thread nD τ) arg13 fullShare s13 ∗ owns (c : Thread nD τ) arg14 fullShare s14 ∗ owns (c : Thread nD τ) arg15 fullShare s15 ∗ owns (c : Thread nD τ) arg16 fullShare s16 ∗ owns (c : Thread nD τ) arg17 fullShare s17 ∗ owns (c : Thread nD τ) arg18 fullShare s18 ∗ owns (c : Thread nD τ) arg19 fullShare s19
            ∗ (iprop(owns (c : Thread nD τ) arg3 fullShare x3 ∗ owns (c : Thread nD τ) arg4 fullShare x4 ∗ owns (c : Thread nD τ) arg5 fullShare x5 ∗ (∃ f, arg6.view.loc (c : Thread nD τ) ↦[arg6.view.set]{fullShare} arg6.view.writes (Elt F) f L6) ∗ (∃ f, arg7.view.loc (c : Thread nD τ) ↦[arg7.view.set]{fullShare} arg7.view.writes (Elt F) f L7) ∗ (∃ f, arg8.view.loc (c : Thread nD τ) ↦[arg8.view.set]{fullShare} arg8.view.writes (Elt F) f L8) ∗ (∃ f, arg9.view.loc (c : Thread nD τ) ↦[arg9.view.set]{fullShare} arg9.view.writes (Elt F) f L9) ∗ (∃ f, arg10.view.loc (c : Thread nD τ) ↦[arg10.view.set]{fullShare} arg10.view.writes (Elt F) f L10) ∗ (∃ f, arg11.view.loc (c : Thread nD τ) ↦[arg11.view.set]{fullShare} arg11.view.writes (Elt F) f L11) ∗ (∃ f, arg12.view.loc (c : Thread nD τ) ↦[arg12.view.set]{fullShare} arg12.view.writes (Elt F) f L12) ∗ (arg13.view.loc (c : Thread nD τ) ↦[arg13.view.set]{fullShare} arg13.view.writes (Elt F) (harg13.unread s13) L13) ∗ (arg14.view.loc (c : Thread nD τ) ↦[arg14.view.set]{fullShare} arg14.view.writes (Elt F) (harg14.unread s14) L14) ∗ (arg15.view.loc (c : Thread nD τ) ↦[arg15.view.set]{fullShare} arg15.view.writes (Elt F) (harg15.unread s15) L15) ∗ (arg16.view.loc (c : Thread nD τ) ↦[arg16.view.set]{fullShare} arg16.view.writes (Elt F) (harg16.unread s16) L16) ∗ (arg17.view.loc (c : Thread nD τ) ↦[arg17.view.set]{fullShare} arg17.view.writes (Elt F) (harg17.unread s17) L17) ∗ (∃ f, arg18.view.loc (c : Thread nD τ) ↦[arg18.view.set]{fullShare} arg18.view.writes (Elt F) f L18) ∗ (arg19.view.loc (c : Thread nD τ) ↦[arg19.view.set]{fullShare} arg19.view.writes (Elt F) (harg19.unread s19) L19)) -∗ K ⟨⟩))
          ⊢ wp frame (wpE (defs₀ (F := F)) Variants.none c none) E (cc0_softcap_attention i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K } := by
  refine ⟨?_, ?_, ?_, ?_, ?_, ?_, ?_, ?_, ?_, ?_, ?_, ?_, ?_, ?_, fun E K => ?run⟩
  case run =>
    simp only [cc0_softcap_attention_eq_skeleton]; unfold cc0_softcap_attention_skel
    unfold owns
    iintro ⟨⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, Hk⟩
    obtain rfl := harg3.eq_unread hf3
    obtain rfl := harg4.eq_unread hf4
    obtain rfl := harg5.eq_unread hf5
    obtain rfl := harg13.eq_unread hf13
    obtain rfl := harg14.eq_unread hf14
    obtain rfl := harg15.eq_unread hf15
    obtain rfl := harg16.eq_unread hf16
    obtain rfl := harg17.eq_unread hf17
    obtain rfl := harg18.eq_unread hf18
    obtain rfl := harg19.eq_unread hf19
    sl_exec (disch := first | sl_exact hc0 | sl_exact hc1)
    sl_step
    iapply Hk
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]; · iexists _; iexact H6
    isplitl [H7]; · iexists _; iexact H7
    isplitl [H8]; · iexists _; iexact H8
    isplitl [H9]; · iexists _; iexact H9
    isplitl [H10]; · iexists _; iexact H10
    isplitl [H11]; · iexists _; iexact H11
    isplitl [H12]; · iexists _; iexact H12
    isplitl [H13]; · iexact H13
    isplitl [H14]; · iexact H14
    isplitl [H15]; · iexact H15
    isplitl [H16]; · iexact H16
    isplitl [H17]; · iexact H17
    isplitl [H18]; · iexists _; iexact H18
    iexact H19

end Cert.Kernel.Run

end
-- ==== Proof.KernelFrame.lean ====
module

public import proofs.«01_k».proof.Proof.KernelRunB
public import Idealize.ShloMosaic.Lib.Claim

@[expose] public section

set_option maxRecDepth 16384

noncomputable section

namespace Cert.Kernel.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The first branch is taken exactly at the points whose key block index is zero. -/
theorem hcond0 : ∀ t : Fin cfg0.N, cond0 (grid0.coords t) ↔ t.val % 64 = 0 :=
  (fun t => by
    have ht : t.val < 2048 := Nat.lt_of_lt_of_eq t.isLt N_0
    have e0 : (grid0.coords t 2).val = t.val / 1 % 64 := Pipeline.Grid.coords_val t 2 (by decide) rfl
    simp only [cond0, e0]
    word_cmp
   : ∀ t : Fin grid0.N, cond0 (grid0.coords t) ↔ t.val % 64 = 0)

/-- The second branch is taken exactly at the other points. -/
theorem hcond1 : ∀ t : Fin cfg0.N, cond1 (grid0.coords t) ↔ ¬ t.val % 64 = 0 :=
  (fun t => by
    have ht : t.val < 2048 := Nat.lt_of_lt_of_eq t.isLt N_0
    have e0 : (grid0.coords t 2).val = t.val / 1 % 64 := Pipeline.Grid.coords_val t 2 (by decide) rfl
    simp only [cond1, e0]
    word_cmp
   : ∀ t : Fin grid0.N, cond1 (grid0.coords t) ↔ ¬ t.val % 64 = 0)

/-! The staging memref of each window at a point, and the scratch buffers. -/

abbrev ms0 (t : Fin cfg0.N) : Memref sig .tc .vmem S1x256x128 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x256x128 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x256x128 .bf16 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x256x128 .bf16 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x256x128 .fp8e4m3 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x1x1x1x256 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S1x256x128 .fp8e4m3 := win0_6.stage (cfg0.slots t 6)
abbrev hs6 (t : Fin cfg0.N) : (ms6 t).IsWhole := hstage0_6 ((cfg0.slots t 6).cast nbuf0_6)
abbrev ms7 (t : Fin cfg0.N) : Memref sig .tc .vmem S1x1x1x1x256 .f32 := win0_7.stage (cfg0.slots t 7)
abbrev hs7 (t : Fin cfg0.N) : (ms7 t).IsWhole := hstage0_7 ((cfg0.slots t 7).cast nbuf0_7)
abbrev ms8 (t : Fin cfg0.N) : Memref sig .tc .vmem S1x256x128 .fp8e4m3 := win0_8.stage (cfg0.slots t 8)
abbrev hs8 (t : Fin cfg0.N) : (ms8 t).IsWhole := hstage0_8 ((cfg0.slots t 8).cast nbuf0_8)
abbrev ms9 (t : Fin cfg0.N) : Memref sig .tc .vmem S1x1x1x1x256 .f32 := win0_9.stage (cfg0.slots t 9)
abbrev hs9 (t : Fin cfg0.N) : (ms9 t).IsWhole := hstage0_9 ((cfg0.slots t 9).cast nbuf0_9)
abbrev sc13 : Memref sig .tc .vmem S64x256x128 .fp8e4m3 := Memref.whole cc0_scratch0
abbrev sc14 : Memref sig .tc .vmem S64x128x256 .fp8e4m3 := Memref.whole cc0_scratch1
abbrev sc15 : Memref sig .tc .vmem S64x256x128 .f32 := Memref.whole cc0_scratch2
abbrev sc16 : Memref sig .tc .vmem S64x256x128 .f32 := Memref.whole cc0_scratch3
abbrev sc17 : Memref sig .tc .vmem S64x8x128 .f32 := Memref.whole cc0_scratch4
abbrev sc18 : Memref sig .tc .vmem S8x128 .f32 := Memref.whole cc0_scratch5
abbrev sc19 : Memref sig .tc .vmem S64x256x256 .f32 := Memref.whole cc0_scratch6

/-- The region's own invariant, spelled over the seven scratch buffers. -/
theorem PhiA0_eq (c : Dev nD) :
    (Pipeline.ΦA spec0 c : sProp 𝕄)
      = iprop(iprop((∃ d, owns (c : Thread nD τ) sc13 fullShare d) ∗ (∃ d, owns (c : Thread nD τ) sc14 fullShare d) ∗ (∃ d, owns (c : Thread nD τ) sc15 fullShare d) ∗ (∃ d, owns (c : Thread nD τ) sc16 fullShare d) ∗ (∃ d, owns (c : Thread nD τ) sc17 fullShare d) ∗ (∃ d, owns (c : Thread nD τ) sc18 fullShare d) ∗ (∃ d, owns (c : Thread nD τ) sc19 fullShare d)) ∗ (∃ r, prngReg c r)) := by
  unfold Pipeline.ΦA; rw [scopedRest0_eq]; simp only [sc13, sc14, sc15, sc16, sc17, sc18, sc19, owns_whole]; try rfl

/-- The output windows: the frame states nothing of what the kernel leaves in them. -/
def forgets0 : Fin 10 → Bool := fun w => decide (3 ≤ w.val)

/-- The proof data of the pipeline: each input's buffer keeps its block, the outputs are forgotten, the scratch holds anything. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, h⟩ => Pipeline.Dat.unnamed (cfg := cfg0) ⟨3, h⟩ t
    | ⟨4, h⟩ => Pipeline.Dat.unnamed (cfg := cfg0) ⟨4, h⟩ t
    | ⟨5, h⟩ => Pipeline.Dat.unnamed (cfg := cfg0) ⟨5, h⟩ t
    | ⟨6, h⟩ => Pipeline.Dat.unnamed (cfg := cfg0) ⟨6, h⟩ t
    | ⟨7, h⟩ => Pipeline.Dat.unnamed (cfg := cfg0) ⟨7, h⟩ t
    | ⟨8, h⟩ => Pipeline.Dat.unnamed (cfg := cfg0) ⟨8, h⟩ t
    | ⟨9, h⟩ => Pipeline.Dat.unnamed (cfg := cfg0) ⟨9, h⟩ t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem before0_0 (c : Dev nD) (t : Fin cfg0.N) (d) : (dats m 0 c).before 0 t d = iblk m c 0 t :=
  before0_0_of m (dats m 0 c) (A_eq m c 0) (after0_0 m c) t d
theorem after0_1 (c : Dev nD) (t : Fin cfg0.N) : (dats m 0 c).after 1 t = iblk m c 1 t := by dsimp only [dats]
theorem before0_1 (c : Dev nD) (t : Fin cfg0.N) (d) : (dats m 0 c).before 1 t d = iblk m c 1 t :=
  before0_1_of m (dats m 0 c) (A_eq m c 1) (after0_1 m c) t d
theorem after0_2 (c : Dev nD) (t : Fin cfg0.N) : (dats m 0 c).after 2 t = iblk m c 2 t := by dsimp only [dats]
theorem before0_2 (c : Dev nD) (t : Fin cfg0.N) (d) : (dats m 0 c).before 2 t d = iblk m c 2 t :=
  before0_2_of m (dats m 0 c) (A_eq m c 2) (after0_2 m c) t d

/-- What the body is called with at a point, window by window. -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d)) ∗ (∃ d, owns (c : Thread nD τ) (ms1 t) fullShare ((dats m 0 c).before 1 t d)) ∗ (∃ d, owns (c : Thread nD τ) (ms2 t) fullShare ((dats m 0 c).before 2 t d)) ∗ (∃ d, owns (c : Thread nD τ) (ms3 t) fullShare d) ∗ (∃ d, owns (c : Thread nD τ) (ms4 t) fullShare d) ∗ (∃ d, owns (c : Thread nD τ) (ms5 t) fullShare d) ∗ (∃ d, owns (c : Thread nD τ) (ms6 t) fullShare d) ∗ (∃ d, owns (c : Thread nD τ) (ms7 t) fullShare d) ∗ (∃ d, owns (c : Thread nD τ) (ms8 t) fullShare d) ∗ (∃ d, owns (c : Thread nD τ) (ms9 t) fullShare d))

/-- What the body returns at a point, window by window. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t) ∗ owns (c : Thread nD τ) (ms1 t) fullShare ((dats m 0 c).after 1 t) ∗ owns (c : Thread nD τ) (ms2 t) fullShare ((dats m 0 c).after 2 t) ∗ (∃ d, owns (c : Thread nD τ) (ms3 t) fullShare d) ∗ (∃ d, owns (c : Thread nD τ) (ms4 t) fullShare d) ∗ (∃ d, owns (c : Thread nD τ) (ms5 t) fullShare d) ∗ (∃ d, owns (c : Thread nD τ) (ms6 t) fullShare d) ∗ (∃ d, owns (c : Thread nD τ) (ms7 t) fullShare d) ∗ (∃ d, owns (c : Thread nD τ) (ms8 t) fullShare d) ∗ (∃ d, owns (c : Thread nD τ) (ms9 t) fullShare d))

/-- A buffer at some contents is owned at some value. -/
theorem own_some (c : Dev nD) {s : Shape} {e : EltTy} (M : Memref sig .tc .vmem s e) (f : BufTy.Contents (Elt F) M.view.ty) :
    (M.view.loc (c : Thread nD τ) ↦[M.view.set]{fullShare} f : sProp 𝕄) ⊢ iprop(∃ d, owns (c : Thread nD τ) M fullShare d) := by
  iintro H
  iexists _; unfold owns; iexists _; isplitr
  swap; · iexact H
  ipureintro; rfl

set_option maxHeartbeats 1600000 in
/-- The body at any point runs from what it is called with to what it returns. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).owesAt () t.succ = (dats m 0 c).owesAt () t.castSucc from rfl, after0_0, after0_1, after0_2,
    show (dats m 0 c).Φ t.succ = Pipeline.ΦA spec0 c from rfl, show (dats m 0 c).Φ t.castSucc = Pipeline.ΦA spec0 c from rfl, PhiA0_eq]
  iintro ⟨⟨⟨⟨%s13, S13⟩, ⟨%s14, S14⟩, ⟨%s15, S15⟩, ⟨%s16, S16⟩, ⟨%s17, S17⟩, ⟨%s18, S18⟩, ⟨%s19, S19⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  by_cases h0 : t.val % 64 = 0
  · iapply ((runA c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) sc13 (Memref.isWhole_whole _) sc14 (Memref.isWhole_whole _) sc15 (Memref.isWhole_whole _) sc16 (Memref.isWhole_whole _) sc17 (Memref.isWhole_whole _) sc18 (Memref.isWhole_whole _) sc19 (Memref.isWhole_whole _) ((hcond0 t).mpr h0) (fun h => (hcond1 t).mp h h0) (iblk m c 0 t) (iblk m c 1 t) (iblk m c 2 t) s13 s14 s15 s16 s17 s18 s19).2.2.2.2.2.2.2.2.2.2.2.2.2.2 Set.univ _)
    isplitl [H0]; · iexact H0
    isplitl [H1]; · iexact H1
    isplitl [H2]; · iexact H2
    isplitl [H3]; · iexists _; iexact H3
    isplitl [H4]; · iexists _; iexact H4
    isplitl [H5]; · iexists _; iexact H5
    isplitl [H6]; · iexists _; iexact H6
    isplitl [H7]; · iexists _; iexact H7
    isplitl [H8]; · iexists _; iexact H8
    isplitl [H9]; · iexists _; iexact H9
    isplitl [S13]; · iexact S13
    isplitl [S14]; · iexact S14
    isplitl [S15]; · iexact S15
    isplitl [S16]; · iexact S16
    isplitl [S17]; · iexact S17
    isplitl [S18]; · iexact S18
    isplitl [S19]; · iexact S19
    iintro ⟨H0, H1, H2, ⟨%e3, H3⟩, ⟨%e4, H4⟩, ⟨%e5, H5⟩, ⟨%e6, H6⟩, ⟨%e7, H7⟩, ⟨%e8, H8⟩, ⟨%e9, H9⟩, S13, S14, S15, S16, S17, ⟨%e18, S18⟩, S19⟩
    isplitl [S13 S14 S15 S16 S17 S18 S19 Hg]
    · isplitl [S13 S14 S15 S16 S17 S18 S19]
      · isplitl [S13]; · iapply (own_some c sc13 _); iexact S13
        isplitl [S14]; · iapply (own_some c sc14 _); iexact S14
        isplitl [S15]; · iapply (own_some c sc15 _); iexact S15
        isplitl [S16]; · iapply (own_some c sc16 _); iexact S16
        isplitl [S17]; · iapply (own_some c sc17 _); iexact S17
        isplitl [S18]; · iapply (own_some c sc18 _); iexact S18
        iapply (own_some c sc19 _); iexact S19
      iexact Hg
    isplitl [Ho]; · iexact Ho
    isplitl [H0]; · iexact H0
    isplitl [H1]; · iexact H1
    isplitl [H2]; · iexact H2
    isplitl [H3]; · iapply (own_some c (ms3 t) _); iexact H3
    isplitl [H4]; · iapply (own_some c (ms4 t) _); iexact H4
    isplitl [H5]; · iapply (own_some c (ms5 t) _); iexact H5
    isplitl [H6]; · iapply (own_some c (ms6 t) _); iexact H6
    isplitl [H7]; · iapply (own_some c (ms7 t) _); iexact H7
    isplitl [H8]; · iapply (own_some c (ms8 t) _); iexact H8
    iapply (own_some c (ms9 t) _); iexact H9
  · iapply ((runB c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) sc13 (Memref.isWhole_whole _) sc14 (Memref.isWhole_whole _) sc15 (Memref.isWhole_whole _) sc16 (Memref.isWhole_whole _) sc17 (Memref.isWhole_whole _) sc18 (Memref.isWhole_whole _) sc19 (Memref.isWhole_whole _) (fun h => h0 ((hcond0 t).mp h)) ((hcond1 t).mpr h0) (iblk m c 0 t) (iblk m c 1 t) (iblk m c 2 t) s13 s14 s15 s16 s17 s18 s19).2.2.2.2.2.2.2.2.2.2.2.2.2.2 Set.univ _)
    isplitl [H0]; · iexact H0
    isplitl [H1]; · iexact H1
    isplitl [H2]; · iexact H2
    isplitl [H3]; · iexists _; iexact H3
    isplitl [H4]; · iexists _; iexact H4
    isplitl [H5]; · iexists _; iexact H5
    isplitl [H6]; · iexists _; iexact H6
    isplitl [H7]; · iexists _; iexact H7
    isplitl [H8]; · iexists _; iexact H8
    isplitl [H9]; · iexists _; iexact H9
    isplitl [S13]; · iexact S13
    isplitl [S14]; · iexact S14
    isplitl [S15]; · iexact S15
    isplitl [S16]; · iexact S16
    isplitl [S17]; · iexact S17
    isplitl [S18]; · iexact S18
    isplitl [S19]; · iexact S19
    iintro ⟨H0, H1, H2, ⟨%e3, H3⟩, ⟨%e4, H4⟩, ⟨%e5, H5⟩, ⟨%e6, H6⟩, ⟨%e7, H7⟩, ⟨%e8, H8⟩, ⟨%e9, H9⟩, S13, S14, S15, S16, S17, ⟨%e18, S18⟩, S19⟩
    isplitl [S13 S14 S15 S16 S17 S18 S19 Hg]
    · isplitl [S13 S14 S15 S16 S17 S18 S19]
      · isplitl [S13]; · iapply (own_some c sc13 _); iexact S13
        isplitl [S14]; · iapply (own_some c sc14 _); iexact S14
        isplitl [S15]; · iapply (own_some c sc15 _); iexact S15
        isplitl [S16]; · iapply (own_some c sc16 _); iexact S16
        isplitl [S17]; · iapply (own_some c sc17 _); iexact S17
        isplitl [S18]; · iapply (own_some c sc18 _); iexact S18
        iapply (own_some c sc19 _); iexact S19
      iexact Hg
    isplitl [Ho]; · iexact Ho
    isplitl [H0]; · iexact H0
    isplitl [H1]; · iexact H1
    isplitl [H2]; · iexact H2
    isplitl [H3]; · iapply (own_some c (ms3 t) _); iexact H3
    isplitl [H4]; · iapply (own_some c (ms4 t) _); iexact H4
    isplitl [H5]; · iapply (own_some c (ms5 t) _); iexact H5
    isplitl [H6]; · iapply (own_some c (ms6 t) _); iexact H6
    isplitl [H7]; · iapply (own_some c (ms7 t) _); iexact H7
    isplitl [H8]; · iapply (own_some c (ms8 t) _); iexact H8
    iapply (own_some c (ms9 t) _); iexact H9

theorem defs₀_row (t : Fin cfg0.N) :
    defs₀ (F := F) .tc cfg0.body (cfg0.bodyArgs t (cfg0.slots t)) = bodyAt0 t := by
  unfold defs₀; rw [Defs.onTc_tc]

/-- The pipeline's obligation on its body, at every point. -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

set_option backward.isDefEq.respectTransparency.types false in
/-- The whole program terminates, leaves every input array as it was and every semaphore at zero. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_track_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hin := fun _ => .rfl) (hout := fun _ => .rfl)

/-- The frame claim: the three argument arrays end as they began, and no semaphore is left raised. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c =>
    ⟨(Pipeline.RDat.FramePost.arr_in h.1 c 0 rfl).trans ((A_eq m c 0).trans (V_main_arg0 m c)),
      (Pipeline.RDat.FramePost.arr_in h.1 c 1 rfl).trans ((A_eq m c 1).trans (V_main_arg1 m c)),
      (Pipeline.RDat.FramePost.arr_in h.1 c 2 rfl).trans ((A_eq m c 2).trans (V_main_arg2 m c))⟩, h.2⟩) (run_main_quiescent m ρ)

end Cert.Kernel.Run

end
-- ==== Proof.lean ====
module

public import proofs.«01_k».proof.Proof.KernelIdealValue
public import proofs.«01_k».proof.Proof.RefAttn
public import proofs.«01_k».proof.Proof.PreFit
public import proofs.«01_k».proof.Proof.RefValue
public import proofs.«01_k».proof.Proof.Gen.Pre_scales_fit
public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.KernelFrame
public import proofs.«01_k».proof.Proof.KernelIdealFrame
public import Idealize.ShloMosaic.Lib.Quiescent
public import Idealize.ShloMosaic.Adequacy
public import Idealize.ShloMosaic.Init

@[expose] public section

noncomputable section

namespace Cert.Proof

open Idealize.ShloMosaic Idealize.SL.Sem

/-- The two named constants: the table gives each its value, and the printed constant has that value at the ideal instance. -/
theorem preserves : Cert.preserves_Kernel_KernelIdeal :=
  ⟨IdealRules.named_const.statement Cert.KernelIdeal.κ "score_factor" .f32 _ _ rfl,
    IdealRules.named_const.statement Cert.KernelIdeal.κ "cap_log2e" .f32 _ _ rfl⟩

/-- The idealized reference leaves its arguments as they were and every semaphore at zero. -/
theorem frame_reference (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0) :=
  (θ_run _ _ _).mono (fun r h => ⟨fun c => (h c).2.2.2.2.2.2.2, sem_eq_zero_of_no_sems (by decide) r.2⟩)
    (Cert.ReferenceIdeal.Value.run (F := Ideal) m g)

/-- On inputs that pass the precondition every row's scale is in range. -/
theorem ranges {m : (ℓ : Loc Cert.KernelIdeal.nD Cert.KernelIdeal.τ Cert.KernelIdeal.sig) → Buf (Elt Ideal) ℓ} (hp : Cert.Pre_KernelIdeal_scales_fit m) (c : Dev Cert.KernelIdeal.nD) :
    Cert.Rows.AllFit (-117) 117 (Cert.KernelIdeal.Val.aX m c) ∧ Cert.Rows.AllFit (-117) 117 (Cert.KernelIdeal.Val.aK m c) ∧ Cert.Rows.AllFit (-50) 50 (Cert.KernelIdeal.Val.aV m c) := by
  obtain ⟨h1, h2, h3⟩ := hp c
  obtain ⟨f1, f2, f3⟩ := Cert.PreFit.fits h1 h2 h3
  have e0 : Cert.KernelIdeal.Val.aX m c = m ((c.tc : Thread Cert.KernelIdeal.nD Cert.KernelIdeal.τ).loc Cert.KernelIdeal.main_arg0) := Cert.KernelIdeal.Gen.V_main_arg0 m c
  have e1 : Cert.KernelIdeal.Val.aK m c = m ((c.tc : Thread Cert.KernelIdeal.nD Cert.KernelIdeal.τ).loc Cert.KernelIdeal.main_arg1) := Cert.KernelIdeal.Gen.V_main_arg1 m c
  have e2 : Cert.KernelIdeal.Val.aV m c = m ((c.tc : Thread Cert.KernelIdeal.nD Cert.KernelIdeal.τ).loc Cert.KernelIdeal.main_arg2) := Cert.KernelIdeal.Gen.V_main_arg2 m c
  rw [e0, e1, e2]
  exact ⟨fun b h k r => (f1 b h k r).mono (by norm_num) (by norm_num), fun b h k r => (f2 b h k r).mono (by norm_num) (by norm_num), f3⟩

/-- The kernel and the reference return the same seven arrays: the attention, and the codes and scales of the queries, the keys and the values. -/
theorem algebraic : Cert.algebraic_KernelIdeal_ReferenceIdeal_pre_scales_fit := by
  intro m g m' g' hp ha
  refine ⟨_, _, _, _, _, _, _, Cert.KernelIdeal.Val.run_value m g (fun c => (ranges hp c).1) (fun c => (ranges hp c).2.1) (fun c => (ranges hp c).2.2), ?_⟩
  refine (θ_run _ _ _).mono (fun r h c => ?_) (Cert.ReferenceIdeal.Value.run (F := Ideal) m' g')
  obtain ⟨r0, r1, r2, r3, r4, r5, r6, ra⟩ := h c
  obtain ⟨fX, fK, fV⟩ := ranges hp c
  have e0 : m' ((c.tc : Thread Cert.ReferenceIdeal.nD Cert.ReferenceIdeal.τ).loc Cert.ReferenceIdeal.main_arg0) = Cert.KernelIdeal.Val.aX m c := (ha c).1.trans (Cert.KernelIdeal.Gen.V_main_arg0 m c).symm
  have e1 : m' ((c.tc : Thread Cert.ReferenceIdeal.nD Cert.ReferenceIdeal.τ).loc Cert.ReferenceIdeal.main_arg1) = Cert.KernelIdeal.Val.aK m c := (ha c).2.1.trans (Cert.KernelIdeal.Gen.V_main_arg1 m c).symm
  have e2 : m' ((c.tc : Thread Cert.ReferenceIdeal.nD Cert.ReferenceIdeal.τ).loc Cert.ReferenceIdeal.main_arg2) = Cert.KernelIdeal.Val.aV m c := (ha c).2.2.trans (Cert.KernelIdeal.Gen.V_main_arg2 m c).symm
  refine ⟨(r0.trans (Cert.ReferenceIdeal.Read.val_main_v147_eq (StableHlo.launchContents m' c))).trans ?_, (r1.trans (Cert.ReferenceIdeal.Read.val_main_v149_eq (StableHlo.launchContents m' c))).trans ?_,
    (r2.trans (Cert.ReferenceIdeal.Read.val_main_v151_eq (StableHlo.launchContents m' c))).trans ?_, (r3.trans (Cert.ReferenceIdeal.Read.val_main_v153_eq (StableHlo.launchContents m' c))).trans ?_,
    (r4.trans (Cert.ReferenceIdeal.Read.val_main_v155_eq (StableHlo.launchContents m' c))).trans ?_, (r5.trans (Cert.ReferenceIdeal.Read.val_main_v157_eq (StableHlo.launchContents m' c))).trans ?_,
    (r6.trans (Cert.ReferenceIdeal.Read.val_main_v159_eq (StableHlo.launchContents m' c))).trans ?_, ra⟩
  · rw [StableHlo.launchContents_devRef, StableHlo.launchContents_devRef, StableHlo.launchContents_devRef, e0, e1, e2]
    exact Cert.RefVal.v147_arr fX fK fV
  · rw [StableHlo.launchContents_devRef, e0]; exact Cert.RefVal.v149_arr fX
  · rw [StableHlo.launchContents_devRef, e0]; exact Cert.RefVal.v151_arr fX
  · rw [StableHlo.launchContents_devRef, e1]; exact Cert.RefVal.v153_arr fK
  · rw [StableHlo.launchContents_devRef, e1]; exact Cert.RefVal.v155_arr fK
  · rw [StableHlo.launchContents_devRef, e2]; exact Cert.RefVal.v157_arr fV
  · rw [StableHlo.launchContents_devRef, e2]; exact Cert.RefVal.v159_arr fV

/-- All the claims. -/
theorem claim : Cert.Claim := ⟨Cert.Kernel.Gen.facts, Cert.KernelIdeal.Gen.facts, Cert.ReferenceIdeal.Gen.facts, Cert.Pre_scales_fit.Gen.facts,
  fun m g _ => Cert.Kernel.Run.frame m g,
  fun m g _ => Cert.KernelIdeal.Run.frame m g,
  fun m g _ => Cert.KernelIdeal.Run.frame m g,
  fun m g _ => frame_reference m g,
  fun m g _ => frame_reference m g,
  preserves, algebraic⟩

end Cert.Proof

end
